-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v213)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v213) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x2 : Shape := ⟨2, ![4096, 2]⟩
abbrev S4096x1 : Shape := ⟨2, ![4096, 1]⟩
abbrev S4096x3 : Shape := ⟨2, ![4096, 3]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel

variable [Facts]

def fn {F : FTy → Type} [FloatOps F] (main_arg0 : FVec F S4096x2 .f32) (main_arg1 : FVec F S4096x2 .f32) (main_arg2 : FVec F S4096x1 .f32) (main_arg3 : FVec F S4096x3 .f32) (main_arg4 : FVec F S4096x1 .f32) : IVec S_ 1 :=
  let main_v0 : FVec F S4096x2 .f32 := Host.absf main_arg1
  let main_cst : FVec F S_ .f32 := constant S_ .f32 0x7F800000#32
  let main_v1 : FVec F S4096x2 .f32 := broadcastInDim S4096x2 ![] bcast_S_S4096x2 main_cst
  let main_v2 : IVec S4096x2 1 := cmpf .olt main_v0 main_v1
  let main_c : IVec S_ 1 := constantI S_ 1 1#1
  let main_v3 : IVec S_ 1 := (fun x v => Host.reduce IntOp.andi x v reducesTo_S4096x2_S_d0_1 h_S_) main_v2 main_c
  main_v3
-- ==== Kernel.lean ====
abbrev S4096x2 : Shape := ⟨2, ![4096, 2]⟩
abbrev S4096x1 : Shape := ⟨2, ![4096, 1]⟩
abbrev S4096x3 : Shape := ⟨2, ![4096, 3]⟩
abbrev S4096 : Shape := ⟨1, ![4096]⟩
abbrev S_ : Shape := ⟨0, ![]⟩
abbrev S7 : Shape := ⟨1, ![7]⟩
abbrev S1x7 : Shape := ⟨2, ![1, 7]⟩
abbrev S4096x7 : Shape := ⟨2, ![4096, 7]⟩
abbrev S28672 : Shape := ⟨1, ![28672]⟩
abbrev S4096x8 : Shape := ⟨2, ![4096, 8]⟩
abbrev S28672x1 : Shape := ⟨2, ![28672, 1]⟩
abbrev S28672x8 : Shape := ⟨2, ![28672, 8]⟩
abbrev S28928x8 : Shape := ⟨2, ![28928, 8]⟩
abbrev S226x128x8 : Shape := ⟨3, ![226, 128, 8]⟩
abbrev S226x8x128 : Shape := ⟨3, ![226, 8, 128]⟩
abbrev S1x28672 : Shape := ⟨2, ![1, 28672]⟩
abbrev S257 : Shape := ⟨1, ![257]⟩
abbrev S257x1 : Shape := ⟨2, ![257, 1]⟩
abbrev S257x28672 : Shape := ⟨2, ![257, 28672]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S16x16x1 : Shape := ⟨3, ![16, 16, 1]⟩
abbrev S256 : Shape := ⟨1, ![256]⟩
abbrev S256x1 : Shape := ⟨2, ![256, 1]⟩
abbrev S256x6 : Shape := ⟨2, ![256, 6]⟩
abbrev S16x16x3x16x16 : Shape := ⟨5, ![16, 16, 3, 16, 16]⟩
abbrev S1x1x3x16x16 : Shape := ⟨5, ![1, 1, 3, 16, 16]⟩
abbrev S1x128 : Shape := ⟨2, ![1, 128]⟩
abbrev S1 : Shape := ⟨1, ![1]⟩
abbrev S3x256 : Shape := ⟨2, ![3, 256]⟩
abbrev S1x8x128 : Shape := ⟨3, ![1, 8, 128]⟩
abbrev S8x128 : Shape := ⟨2, ![8, 128]⟩
abbrev S6x128 : Shape := ⟨2, ![6, 128]⟩
abbrev S256x128 : Shape := ⟨2, ![256, 128]⟩
abbrev S3x128 : Shape := ⟨2, ![3, 128]⟩
abbrev S3x16x16x16x16 : Shape := ⟨5, ![3, 16, 16, 16, 16]⟩
abbrev S1x3x256x256 : Shape := ⟨4, ![1, 3, 256, 256]⟩

abbrev nBuf : Space → Nat
  | .hbm => 289
  | .vmem => 4
  | .smem => 2
  | _ => 0

abbrev hbmTy0_0 (i : Nat) : BufTy := match i % 128 with
  | 0 => ⟨S4096x2, .f32⟩
  | 1 => ⟨S4096x2, .f32⟩
  | 2 => ⟨S4096x1, .f32⟩
  | 3 => ⟨S4096x3, .f32⟩
  | 4 => ⟨S4096x1, .f32⟩
  | 5 => ⟨S4096x1, .f32⟩
  | 6 => ⟨S4096, .f32⟩
  | 7 => ⟨S_, .f32⟩
  | 8 => ⟨S4096, .f32⟩
  | 9 => ⟨S4096, .f32⟩
  | 10 => ⟨S_, .f32⟩
  | 11 => ⟨S4096, .f32⟩
  | 12 => ⟨S4096, .f32⟩
  | 13 => ⟨S_, .f32⟩
  | 14 => ⟨S4096, .f32⟩
  | 15 => ⟨S4096, .f32⟩
  | 16 => ⟨S4096x1, .f32⟩
  | 17 => ⟨S4096, .f32⟩
  | 18 => ⟨S_, .f32⟩
  | 19 => ⟨S4096, .f32⟩
  | 20 => ⟨S4096, .f32⟩
  | 21 => ⟨S_, .f32⟩
  | 22 => ⟨S4096, .f32⟩
  | 23 => ⟨S4096, .f32⟩
  | 24 => ⟨S_, .f32⟩
  | 25 => ⟨S4096, .f32⟩
  | 26 => ⟨S4096, .f32⟩
  | 27 => ⟨S4096x2, .f32⟩
  | 28 => ⟨S4096, .f32⟩
  | 29 => ⟨S4096, .f32⟩
  | 30 => ⟨S4096, .f32⟩
  | 31 => ⟨S_, .f32⟩
  | 32 => ⟨S4096, .f32⟩
  | 33 => ⟨S4096, .f32⟩
  | 34 => ⟨S_, .f32⟩
  | 35 => ⟨S4096, .f32⟩
  | 36 => ⟨S4096, .f32⟩
  | 37 => ⟨S_, .f32⟩
  | 38 => ⟨S4096, .f32⟩
  | 39 => ⟨S4096, .f32⟩
  | 40 => ⟨S4096, .f32⟩
  | 41 => ⟨S4096, .f32⟩
  | 42 => ⟨S4096x1, .f32⟩
  | 43 => ⟨S4096, .f32⟩
  | 44 => ⟨S4096, .f32⟩
  | 45 => ⟨S4096x1, .f32⟩
  | 46 => ⟨S4096, .f32⟩
  | 47 => ⟨S4096, .f32⟩
  | 48 => ⟨S4096, .f32⟩
  | 49 => ⟨S4096, .f32⟩
  | 50 => ⟨S4096, .f32⟩
  | 51 => ⟨S4096, .f32⟩
  | 52 => ⟨S4096, .f32⟩
  | 53 => ⟨S4096, .f32⟩
  | 54 => ⟨S4096, .f32⟩
  | 55 => ⟨S4096, .f32⟩
  | 56 => ⟨S4096, .f32⟩
  | 57 => ⟨S4096, .f32⟩
  | 58 => ⟨S4096, .f32⟩
  | 59 => ⟨S4096, .f32⟩
  | 60 => ⟨S4096, .f32⟩
  | 61 => ⟨S4096, .f32⟩
  | 62 => ⟨S4096, .f32⟩
  | 63 => ⟨S4096, .f32⟩
  | 64 => ⟨S_, .f32⟩
  | 65 => ⟨S4096, .f32⟩
  | 66 => ⟨S4096, .f32⟩
  | 67 => ⟨S_, .f32⟩
  | 68 => ⟨S4096, .f32⟩
  | 69 => ⟨S4096, .f32⟩
  | 70 => ⟨S4096, .f32⟩
  | 71 => ⟨S4096, .f32⟩
  | 72 => ⟨S4096, .f32⟩
  | 73 => ⟨S4096, .f32⟩
  | 74 => ⟨S4096x3, .f32⟩
  | 75 => ⟨S4096x3, .f32⟩
  | 76 => ⟨S_, .f32⟩
  | 77 => ⟨S4096, .f32⟩
  | 78 => ⟨S4096, .f32⟩
  | 79 => ⟨S4096, .i32⟩
  | 80 => ⟨S_, .i32⟩
  | 81 => ⟨S_, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S_, .f32⟩
  | 89 => ⟨S4096, .f32⟩
  | 90 => ⟨S4096, .f32⟩
  | 91 => ⟨S4096, .i32⟩
  | 92 => ⟨S_, .i32⟩
  | 93 => ⟨S_, .i32⟩
  | 94 => ⟨S_, .i32⟩
  | 95 => ⟨S4096, .i32⟩
  | 96 => ⟨S4096, .i32⟩
  | 97 => ⟨S_, .i32⟩
  | 98 => ⟨S4096, .i32⟩
  | 99 => ⟨S4096, .i32⟩
  | 100 => ⟨S4096, .i32⟩
  | 101 => ⟨S7, .i32⟩
  | 102 => ⟨S_, .i32⟩
  | 103 => ⟨S7, .i32⟩
  | 104 => ⟨S7, .i32⟩
  | 105 => ⟨S4096x1, .i32⟩
  | 106 => ⟨S1x7, .i32⟩
  | 107 => ⟨S4096x7, .i32⟩
  | 108 => ⟨S4096x7, .i32⟩
  | 109 => ⟨S4096x7, .i32⟩
  | 110 => ⟨S_, .i32⟩
  | 111 => ⟨S4096x7, .i32⟩
  | 112 => ⟨S4096x7, .i32⟩
  | 113 => ⟨S4096x1, .i32⟩
  | 114 => ⟨S4096x7, .i32⟩
  | 115 => ⟨S4096x7, .i32⟩
  | 116 => ⟨S_, .f32⟩
  | 117 => ⟨S4096, .f32⟩
  | 118 => ⟨S4096, .f32⟩
  | 119 => ⟨S4096, .f32⟩
  | 120 => ⟨S7, .i32⟩
  | 121 => ⟨S_, .i32⟩
  | 122 => ⟨S7, .i32⟩
  | 123 => ⟨S7, .i32⟩
  | 124 => ⟨S_, .i32⟩
  | 125 => ⟨S7, .i32⟩
  | 126 => ⟨S7, .i32⟩
  | 127 => ⟨S7, .f32⟩
  | _ => ⟨S4096x2, .f32⟩

abbrev hbmTy0_1 (i : Nat) : BufTy := match i % 128 with
  | 0 => ⟨S_, .i32⟩
  | 1 => ⟨S4096x7, .i32⟩
  | 2 => ⟨S4096x7, .i1⟩
  | 3 => ⟨S_, .i32⟩
  | 4 => ⟨S4096x7, .i32⟩
  | 5 => ⟨S4096x7, .i1⟩
  | 6 => ⟨S4096x7, .i1⟩
  | 7 => ⟨S4096x1, .f32⟩
  | 8 => ⟨S1x7, .f32⟩
  | 9 => ⟨S4096x7, .f32⟩
  | 10 => ⟨S4096x7, .f32⟩
  | 11 => ⟨S4096x7, .i1⟩
  | 12 => ⟨S4096x7, .i1⟩
  | 13 => ⟨S_, .i32⟩
  | 14 => ⟨S4096x7, .i32⟩
  | 15 => ⟨S4096x7, .i32⟩
  | 16 => ⟨S4096x1, .i32⟩
  | 17 => ⟨S4096x7, .i32⟩
  | 18 => ⟨S4096x7, .i32⟩
  | 19 => ⟨S4096x1, .i32⟩
  | 20 => ⟨S_, .i32⟩
  | 21 => ⟨S4096x1, .i32⟩
  | 22 => ⟨S4096x1, .i32⟩
  | 23 => ⟨S4096x7, .i32⟩
  | 24 => ⟨S4096x7, .i32⟩
  | 25 => ⟨S28672, .i32⟩
  | 26 => ⟨S28672, .i32⟩
  | 27 => ⟨S_, .i32⟩
  | 28 => ⟨S28672, .i32⟩
  | 29 => ⟨S28672, .i32⟩
  | 30 => ⟨S_, .i32⟩
  | 31 => ⟨S28672, .i32⟩
  | 32 => ⟨S28672, .i32⟩
  | 33 => ⟨S4096x1, .f32⟩
  | 34 => ⟨S4096, .f32⟩
  | 35 => ⟨S4096x1, .f32⟩
  | 36 => ⟨S4096, .f32⟩
  | 37 => ⟨S4096x1, .f32⟩
  | 38 => ⟨S4096, .f32⟩
  | 39 => ⟨S4096x1, .f32⟩
  | 40 => ⟨S4096x1, .f32⟩
  | 41 => ⟨S4096x1, .f32⟩
  | 42 => ⟨S4096x1, .f32⟩
  | 43 => ⟨S4096x1, .f32⟩
  | 44 => ⟨S4096x1, .f32⟩
  | 45 => ⟨S4096x1, .f32⟩
  | 46 => ⟨S4096x1, .f32⟩
  | 47 => ⟨S4096x8, .f32⟩
  | 48 => ⟨S_, .i32⟩
  | 49 => ⟨S28672, .i32⟩
  | 50 => ⟨S28672, .i1⟩
  | 51 => ⟨S_, .i32⟩
  | 52 => ⟨S28672, .i32⟩
  | 53 => ⟨S28672, .i32⟩
  | 54 => ⟨S28672, .i32⟩
  | 55 => ⟨S28672x1, .i32⟩
  | 56 => ⟨S28672x8, .f32⟩
  | 57 => ⟨S_, .i32⟩
  | 58 => ⟨S_, .f32⟩
  | 59 => ⟨S28928x8, .f32⟩
  | 60 => ⟨S226x128x8, .f32⟩
  | 61 => ⟨S226x8x128, .f32⟩
  | 62 => ⟨S1x28672, .i32⟩
  | 63 => ⟨S257, .i32⟩
  | 64 => ⟨S257x1, .i32⟩
  | 65 => ⟨S257x28672, .i32⟩
  | 66 => ⟨S257x28672, .i32⟩
  | 67 => ⟨S257x28672, .i1⟩
  | 68 => ⟨S257x28672, .i32⟩
  | 69 => ⟨S_, .i32⟩
  | 70 => ⟨S257, .i32⟩
  | 71 => ⟨S16, .i32⟩
  | 72 => ⟨S_, .i32⟩
  | 73 => ⟨S16, .i32⟩
  | 74 => ⟨S16, .i32⟩
  | 75 => ⟨S_, .i32⟩
  | 76 => ⟨S_, .i32⟩
  | 77 => ⟨S_, .i32⟩
  | 78 => ⟨S16, .i32⟩
  | 79 => ⟨S16, .i32⟩
  | 80 => ⟨S_, .i32⟩
  | 81 => ⟨S16, .i32⟩
  | 82 => ⟨S16, .i32⟩
  | 83 => ⟨S_, .i32⟩
  | 84 => ⟨S16, .i32⟩
  | 85 => ⟨S16, .i32⟩
  | 86 => ⟨S_, .i32⟩
  | 87 => ⟨S_, .i32⟩
  | 88 => ⟨S_, .i32⟩
  | 89 => ⟨S16, .i32⟩
  | 90 => ⟨S16, .i32⟩
  | 91 => ⟨S_, .i32⟩
  | 92 => ⟨S16, .i32⟩
  | 93 => ⟨S16, .i32⟩
  | 94 => ⟨S16x1, .i32⟩
  | 95 => ⟨S_, .i32⟩
  | 96 => ⟨S16x1, .i32⟩
  | 97 => ⟨S16x1, .i32⟩
  | 98 => ⟨S1x16, .i32⟩
  | 99 => ⟨S16x16, .i32⟩
  | 100 => ⟨S16x16, .i32⟩
  | 101 => ⟨S16x16, .i32⟩
  | 102 => ⟨S_, .i32⟩
  | 103 => ⟨S16x16, .i32⟩
  | 104 => ⟨S16x16, .i1⟩
  | 105 => ⟨S_, .i32⟩
  | 106 => ⟨S16x16, .i32⟩
  | 107 => ⟨S16x16, .i32⟩
  | 108 => ⟨S16x16, .i32⟩
  | 109 => ⟨S16x16x1, .i32⟩
  | 110 => ⟨S16x16, .i32⟩
  | 111 => ⟨S16x1, .i32⟩
  | 112 => ⟨S_, .i32⟩
  | 113 => ⟨S16x1, .i32⟩
  | 114 => ⟨S16x1, .i32⟩
  | 115 => ⟨S1x16, .i32⟩
  | 116 => ⟨S16x16, .i32⟩
  | 117 => ⟨S16x16, .i32⟩
  | 118 => ⟨S16x16, .i32⟩
  | 119 => ⟨S_, .i32⟩
  | 120 => ⟨S16x16, .i32⟩
  | 121 => ⟨S16x16, .i32⟩
  | 122 => ⟨S_, .i32⟩
  | 123 => ⟨S16x16, .i32⟩
  | 124 => ⟨S16x16, .i1⟩
  | 125 => ⟨S_, .i32⟩
  | 126 => ⟨S16x16, .i32⟩
  | 127 => ⟨S16x16, .i32⟩
  | _ => ⟨S4096x2, .f32⟩

abbrev hbmTy0_2 (i : Nat) : BufTy := match i % 128 with
  | 0 => ⟨S16x16, .i32⟩
  | 1 => ⟨S16x16x1, .i32⟩
  | 2 => ⟨S16x16, .i32⟩
  | 3 => ⟨S256, .i32⟩
  | 4 => ⟨S_, .i32⟩
  | 5 => ⟨S256, .i32⟩
  | 6 => ⟨S256, .i32⟩
  | 7 => ⟨S256, .f32⟩
  | 8 => ⟨S_, .f32⟩
  | 9 => ⟨S256, .f32⟩
  | 10 => ⟨S256, .f32⟩
  | 11 => ⟨S_, .i32⟩
  | 12 => ⟨S256, .i32⟩
  | 13 => ⟨S256, .i32⟩
  | 14 => ⟨S256, .f32⟩
  | 15 => ⟨S_, .f32⟩
  | 16 => ⟨S256, .f32⟩
  | 17 => ⟨S256, .f32⟩
  | 18 => ⟨S256, .f32⟩
  | 19 => ⟨S256, .f32⟩
  | 20 => ⟨S256, .f32⟩
  | 21 => ⟨S_, .f32⟩
  | 22 => ⟨S256, .f32⟩
  | 23 => ⟨S256x1, .f32⟩
  | 24 => ⟨S256x1, .f32⟩
  | 25 => ⟨S256x1, .f32⟩
  | 26 => ⟨S256x1, .f32⟩
  | 27 => ⟨S256x1, .f32⟩
  | 28 => ⟨S256x1, .f32⟩
  | 29 => ⟨S256x6, .f32⟩
  | 30 => ⟨S16x16x3x16x16, .f32⟩
  | 31 => ⟨S3x16x16x16x16, .f32⟩
  | 32 => ⟨S1x3x256x256, .f32⟩
  | _ => ⟨S4096x2, .f32⟩

abbrev hbmTy (i : Nat) : BufTy := match i / 128 with
  | 0 => hbmTy0_0 i
  | 1 => hbmTy0_1 i
  | 2 => hbmTy0_2 i
  | _ => ⟨S4096x2, .f32⟩

abbrev bufTy : (tb : Table) → Fin (tcTables nBuf tb) → BufTy
  | .hbm, ⟨i, _⟩ => hbmTy i
  | .local _ .vmem, ⟨0, _⟩ => ⟨S256x6, .f32⟩
  | .local _ .vmem, ⟨1, _⟩ => ⟨S226x8x128, .f32⟩
  | .local _ .vmem, ⟨2, _⟩ => ⟨S1x1x3x16x16, .f32⟩
  | .local _ .vmem, ⟨3, _⟩ => ⟨S1x1x3x16x16, .f32⟩
  | .local _ .smem, ⟨0, _⟩ => ⟨S256, .i32⟩
  | .local _ .smem, ⟨1, _⟩ => ⟨S256, .i32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_10 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c : Ref sig .tc := ⟨.hbm, 80, rfl⟩
abbrev main_c_11 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_c_14 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_16 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_18 : Ref sig .tc := ⟨.hbm, 121, rfl⟩
abbrev main_v86 : Ref sig .tc := ⟨.hbm, 122, rfl⟩
abbrev main_v87 : Ref sig .tc := ⟨.hbm, 123, rfl⟩
abbrev main_c_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_20 : Ref sig .tc := ⟨.hbm, 128, rfl⟩
abbrev main_v91 : Ref sig .tc := ⟨.hbm, 129, rfl⟩
abbrev main_v92 : Ref sig .tc := ⟨.hbm, 130, rfl⟩
abbrev main_c_21 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_22 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_23 : Ref sig .tc := ⟨.hbm, 148, rfl⟩
abbrev main_v108 : Ref sig .tc := ⟨.hbm, 149, rfl⟩
abbrev main_v109 : Ref sig .tc := ⟨.hbm, 150, rfl⟩
abbrev main_call2_v0 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_24 : Ref sig .tc := ⟨.hbm, 155, rfl⟩
abbrev main_v113 : Ref sig .tc := ⟨.hbm, 156, rfl⟩
abbrev main_v114 : Ref sig .tc := ⟨.hbm, 157, rfl⟩
abbrev main_c_25 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_c_26 : Ref sig .tc := ⟨.hbm, 176, rfl⟩
abbrev main_v132 : Ref sig .tc := ⟨.hbm, 177, rfl⟩
abbrev main_v133 : Ref sig .tc := ⟨.hbm, 178, rfl⟩
abbrev main_c_27 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_c_28 : Ref sig .tc := ⟨.hbm, 185, rfl⟩
abbrev main_call4_v0 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_c_29 : Ref sig .tc := ⟨.hbm, 197, rfl⟩
abbrev main_v149 : Ref sig .tc := ⟨.hbm, 198, rfl⟩
abbrev main_v150 : Ref sig .tc := ⟨.hbm, 199, rfl⟩
abbrev main_c_30 : Ref sig .tc := ⟨.hbm, 200, rfl⟩
abbrev main_v151 : Ref sig .tc := ⟨.hbm, 201, rfl⟩
abbrev main_v152 : Ref sig .tc := ⟨.hbm, 202, rfl⟩
abbrev main_c_31 : Ref sig .tc := ⟨.hbm, 203, rfl⟩
abbrev main_c_32 : Ref sig .tc := ⟨.hbm, 204, rfl⟩
abbrev main_call5_v0 : Ref sig .tc := ⟨.hbm, 205, rfl⟩
abbrev main_call5_v1 : Ref sig .tc := ⟨.hbm, 206, rfl⟩
abbrev main_call5_v2 : Ref sig .tc := ⟨.hbm, 207, rfl⟩
abbrev main_call5_v3 : Ref sig .tc := ⟨.hbm, 208, rfl⟩
abbrev main_call5_v4 : Ref sig .tc := ⟨.hbm, 209, rfl⟩
abbrev main_v153 : Ref sig .tc := ⟨.hbm, 210, rfl⟩
abbrev main_c_33 : Ref sig .tc := ⟨.hbm, 211, rfl⟩
abbrev main_v154 : Ref sig .tc := ⟨.hbm, 212, rfl⟩
abbrev main_v155 : Ref sig .tc := ⟨.hbm, 213, rfl⟩
abbrev main_c_34 : Ref sig .tc := ⟨.hbm, 214, rfl⟩
abbrev main_c_35 : Ref sig .tc := ⟨.hbm, 215, rfl⟩
abbrev main_call6_v0 : Ref sig .tc := ⟨.hbm, 216, rfl⟩
abbrev main_call6_v1 : Ref sig .tc := ⟨.hbm, 217, rfl⟩
abbrev main_call6_v2 : Ref sig .tc := ⟨.hbm, 218, rfl⟩
abbrev main_call6_v3 : Ref sig .tc := ⟨.hbm, 219, rfl⟩
abbrev main_call6_v4 : Ref sig .tc := ⟨.hbm, 220, rfl⟩
abbrev main_v156 : Ref sig .tc := ⟨.hbm, 221, rfl⟩
abbrev main_v157 : Ref sig .tc := ⟨.hbm, 222, rfl⟩
abbrev main_c_36 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_c_37 : Ref sig .tc := ⟨.hbm, 230, rfl⟩
abbrev main_v164 : Ref sig .tc := ⟨.hbm, 231, rfl⟩
abbrev main_v165 : Ref sig .tc := ⟨.hbm, 232, rfl⟩
abbrev main_c_38 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v172 : Ref sig .tc := ⟨.hbm, 239, rfl⟩
abbrev main_c_39 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_c_40 : Ref sig .tc := ⟨.hbm, 247, rfl⟩
abbrev main_v179 : Ref sig .tc := ⟨.hbm, 248, rfl⟩
abbrev main_v180 : Ref sig .tc := ⟨.hbm, 249, rfl⟩
abbrev main_c_41 : Ref sig .tc := ⟨.hbm, 250, rfl⟩
abbrev main_v181 : Ref sig .tc := ⟨.hbm, 251, rfl⟩
abbrev main_v182 : Ref sig .tc := ⟨.hbm, 252, rfl⟩
abbrev main_c_42 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v189 : Ref sig .tc := ⟨.hbm, 259, rfl⟩
abbrev main_c_43 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_cst_44 : Ref sig .tc := ⟨.hbm, 264, rfl⟩
abbrev main_v193 : Ref sig .tc := ⟨.hbm, 265, rfl⟩
abbrev main_v194 : Ref sig .tc := ⟨.hbm, 266, rfl⟩
abbrev main_c_45 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_cst_46 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_cst_47 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v171 : Ref sig .tc := ⟨.smem, 0, rfl⟩
abbrev main_v188 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![16, 16], ![false, false]⟩

abbrev pre0 : Pipeline.Prefetch sig := ⟨2, ![main_v171.idx, main_v188.idx], fun | 0 => main_v171.names | 1 => main_v188.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v11 : Index := Scalar.indexCast v1
  ![v11.toNat]
@[reducible] def k0_t1_loop (v12 : BitVec 32) (v14 : BitVec 32) : Scf.Loop 32 :=
  let c0_i32_18 : BitVec 32 := 0#32
  let c0_i32 : BitVec 32 := 0#32
  let v16 : BitVec 1 := Scalar.cmpi .sgt v12 c0_i32
  let v17 : BitVec 32 := Scalar.extui v16
  let c0_i32_4 : BitVec 32 := 0#32
  let v18 : BitVec 1 := Scalar.cmpi .slt v12 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v12 c128_i32
  let c0_i32_7 : BitVec 32 := 0#32
  let v28 : BitVec 1 := Scalar.cmpi .ne v27 c0_i32_7
  let v29 : BitVec 1 := Scalar.andi v26 v28
  let v15 : BitVec 32 := Scalar.divsi v12 c128_i32
  let c1_i32 : BitVec 32 := 1#32
  let v30 : BitVec 32 := Scalar.subi v15 c1_i32
  let v31 : BitVec 32 := Scalar.select v29 v30 v15
  let c128_i32_8 : BitVec 32 := 128#32
  let v32 : BitVec 32 := Scalar.muli v31 c128_i32_8
  let v33 : BitVec 32 := Scalar.subi v14 v32
  let c256_i32 : BitVec 32 := 256#32
  let v34 : BitVec 32 := Scalar.addi v33 c256_i32
  let c1_i32_9 : BitVec 32 := 1#32
  let v35 : BitVec 32 := Scalar.subi v34 c1_i32_9
  let c0_i32_11 : BitVec 32 := 0#32
  let v37 : BitVec 1 := Scalar.cmpi .sgt v35 c0_i32_11
  let v38 : BitVec 32 := Scalar.extui v37
  let c0_i32_12 : BitVec 32 := 0#32
  let v39 : BitVec 1 := Scalar.cmpi .slt v35 c0_i32_12
  let v40 : BitVec 32 := Scalar.extui v39
  let v41 : BitVec 32 := Scalar.subi v38 v40
  let c256_i32_10 : BitVec 32 := 256#32
  let c0_i32_13 : BitVec 32 := 0#32
  let v42 : BitVec 1 := Scalar.cmpi .sgt c256_i32_10 c0_i32_13
  let v43 : BitVec 32 := Scalar.extui v42
  let c0_i32_14 : BitVec 32 := 0#32
  let v44 : BitVec 1 := Scalar.cmpi .slt c256_i32_10 c0_i32_14
  let v45 : BitVec 32 := Scalar.extui v44
  let v46 : BitVec 32 := Scalar.subi v43 v45
  let v47 : BitVec 1 := Scalar.cmpi .ne v41 v46
  let v48 : BitVec 32 := Scalar.remsi v35 c256_i32_10
  let c0_i32_15 : BitVec 32 := 0#32
  let v49 : BitVec 1 := Scalar.cmpi .ne v48 c0_i32_15
  let v50 : BitVec 1 := Scalar.andi v47 v49
  let v36 : BitVec 32 := Scalar.divsi v35 c256_i32_10
  let c1_i32_16 : BitVec 32 := 1#32
  let v51 : BitVec 32 := Scalar.subi v36 c1_i32_16
  let v52 : BitVec 32 := Scalar.select v50 v51 v36
  let v54 : BitVec 32 := Scalar.subi v52 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_20 : BitVec 32 := 1#32
  ⟨c0_i32_18, v58, c1_i32_20⟩

def k0_off2 (v12 : BitVec 32) (v14 : BitVec 32) (k0_t1 : Fin (k0_t1_loop v12 v14).trips) : Fin 3 → Nat :=
  let c0_i32 : BitVec 32 := 0#32
  let v16 : BitVec 1 := Scalar.cmpi .sgt v12 c0_i32
  let v17 : BitVec 32 := Scalar.extui v16
  let c0_i32_4 : BitVec 32 := 0#32
  let v18 : BitVec 1 := Scalar.cmpi .slt v12 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v12 c128_i32
  let c0_i32_7 : BitVec 32 := 0#32
  let v28 : BitVec 1 := Scalar.cmpi .ne v27 c0_i32_7
  let v29 : BitVec 1 := Scalar.andi v26 v28
  let v15 : BitVec 32 := Scalar.divsi v12 c128_i32
  let c1_i32 : BitVec 32 := 1#32
  let v30 : BitVec 32 := Scalar.subi v15 c1_i32
  let v31 : BitVec 32 := Scalar.select v29 v30 v15
  let c2_i32 : BitVec 32 := 2#32
  let c0_i32_18 : BitVec 32 := 0#32
  let c1_i32_20 : BitVec 32 := 1#32
  let arg7 : BitVec 32 := Scf.iv c0_i32_18 c1_i32_20 k0_t1
  let v68 : BitVec 32 := Scalar.muli c2_i32 arg7
  let v69 : BitVec 32 := Scalar.addi v31 v68
  let v70 : Index := Scalar.indexCast v69
  let c0_29 : Index := 0#32
  let c0_30 : Index := 0#32
  ![v70.toNat, 0, 0]
def k0_off3 (v12 : BitVec 32) (v14 : BitVec 32) (k0_t1 : Fin (k0_t1_loop v12 v14).trips) : Fin 3 → Nat :=
  let c0_i32 : BitVec 32 := 0#32
  let v16 : BitVec 1 := Scalar.cmpi .sgt v12 c0_i32
  let v17 : BitVec 32 := Scalar.extui v16
  let c0_i32_4 : BitVec 32 := 0#32
  let v18 : BitVec 1 := Scalar.cmpi .slt v12 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v12 c128_i32
  let c0_i32_7 : BitVec 32 := 0#32
  let v28 : BitVec 1 := Scalar.cmpi .ne v27 c0_i32_7
  let v29 : BitVec 1 := Scalar.andi v26 v28
  let v15 : BitVec 32 := Scalar.divsi v12 c128_i32
  let c1_i32 : BitVec 32 := 1#32
  let v30 : BitVec 32 := Scalar.subi v15 c1_i32
  let v31 : BitVec 32 := Scalar.select v29 v30 v15
  let c2_i32 : BitVec 32 := 2#32
  let c0_i32_18 : BitVec 32 := 0#32
  let c1_i32_20 : BitVec 32 := 1#32
  let arg7 : BitVec 32 := Scf.iv c0_i32_18 c1_i32_20 k0_t1
  let v68 : BitVec 32 := Scalar.muli c2_i32 arg7
  let v69 : BitVec 32 := Scalar.addi v31 v68
  let c1_i32_44 : BitVec 32 := 1#32
  let v132 : BitVec 32 := Scalar.addi v69 c1_i32_44
  let v133 : Index := Scalar.indexCast v132
  let c0_45 : Index := 0#32
  let c0_46 : Index := 0#32
  ![v133.toNat, 0, 0]
@[reducible] def k0_t2_loop (v12 : BitVec 32) (v14 : BitVec 32) : Scf.Loop 32 :=
  let c0_i32_18 : BitVec 32 := 0#32
  let c0_i32 : BitVec 32 := 0#32
  let v16 : BitVec 1 := Scalar.cmpi .sgt v12 c0_i32
  let v17 : BitVec 32 := Scalar.extui v16
  let c0_i32_4 : BitVec 32 := 0#32
  let v18 : BitVec 1 := Scalar.cmpi .slt v12 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v12 c128_i32
  let c0_i32_7 : BitVec 32 := 0#32
  let v28 : BitVec 1 := Scalar.cmpi .ne v27 c0_i32_7
  let v29 : BitVec 1 := Scalar.andi v26 v28
  let v15 : BitVec 32 := Scalar.divsi v12 c128_i32
  let c1_i32 : BitVec 32 := 1#32
  let v30 : BitVec 32 := Scalar.subi v15 c1_i32
  let v31 : BitVec 32 := Scalar.select v29 v30 v15
  let c128_i32_8 : BitVec 32 := 128#32
  let v32 : BitVec 32 := Scalar.muli v31 c128_i32_8
  let v33 : BitVec 32 := Scalar.subi v14 v32
  let c256_i32 : BitVec 32 := 256#32
  let v34 : BitVec 32 := Scalar.addi v33 c256_i32
  let c1_i32_9 : BitVec 32 := 1#32
  let v35 : BitVec 32 := Scalar.subi v34 c1_i32_9
  let c0_i32_11 : BitVec 32 := 0#32
  let v37 : BitVec 1 := Scalar.cmpi .sgt v35 c0_i32_11
  let v38 : BitVec 32 := Scalar.extui v37
  let c0_i32_12 : BitVec 32 := 0#32
  let v39 : BitVec 1 := Scalar.cmpi .slt v35 c0_i32_12
  let v40 : BitVec 32 := Scalar.extui v39
  let v41 : BitVec 32 := Scalar.subi v38 v40
  let c256_i32_10 : BitVec 32 := 256#32
  let c0_i32_13 : BitVec 32 := 0#32
  let v42 : BitVec 1 := Scalar.cmpi .sgt c256_i32_10 c0_i32_13
  let v43 : BitVec 32 := Scalar.extui v42
  let c0_i32_14 : BitVec 32 := 0#32
  let v44 : BitVec 1 := Scalar.cmpi .slt c256_i32_10 c0_i32_14
  let v45 : BitVec 32 := Scalar.extui v44
  let v46 : BitVec 32 := Scalar.subi v43 v45
  let v47 : BitVec 1 := Scalar.cmpi .ne v41 v46
  let v48 : BitVec 32 := Scalar.remsi v35 c256_i32_10
  let c0_i32_15 : BitVec 32 := 0#32
  let v49 : BitVec 1 := Scalar.cmpi .ne v48 c0_i32_15
  let v50 : BitVec 1 := Scalar.andi v47 v49
  let v36 : BitVec 32 := Scalar.divsi v35 c256_i32_10
  let c1_i32_16 : BitVec 32 := 1#32
  let v51 : BitVec 32 := Scalar.subi v36 c1_i32_16
  let v52 : BitVec 32 := Scalar.select v50 v51 v36
  let v54 : BitVec 32 := Scalar.subi v52 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let v55 : BitVec 32 := Scalar.addi c0_i32_18 v54
  let c1_i32_21 : BitVec 32 := 1#32
  ⟨v58, v55, c1_i32_21⟩
def k0_off4 (v12 : BitVec 32) (v14 : BitVec 32) (k0_t2 : Fin (k0_t2_loop v12 v14).trips) : Fin 3 → Nat :=
  let c0_i32 : BitVec 32 := 0#32
  let v16 : BitVec 1 := Scalar.cmpi .sgt v12 c0_i32
  let v17 : BitVec 32 := Scalar.extui v16
  let c0_i32_4 : BitVec 32 := 0#32
  let v18 : BitVec 1 := Scalar.cmpi .slt v12 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v12 c128_i32
  let c0_i32_7 : BitVec 32 := 0#32
  let v28 : BitVec 1 := Scalar.cmpi .ne v27 c0_i32_7
  let v29 : BitVec 1 := Scalar.andi v26 v28
  let v15 : BitVec 32 := Scalar.divsi v12 c128_i32
  let c1_i32 : BitVec 32 := 1#32
  let v30 : BitVec 32 := Scalar.subi v15 c1_i32
  let v31 : BitVec 32 := Scalar.select v29 v30 v15
  let c2_i32 : BitVec 32 := 2#32
  let c0_i32_18 : BitVec 32 := 0#32
  let c128_i32_8 : BitVec 32 := 128#32
  let v32 : BitVec 32 := Scalar.muli v31 c128_i32_8
  let v33 : BitVec 32 := Scalar.subi v14 v32
  let c256_i32 : BitVec 32 := 256#32
  let v34 : BitVec 32 := Scalar.addi v33 c256_i32
  let c1_i32_9 : BitVec 32 := 1#32
  let v35 : BitVec 32 := Scalar.subi v34 c1_i32_9
  let c0_i32_11 : BitVec 32 := 0#32
  let v37 : BitVec 1 := Scalar.cmpi .sgt v35 c0_i32_11
  let v38 : BitVec 32 := Scalar.extui v37
  let c0_i32_12 : BitVec 32 := 0#32
  let v39 : BitVec 1 := Scalar.cmpi .slt v35 c0_i32_12
  let v40 : BitVec 32 := Scalar.extui v39
  let v41 : BitVec 32 := Scalar.subi v38 v40
  let c256_i32_10 : BitVec 32 := 256#32
  let c0_i32_13 : BitVec 32 := 0#32
  let v42 : BitVec 1 := Scalar.cmpi .sgt c256_i32_10 c0_i32_13
  let v43 : BitVec 32 := Scalar.extui v42
  let c0_i32_14 : BitVec 32 := 0#32
  let v44 : BitVec 1 := Scalar.cmpi .slt c256_i32_10 c0_i32_14
  let v45 : BitVec 32 := Scalar.extui v44
  let v46 : BitVec 32 := Scalar.subi v43 v45
  let v47 : BitVec 1 := Scalar.cmpi .ne v41 v46
  let v48 : BitVec 32 := Scalar.remsi v35 c256_i32_10
  let c0_i32_15 : BitVec 32 := 0#32
  let v49 : BitVec 1 := Scalar.cmpi .ne v48 c0_i32_15
  let v50 : BitVec 1 := Scalar.andi v47 v49
  let v36 : BitVec 32 := Scalar.divsi v35 c256_i32_10
  let c1_i32_16 : BitVec 32 := 1#32
  let v51 : BitVec 32 := Scalar.subi v36 c1_i32_16
  let v52 : BitVec 32 := Scalar.select v50 v51 v36
  let v54 : BitVec 32 := Scalar.subi v52 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg7 : BitVec 32 := Scf.iv v58 c1_i32_21 k0_t2
  let v68 : BitVec 32 := Scalar.muli c2_i32 arg7
  let v69 : BitVec 32 := Scalar.addi v31 v68
  let v70 : Index := Scalar.indexCast v69
  let c0_29 : Index := 0#32
  let c0_30 : Index := 0#32
  ![v70.toNat, 0, 0]
def k0_off5 (v12 : BitVec 32) (v14 : BitVec 32) (k0_t2 : Fin (k0_t2_loop v12 v14).trips) : Fin 3 → Nat :=
  let c0_i32 : BitVec 32 := 0#32
  let v16 : BitVec 1 := Scalar.cmpi .sgt v12 c0_i32
  let v17 : BitVec 32 := Scalar.extui v16
  let c0_i32_4 : BitVec 32 := 0#32
  let v18 : BitVec 1 := Scalar.cmpi .slt v12 c0_i32_4
  let v19 : BitVec 32 := Scalar.extui v18
  let v20 : BitVec 32 := Scalar.subi v17 v19
  let c128_i32 : BitVec 32 := 128#32
  let c0_i32_5 : BitVec 32 := 0#32
  let v21 : BitVec 1 := Scalar.cmpi .sgt c128_i32 c0_i32_5
  let v22 : BitVec 32 := Scalar.extui v21
  let c0_i32_6 : BitVec 32 := 0#32
  let v23 : BitVec 1 := Scalar.cmpi .slt c128_i32 c0_i32_6
  let v24 : BitVec 32 := Scalar.extui v23
  let v25 : BitVec 32 := Scalar.subi v22 v24
  let v26 : BitVec 1 := Scalar.cmpi .ne v20 v25
  let v27 : BitVec 32 := Scalar.remsi v12 c128_i32
  let c0_i32_7 : BitVec 32 := 0#32
  let v28 : BitVec 1 := Scalar.cmpi .ne v27 c0_i32_7
  let v29 : BitVec 1 := Scalar.andi v26 v28
  let v15 : BitVec 32 := Scalar.divsi v12 c128_i32
  let c1_i32 : BitVec 32 := 1#32
  let v30 : BitVec 32 := Scalar.subi v15 c1_i32
  let v31 : BitVec 32 := Scalar.select v29 v30 v15
  let c2_i32 : BitVec 32 := 2#32
  let c0_i32_18 : BitVec 32 := 0#32
  let c128_i32_8 : BitVec 32 := 128#32
  let v32 : BitVec 32 := Scalar.muli v31 c128_i32_8
  let v33 : BitVec 32 := Scalar.subi v14 v32
  let c256_i32 : BitVec 32 := 256#32
  let v34 : BitVec 32 := Scalar.addi v33 c256_i32
  let c1_i32_9 : BitVec 32 := 1#32
  let v35 : BitVec 32 := Scalar.subi v34 c1_i32_9
  let c0_i32_11 : BitVec 32 := 0#32
  let v37 : BitVec 1 := Scalar.cmpi .sgt v35 c0_i32_11
  let v38 : BitVec 32 := Scalar.extui v37
  let c0_i32_12 : BitVec 32 := 0#32
  let v39 : BitVec 1 := Scalar.cmpi .slt v35 c0_i32_12
  let v40 : BitVec 32 := Scalar.extui v39
  let v41 : BitVec 32 := Scalar.subi v38 v40
  let c256_i32_10 : BitVec 32 := 256#32
  let c0_i32_13 : BitVec 32 := 0#32
  let v42 : BitVec 1 := Scalar.cmpi .sgt c256_i32_10 c0_i32_13
  let v43 : BitVec 32 := Scalar.extui v42
  let c0_i32_14 : BitVec 32 := 0#32
  let v44 : BitVec 1 := Scalar.cmpi .slt c256_i32_10 c0_i32_14
  let v45 : BitVec 32 := Scalar.extui v44
  let v46 : BitVec 32 := Scalar.subi v43 v45
  let v47 : BitVec 1 := Scalar.cmpi .ne v41 v46
  let v48 : BitVec 32 := Scalar.remsi v35 c256_i32_10
  let c0_i32_15 : BitVec 32 := 0#32
  let v49 : BitVec 1 := Scalar.cmpi .ne v48 c0_i32_15
  let v50 : BitVec 1 := Scalar.andi v47 v49
  let v36 : BitVec 32 := Scalar.divsi v35 c256_i32_10
  let c1_i32_16 : BitVec 32 := 1#32
  let v51 : BitVec 32 := Scalar.subi v36 c1_i32_16
  let v52 : BitVec 32 := Scalar.select v50 v51 v36
  let v54 : BitVec 32 := Scalar.subi v52 c0_i32_18
  let c1_i32_19 : BitVec 32 := 1#32
  let v56 : BitVec 32 := Scalar.divsi v54 c1_i32_19
  let v57 : BitVec 32 := Scalar.muli v56 c1_i32_19
  let v58 : BitVec 32 := Scalar.addi c0_i32_18 v57
  let c1_i32_21 : BitVec 32 := 1#32
  let arg7 : BitVec 32 := Scf.iv v58 c1_i32_21 k0_t2
  let v68 : BitVec 32 := Scalar.muli c2_i32 arg7
  let v69 : BitVec 32 := Scalar.addi v31 v68
  let c1_i32_44 : BitVec 32 := 1#32
  let v132 : BitVec 32 := Scalar.addi v69 c1_i32_44
  let v133 : Index := Scalar.indexCast v132
  let c0_45 : Index := 0#32
  let c0_46 : Index := 0#32
  ![v133.toNat, 0, 0]

def k0_chk1 (v12 : BitVec 32) (v14 : BitVec 32) : Prop :=
  ((k0_t1_loop v12 v14).OK) ∧
  (∀ k0_t1 : Fin (k0_t1_loop v12 v14).trips, ∀ a, (k0_off2 v12 v14 k0_t1) a + S1x8x128.size a ≤ S226x8x128.size a) ∧
  (∀ k0_t1 : Fin (k0_t1_loop v12 v14).trips, ∀ a, (k0_off3 v12 v14 k0_t1) a + S1x8x128.size a ≤ S226x8x128.size a) ∧
  ((k0_t2_loop v12 v14).OK) ∧
  (∀ k0_t2 : Fin (k0_t2_loop v12 v14).trips, ∀ a, (k0_off4 v12 v14 k0_t2) a + S1x8x128.size a ≤ S226x8x128.size a) ∧
  (∀ k0_t2 : Fin (k0_t2_loop v12 v14).trips, ∀ a, (k0_off5 v12 v14 k0_t2) a + S1x8x128.size a ≤ S226x8x128.size a)
theorem k0_t1_ok : ∀ (v12 : BitVec 32) (v14 : BitVec 32) (k0_hw1 : k0_chk1 v12 v14), (k0_t1_loop v12 v14).OK := fun v12 v14 k0_hw1 => k0_hw1.1
theorem k0_off2_inb : ∀ (v12 : BitVec 32) (v14 : BitVec 32) (k0_hw1 : k0_chk1 v12 v14) (k0_t1 : Fin (k0_t1_loop v12 v14).trips), ∀ a, (k0_off2 v12 v14 k0_t1) a + S1x8x128.size a ≤ S226x8x128.size a := fun v12 v14 k0_hw1 k0_t1 => k0_hw1.2.1 k0_t1
theorem k0_off3_inb : ∀ (v12 : BitVec 32) (v14 : BitVec 32) (k0_hw1 : k0_chk1 v12 v14) (k0_t1 : Fin (k0_t1_loop v12 v14).trips), ∀ a, (k0_off3 v12 v14 k0_t1) a + S1x8x128.size a ≤ S226x8x128.size a := fun v12 v14 k0_hw1 k0_t1 => k0_hw1.2.2.1 k0_t1
theorem k0_t2_ok : ∀ (v12 : BitVec 32) (v14 : BitVec 32) (k0_hw1 : k0_chk1 v12 v14), (k0_t2_loop v12 v14).OK := fun v12 v14 k0_hw1 => k0_hw1.2.2.2.1
theorem k0_off4_inb : ∀ (v12 : BitVec 32) (v14 : BitVec 32) (k0_hw1 : k0_chk1 v12 v14) (k0_t2 : Fin (k0_t2_loop v12 v14).trips), ∀ a, (k0_off4 v12 v14 k0_t2) a + S1x8x128.size a ≤ S226x8x128.size a := fun v12 v14 k0_hw1 k0_t2 => k0_hw1.2.2.2.2.1 k0_t2
theorem k0_off5_inb : ∀ (v12 : BitVec 32) (v14 : BitVec 32) (k0_hw1 : k0_chk1 v12 v14) (k0_t2 : Fin (k0_t2_loop v12 v14).trips), ∀ a, (k0_off5 v12 v14 k0_t2) a + S1x8x128.size a ≤ S226x8x128.size a := fun v12 v14 k0_hw1 k0_t2 => k0_hw1.2.2.2.2.2 k0_t2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 1 → Memref sig .tc .vmem S256x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S226x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x3x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4096x2 : Shape := ⟨2, ![4096, 2]⟩
abbrev S4096x1 : Shape := ⟨2, ![4096, 1]⟩
abbrev S4096x3 : Shape := ⟨2, ![4096, 3]⟩
abbrev S2 : Shape := ⟨1, ![2]⟩
abbrev S_ : Shape := ⟨0, ![]⟩
abbrev S1x2 : Shape := ⟨2, ![1, 2]⟩
abbrev S4096 : Shape := ⟨1, ![4096]⟩
abbrev S256 : Shape := ⟨1, ![256]⟩
abbrev S256x1 : Shape := ⟨2, ![256, 1]⟩
abbrev S1x4096 : Shape := ⟨2, ![1, 4096]⟩
abbrev S256x4096 : Shape := ⟨2, ![256, 4096]⟩
abbrev S1x256x4096 : Shape := ⟨3, ![1, 256, 4096]⟩
abbrev S256x1x4096 : Shape := ⟨3, ![256, 1, 4096]⟩
abbrev S1x1x4096 : Shape := ⟨3, ![1, 1, 4096]⟩
abbrev S256x256x4096 : Shape := ⟨3, ![256, 256, 4096]⟩
abbrev S256x256x3 : Shape := ⟨3, ![256, 256, 3]⟩
abbrev S1x256x256x3 : Shape := ⟨4, ![1, 256, 256, 3]⟩
abbrev S1x3x256x256 : Shape := ⟨4, ![1, 3, 256, 256]⟩

abbrev nBuf : Space → Nat
  | .hbm => 232
  | .vmem => 0
  | .smem => 0
  | _ => 0

abbrev hbmTy0_0 (i : Nat) : BufTy := match i % 128 with
  | 0 => ⟨S4096x2, .f32⟩
  | 1 => ⟨S4096x2, .f32⟩
  | 2 => ⟨S4096x1, .f32⟩
  | 3 => ⟨S4096x3, .f32⟩
  | 4 => ⟨S4096x1, .f32⟩
  | 5 => ⟨S2, .f32⟩
  | 6 => ⟨S_, .f32⟩
  | 7 => ⟨S4096x2, .f32⟩
  | 8 => ⟨S4096x2, .f32⟩
  | 9 => ⟨S_, .f32⟩
  | 10 => ⟨S4096x2, .f32⟩
  | 11 => ⟨S4096x2, .f32⟩
  | 12 => ⟨S1x2, .f32⟩
  | 13 => ⟨S4096x2, .f32⟩
  | 14 => ⟨S4096x2, .f32⟩
  | 15 => ⟨S4096x2, .f32⟩
  | 16 => ⟨S4096, .f32⟩
  | 17 => ⟨S4096, .f32⟩
  | 18 => ⟨S4096, .f32⟩
  | 19 => ⟨S_, .f32⟩
  | 20 => ⟨S4096, .f32⟩
  | 21 => ⟨S4096, .f32⟩
  | 22 => ⟨S_, .f32⟩
  | 23 => ⟨S4096, .f32⟩
  | 24 => ⟨S4096, .f32⟩
  | 25 => ⟨S_, .f32⟩
  | 26 => ⟨S4096, .f32⟩
  | 27 => ⟨S4096, .f32⟩
  | 28 => ⟨S_, .f32⟩
  | 29 => ⟨S4096, .f32⟩
  | 30 => ⟨S4096, .f32⟩
  | 31 => ⟨S4096, .f32⟩
  | 32 => ⟨S4096, .f32⟩
  | 33 => ⟨S4096x1, .f32⟩
  | 34 => ⟨S4096, .f32⟩
  | 35 => ⟨S4096, .f32⟩
  | 36 => ⟨S4096x1, .f32⟩
  | 37 => ⟨S4096, .f32⟩
  | 38 => ⟨S4096, .f32⟩
  | 39 => ⟨S4096, .f32⟩
  | 40 => ⟨S4096, .f32⟩
  | 41 => ⟨S4096, .f32⟩
  | 42 => ⟨S4096, .f32⟩
  | 43 => ⟨S4096, .f32⟩
  | 44 => ⟨S4096, .f32⟩
  | 45 => ⟨S4096, .f32⟩
  | 46 => ⟨S4096, .f32⟩
  | 47 => ⟨S4096, .f32⟩
  | 48 => ⟨S4096, .f32⟩
  | 49 => ⟨S4096, .f32⟩
  | 50 => ⟨S4096, .f32⟩
  | 51 => ⟨S4096, .f32⟩
  | 52 => ⟨S4096, .f32⟩
  | 53 => ⟨S4096, .f32⟩
  | 54 => ⟨S4096, .f32⟩
  | 55 => ⟨S_, .f32⟩
  | 56 => ⟨S4096, .f32⟩
  | 57 => ⟨S4096, .f32⟩
  | 58 => ⟨S_, .f32⟩
  | 59 => ⟨S4096, .f32⟩
  | 60 => ⟨S4096, .f32⟩
  | 61 => ⟨S4096, .f32⟩
  | 62 => ⟨S4096, .f32⟩
  | 63 => ⟨S4096, .f32⟩
  | 64 => ⟨S4096, .f32⟩
  | 65 => ⟨S4096, .f32⟩
  | 66 => ⟨S256, .i32⟩
  | 67 => ⟨S256, .f32⟩
  | 68 => ⟨S_, .f32⟩
  | 69 => ⟨S256, .f32⟩
  | 70 => ⟨S256, .f32⟩
  | 71 => ⟨S256, .i32⟩
  | 72 => ⟨S256, .f32⟩
  | 73 => ⟨S_, .f32⟩
  | 74 => ⟨S256, .f32⟩
  | 75 => ⟨S256, .f32⟩
  | 76 => ⟨S256x1, .f32⟩
  | 77 => ⟨S4096x1, .f32⟩
  | 78 => ⟨S4096, .f32⟩
  | 79 => ⟨S1x4096, .f32⟩
  | 80 => ⟨S256x4096, .f32⟩
  | 81 => ⟨S256x4096, .f32⟩
  | 82 => ⟨S256x4096, .f32⟩
  | 83 => ⟨S1x256x4096, .f32⟩
  | 84 => ⟨S256x1, .f32⟩
  | 85 => ⟨S4096x1, .f32⟩
  | 86 => ⟨S4096, .f32⟩
  | 87 => ⟨S1x4096, .f32⟩
  | 88 => ⟨S256x4096, .f32⟩
  | 89 => ⟨S256x4096, .f32⟩
  | 90 => ⟨S256x4096, .f32⟩
  | 91 => ⟨S256x1x4096, .f32⟩
  | 92 => ⟨S1x1x4096, .f32⟩
  | 93 => ⟨S1x256x4096, .f32⟩
  | 94 => ⟨S1x256x4096, .f32⟩
  | 95 => ⟨S1x256x4096, .f32⟩
  | 96 => ⟨S1x1x4096, .f32⟩
  | 97 => ⟨S256x1x4096, .f32⟩
  | 98 => ⟨S256x1x4096, .f32⟩
  | 99 => ⟨S256x1x4096, .f32⟩
  | 100 => ⟨S256x256x4096, .f32⟩
  | 101 => ⟨S256x256x4096, .f32⟩
  | 102 => ⟨S256x256x4096, .f32⟩
  | 103 => ⟨S_, .f32⟩
  | 104 => ⟨S256x256x4096, .f32⟩
  | 105 => ⟨S256x256x4096, .f32⟩
  | 106 => ⟨S1x1x4096, .f32⟩
  | 107 => ⟨S1x256x4096, .f32⟩
  | 108 => ⟨S1x256x4096, .f32⟩
  | 109 => ⟨S256x256x4096, .f32⟩
  | 110 => ⟨S256x256x4096, .f32⟩
  | 111 => ⟨S256x256x4096, .f32⟩
  | 112 => ⟨S256x256x4096, .f32⟩
  | 113 => ⟨S_, .f32⟩
  | 114 => ⟨S256x256x4096, .f32⟩
  | 115 => ⟨S256x256x4096, .i1⟩
  | 116 => ⟨S256x256x4096, .f32⟩
  | 117 => ⟨S256x256x4096, .f32⟩
  | 118 => ⟨S_, .f32⟩
  | 119 => ⟨S_, .f32⟩
  | 120 => ⟨S256x256x4096, .f32⟩
  | 121 => ⟨S256x256x4096, .f32⟩
  | 122 => ⟨S_, .f32⟩
  | 123 => ⟨S4096x2, .f32⟩
  | 124 => ⟨S4096x2, .f32⟩
  | 125 => ⟨S4096x2, .i32⟩
  | 126 => ⟨S_, .i32⟩
  | 127 => ⟨S_, .i32⟩
  | _ => ⟨S4096x2, .f32⟩

abbrev hbmTy0_1 (i : Nat) : BufTy := match i % 128 with
  | 0 => ⟨S_, .i32⟩
  | 1 => ⟨S4096x2, .i32⟩
  | 2 => ⟨S4096x2, .i32⟩
  | 3 => ⟨S_, .i32⟩
  | 4 => ⟨S4096x2, .i32⟩
  | 5 => ⟨S4096x2, .i32⟩
  | 6 => ⟨S256, .i32⟩
  | 7 => ⟨S_, .i32⟩
  | 8 => ⟨S_, .i32⟩
  | 9 => ⟨S256, .i32⟩
  | 10 => ⟨S256, .i32⟩
  | 11 => ⟨S256, .i32⟩
  | 12 => ⟨S_, .i32⟩
  | 13 => ⟨S256, .i32⟩
  | 14 => ⟨S256, .i1⟩
  | 15 => ⟨S256, .i32⟩
  | 16 => ⟨S256, .i32⟩
  | 17 => ⟨S_, .i32⟩
  | 18 => ⟨S256, .i32⟩
  | 19 => ⟨S256, .i1⟩
  | 20 => ⟨S256, .i1⟩
  | 21 => ⟨S_, .i32⟩
  | 22 => ⟨S256, .i32⟩
  | 23 => ⟨S256, .i32⟩
  | 24 => ⟨S256, .i32⟩
  | 25 => ⟨S256, .i32⟩
  | 26 => ⟨S_, .i32⟩
  | 27 => ⟨S_, .i32⟩
  | 28 => ⟨S256, .i32⟩
  | 29 => ⟨S256, .i32⟩
  | 30 => ⟨S256, .i32⟩
  | 31 => ⟨S_, .i32⟩
  | 32 => ⟨S256, .i32⟩
  | 33 => ⟨S256, .i1⟩
  | 34 => ⟨S256, .i32⟩
  | 35 => ⟨S256, .i32⟩
  | 36 => ⟨S_, .i32⟩
  | 37 => ⟨S256, .i32⟩
  | 38 => ⟨S256, .i1⟩
  | 39 => ⟨S256, .i1⟩
  | 40 => ⟨S_, .i32⟩
  | 41 => ⟨S256, .i32⟩
  | 42 => ⟨S256, .i32⟩
  | 43 => ⟨S256, .i32⟩
  | 44 => ⟨S256x1, .i32⟩
  | 45 => ⟨S4096x1, .i32⟩
  | 46 => ⟨S4096, .i32⟩
  | 47 => ⟨S1x4096, .i32⟩
  | 48 => ⟨S256x4096, .i32⟩
  | 49 => ⟨S256x4096, .i32⟩
  | 50 => ⟨S256x4096, .i32⟩
  | 51 => ⟨S256x4096, .i32⟩
  | 52 => ⟨S256x1, .i32⟩
  | 53 => ⟨S4096x1, .i32⟩
  | 54 => ⟨S4096, .i32⟩
  | 55 => ⟨S1x4096, .i32⟩
  | 56 => ⟨S256x4096, .i32⟩
  | 57 => ⟨S256x4096, .i32⟩
  | 58 => ⟨S256x4096, .i32⟩
  | 59 => ⟨S256x4096, .i32⟩
  | 60 => ⟨S_, .f32⟩
  | 61 => ⟨S4096, .f32⟩
  | 62 => ⟨S4096, .f32⟩
  | 63 => ⟨S4096, .f32⟩
  | 64 => ⟨S1x4096, .f32⟩
  | 65 => ⟨S_, .i32⟩
  | 66 => ⟨S256x4096, .i32⟩
  | 67 => ⟨S256x4096, .i32⟩
  | 68 => ⟨S_, .i32⟩
  | 69 => ⟨S256x4096, .i32⟩
  | 70 => ⟨S256x4096, .i32⟩
  | 71 => ⟨S256x4096, .f32⟩
  | 72 => ⟨S256x4096, .f32⟩
  | 73 => ⟨S256x4096, .i1⟩
  | 74 => ⟨S_, .i32⟩
  | 75 => ⟨S256x4096, .i32⟩
  | 76 => ⟨S256x4096, .i1⟩
  | 77 => ⟨S1x256x4096, .i1⟩
  | 78 => ⟨S_, .i32⟩
  | 79 => ⟨S256x4096, .i32⟩
  | 80 => ⟨S256x4096, .i1⟩
  | 81 => ⟨S256x4096, .i1⟩
  | 82 => ⟨S256x1x4096, .i1⟩
  | 83 => ⟨S256x256x4096, .i1⟩
  | 84 => ⟨S256x256x4096, .i1⟩
  | 85 => ⟨S256x256x4096, .i1⟩
  | 86 => ⟨S_, .f32⟩
  | 87 => ⟨S_, .f32⟩
  | 88 => ⟨S256x256x4096, .f32⟩
  | 89 => ⟨S256x256x4096, .f32⟩
  | 90 => ⟨S1x1x4096, .f32⟩
  | 91 => ⟨S256x256x4096, .f32⟩
  | 92 => ⟨S256x256x4096, .f32⟩
  | 93 => ⟨S256x256x3, .f32⟩
  | 94 => ⟨S_, .f32⟩
  | 95 => ⟨S_, .f32⟩
  | 96 => ⟨S_, .f32⟩
  | 97 => ⟨S256x256x3, .f32⟩
  | 98 => ⟨S256x256x3, .f32⟩
  | 99 => ⟨S_, .f32⟩
  | 100 => ⟨S256x256x3, .f32⟩
  | 101 => ⟨S256x256x3, .f32⟩
  | 102 => ⟨S1x256x256x3, .f32⟩
  | 103 => ⟨S1x3x256x256, .f32⟩
  | _ => ⟨S4096x2, .f32⟩

abbrev hbmTy (i : Nat) : BufTy := match i / 128 with
  | 0 => hbmTy0_0 i
  | 1 => hbmTy0_1 i
  | _ => ⟨S4096x2, .f32⟩

abbrev bufTy : (tb : Table) → Fin (tcTables nBuf tb) → BufTy
  | .hbm, ⟨i, _⟩ => hbmTy i
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_10 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_11 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_12 : Ref sig .tc := ⟨.hbm, 118, rfl⟩
abbrev main_call0_v0 : Ref sig .tc := ⟨.hbm, 119, rfl⟩
abbrev main_call0_v1 : Ref sig .tc := ⟨.hbm, 120, rfl⟩
abbrev main_v100 : Ref sig .tc := ⟨.hbm, 121, rfl⟩
abbrev main_cst_13 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_c : Ref sig .tc := ⟨.hbm, 126, rfl⟩
abbrev main_c_14 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_v104 : Ref sig .tc := ⟨.hbm, 133, rfl⟩
abbrev main_v105 : Ref sig .tc := ⟨.hbm, 134, rfl⟩
abbrev main_c_15 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_v7 : Ref sig .tc := ⟨.hbm, 143, rfl⟩
abbrev main_call2_v8 : Ref sig .tc := ⟨.hbm, 144, rfl⟩
abbrev main_call2_c : Ref sig .tc := ⟨.hbm, 145, rfl⟩
abbrev main_call2_v9 : Ref sig .tc := ⟨.hbm, 146, rfl⟩
abbrev main_call2_v10 : Ref sig .tc := ⟨.hbm, 147, rfl⟩
abbrev main_call2_v11 : Ref sig .tc := ⟨.hbm, 148, rfl⟩
abbrev main_call2_c_0 : Ref sig .tc := ⟨.hbm, 149, rfl⟩
abbrev main_call2_v12 : Ref sig .tc := ⟨.hbm, 150, rfl⟩
abbrev main_call2_v13 : Ref sig .tc := ⟨.hbm, 151, rfl⟩
abbrev main_v106 : Ref sig .tc := ⟨.hbm, 152, rfl⟩
abbrev main_v107 : Ref sig .tc := ⟨.hbm, 153, rfl⟩
abbrev main_c_16 : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_call3_v5 : Ref sig .tc := ⟨.hbm, 160, rfl⟩
abbrev main_call3_v6 : Ref sig .tc := ⟨.hbm, 161, rfl⟩
abbrev main_call3_v7 : Ref sig .tc := ⟨.hbm, 162, rfl⟩
abbrev main_call3_v8 : Ref sig .tc := ⟨.hbm, 163, rfl⟩
abbrev main_call3_c : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_call3_c_0 : Ref sig .tc := ⟨.hbm, 168, rfl⟩
abbrev main_call3_v12 : Ref sig .tc := ⟨.hbm, 169, rfl⟩
abbrev main_call3_v13 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_cst_17 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_c_18 : Ref sig .tc := ⟨.hbm, 193, rfl⟩
abbrev main_v129 : Ref sig .tc := ⟨.hbm, 194, rfl⟩
abbrev main_v130 : Ref sig .tc := ⟨.hbm, 195, rfl⟩
abbrev main_c_19 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_c_20 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_c_21 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_cst_22 : Ref sig .tc := ⟨.hbm, 214, rfl⟩
abbrev main_call4_v0 : Ref sig .tc := ⟨.hbm, 215, rfl⟩
abbrev main_call4_v1 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_cst_23 : Ref sig .tc := ⟨.hbm, 222, rfl⟩
abbrev main_cst_24 : Ref sig .tc := ⟨.hbm, 223, rfl⟩
abbrev main_call5_v0 : Ref sig .tc := ⟨.hbm, 224, rfl⟩
abbrev main_call5_v1 : Ref sig .tc := ⟨.hbm, 225, rfl⟩
abbrev main_call5_v2 : Ref sig .tc := ⟨.hbm, 226, rfl⟩
abbrev main_call5_v3 : Ref sig .tc := ⟨.hbm, 227, rfl⟩
abbrev main_call5_v4 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩

abbrev nD : Nat := 1
abbrev τ : Topo := Topo.v7x

variable {F : FTy → Type} [FloatOps F]
-- ==== Proof.Line.lean ====
module

public import Idealize.ShloMosaic.Lib.StableHlo.RunRead

/-!
A straight line of host operations in which no buffer is written twice and none is read before it is written: after the
line, every buffer holds its operation's value of what its operands hold AFTER THE LINE. One lemma per kind of
operation; the side conditions say that neither the result nor an operand is written again later.
-/

@[expose] public section

noncomputable section

namespace Cert.HostLine

open Idealize.ShloMosaic Idealize.ShloMosaic.StableHlo

variable {τ : Topo} {sig : RefSig} {Val : EltTy → Type}
variable {ops : List (HloOp τ sig Val)} {W : List (Ref sig .tc)} {V : Valuation τ sig Val}

theorem drop_of_getElem? {α : Type} : ∀ (l : List α) (i : ℕ) (a : α), l[i]? = some a → l.drop i = a :: l.drop (i + 1)
  | [], i, a, h => by simp at h
  | b :: l, 0, a, h => by simp at h; simp [h]
  | b :: l, i + 1, a, h => by simpa using drop_of_getElem? l i a (by simpa using h)

/-- The line read at a reference that no operation from `i + 1` on writes: operation `i`'s result. -/
theorem read_at (hW : ops.map HloOp.writes = W.map fun w => {Proc.devRef (τ := τ) .tc w}) (i : ℕ) {op : HloOp τ sig Val}
    (hop : ops[i]? = some op) {r : Ref sig .tc} (hr : r ∉ W.drop (i + 1)) :
    after ops V (Proc.devRef .tc r) = op.result (upto ops V i) (Proc.devRef .tc r) :=
  after_last_write (rest := ops.drop (i + 1)) (W.drop (i + 1)) (drop_of_getElem? ops i op hop)
    (by rw [List.map_drop, List.map_drop, hW]) hr V

/-- A reference that no operation from `i` on writes holds the same after `i` operations and after all. -/
theorem upto_eq (hW : ops.map HloOp.writes = W.map fun w => {Proc.devRef (τ := τ) .tc w}) (i : ℕ)
    {r : Ref sig .tc} (hr : r ∉ W.drop i) :
    upto ops V i (Proc.devRef .tc r) = after ops V (Proc.devRef .tc r) := by
  have h2 : after ops V = after (ops.drop i) (upto ops V i) := by
    unfold upto
    conv_lhs => rw [← List.take_append_drop i ops]
    generalize ops.take i = l
    induction l generalizing V with
    | nil => rfl
    | cons op l ih => exact ih
  rw [h2]
  exact (after_unwritten (W.drop i) (by rw [List.map_drop, List.map_drop, hW]) hr _).symm

section Steps

variable {A : (r : Ref sig .tc) → r.ty.Contents Val} (hA : ∀ r, A r = after ops V (Proc.devRef .tc r))
  (hW : ops.map HloOp.writes = W.map fun w => {Proc.devRef (τ := τ) .tc w})

include hA hW

theorem nullary_step (y : Ref sig .tc) {v : y.ty.Contents Val} {hy} (i : ℕ)
    (hop : ops[i]? = some (nullary y v hy)) (hr : y ∉ W.drop (i + 1)) : A y = v := by
  rw [hA, read_at hW i hop hr]; exact nullary_result' ..

theorem unary_step (x y : Ref sig .tc) {f : x.ty.Contents Val → y.ty.Contents Val} {hx hy} (i : ℕ)
    (hop : ops[i]? = some (unary x y f hx hy)) (hr : y ∉ W.drop (i + 1)) (hx' : x ∉ W.drop i) :
    A y = f (A x) := by
  rw [hA, hA, read_at hW i hop hr, unary_result', upto_eq hW i hx']

theorem binary_step (a b y : Ref sig .tc) {f : a.ty.Contents Val → b.ty.Contents Val → y.ty.Contents Val} {ha hb hy}
    (i : ℕ) (hop : ops[i]? = some (binary a b y f ha hb hy)) (hr : y ∉ W.drop (i + 1)) (ha' : a ∉ W.drop i)
    (hb' : b ∉ W.drop i) : A y = f (A a) (A b) := by
  rw [hA y, hA a, hA b, read_at hW i hop hr, binary_result', upto_eq hW i ha', upto_eq hW i hb']

theorem ternary_step (p a b y : Ref sig .tc)
    {f : p.ty.Contents Val → a.ty.Contents Val → b.ty.Contents Val → y.ty.Contents Val} {hp ha hb hy} (i : ℕ)
    (hop : ops[i]? = some (ternary p a b y f hp ha hb hy)) (hr : y ∉ W.drop (i + 1)) (hp' : p ∉ W.drop i)
    (ha' : a ∉ W.drop i) (hb' : b ∉ W.drop i) : A y = f (A p) (A a) (A b) := by
  rw [hA y, hA p, hA a, hA b, read_at hW i hop hr, ternary_result', upto_eq hW i hp', upto_eq hW i ha', upto_eq hW i hb']

/-- `unary_step` for an operation of a module-local function. -/
theorem unary_call {Tx Ty : BufTy} (x : TRef sig Tx) (y : TRef sig Ty) {f : Tx.Contents Val → Ty.Contents Val} (i : ℕ)
    (hop : ops[i]? = some (TRef.unary x y f)) (hr : y.ref ∉ W.drop (i + 1)) (hx : x.ref ∉ W.drop i) :
    y.ofBuf (A y.ref) = f (x.ofBuf (A x.ref)) := by
  rw [unary_step hA hW x.ref y.ref i hop hr hx, TRef.ofBuf_toBuf]

/-- `binary_step` for an operation of a module-local function. -/
theorem binary_call {Ta Tb Ty : BufTy} (a : TRef sig Ta) (b : TRef sig Tb) (y : TRef sig Ty)
    {f : Ta.Contents Val → Tb.Contents Val → Ty.Contents Val} (i : ℕ)
    (hop : ops[i]? = some (TRef.binary a b y f)) (hr : y.ref ∉ W.drop (i + 1)) (ha : a.ref ∉ W.drop i)
    (hb : b.ref ∉ W.drop i) : y.ofBuf (A y.ref) = f (a.ofBuf (A a.ref)) (b.ofBuf (A b.ref)) := by
  rw [binary_step hA hW a.ref b.ref y.ref i hop hr ha hb, TRef.ofBuf_toBuf]

/-- `ternary_step` for an operation of a module-local function. -/
theorem ternary_call {Tp Ta Tb Ty : BufTy} (p : TRef sig Tp) (a : TRef sig Ta) (b : TRef sig Tb) (y : TRef sig Ty)
    {f : Tp.Contents Val → Ta.Contents Val → Tb.Contents Val → Ty.Contents Val} (i : ℕ)
    (hop : ops[i]? = some (TRef.ternary p a b y f)) (hr : y.ref ∉ W.drop (i + 1)) (hp : p.ref ∉ W.drop i)
    (ha : a.ref ∉ W.drop i) (hb : b.ref ∉ W.drop i) :
    y.ofBuf (A y.ref) = f (p.ofBuf (A p.ref)) (a.ofBuf (A a.ref)) (b.ofBuf (A b.ref)) := by
  rw [ternary_step hA hW p.ref a.ref b.ref y.ref i hop hr hp ha hb, TRef.ofBuf_toBuf]

theorem reshape_step (x y : Ref sig .tc) {he : x.ty.elt = y.ty.elt} {hn : x.ty.shape.ShapeCasts y.ty.shape} {hx hy} (i : ℕ)
    (hop : ops[i]? = some (reshape x y he hn hx hy)) (hr : y ∉ W.drop (i + 1)) (hx' : x ∉ W.drop i) :
    A y = fun j => he ▸ shapeCast y.ty.shape (A x) hn j := by
  rw [hA, hA, read_at hW i hop hr, reshape_result', upto_eq hW i hx']

theorem nary_step {n : ℕ} (xs : Fin n → Ref sig .tc) (y : Ref sig .tc)
    {f : ((k : Fin n) → (xs k).ty.Contents Val) → y.ty.Contents Val} {hxs hy} (i : ℕ)
    (hop : ops[i]? = some (nary xs y f hxs hy)) (hr : y ∉ W.drop (i + 1)) (hx' : ∀ k, xs k ∉ W.drop i) :
    A y = f (fun k => A (xs k)) := by
  rw [hA, read_at hW i hop hr, nary_result']
  exact congrArg f (funext fun k => (upto_eq hW i (hx' k)).trans (hA _).symm)

/-- A buffer the line never writes keeps what it held. -/
theorem arg_step (r : Ref sig .tc) (hr : r ∉ W) : A r = V (Proc.devRef .tc r) := by
  rw [hA]; exact after_unwritten W hW hr V

end Steps

end Cert.HostLine
-- ==== Proof.KernelHost.Line.lean ====
module

public import proofs.«01_k».proof.Proof.Line
public import proofs.«01_k».proof.Proof.Gen.Kernel.Frame

/-!
The host lines before the launch, one step at a time. `line` is the list of host operations that run before the
kernel is launched and `written` the buffer each of them writes, in order. No buffer is written twice, so after the
whole line every buffer still holds the value its own operation computed from the values that the other buffers hold
after the whole line.
-/

@[expose] public section

set_option maxRecDepth 16384

noncomputable section

namespace Cert.Kernel.HostLine

open Idealize.ShloMosaic Idealize.ShloMosaic.TcCoe Idealize.SL.Sem
open Cert.Kernel Cert.Kernel.Gen Cert.HostLine

variable {F : FTy → Type} [FloatOps F]

/-- The host operations before the launch, in order. -/
abbrev line : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14]

/-- The buffer that each operation of `line` writes. -/
def written : List (Ref sig .tc) := [main_v0, main_v1, main_cst, main_v2, main_v3, main_cst_0, main_v4, main_v5, main_cst_1, main_v6, main_v7, main_v8, main_v9, main_cst_2, main_v10, main_v11, main_cst_3, main_v12, main_v13, main_cst_4, main_v14, main_v15, main_v16, main_v17, main_v18, main_v19, main_cst_5, main_v20, main_v21, main_cst_6, main_v22, main_v23, main_cst_7, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_cst_8, main_v50, main_v51, main_cst_9, main_v52, main_v53, main_v54, main_v55, main_v56, main_v57, main_v58, main_v59, main_cst_10, main_v60, main_v61, main_v62, main_c, main_c_11, main_call0_v0, main_call0_v1, main_call0_v2, main_call0_v3, main_call0_v4, main_v63, main_cst_12, main_v64, main_v65, main_v66, main_c_13, main_c_14, main_call1_v0, main_call1_v1, main_call1_v2, main_call1_v3, main_call1_v4, main_v67, main_v68, main_v69, main_c_15, main_v70, main_v71, main_v72, main_v73, main_v74, main_v75, main_v76, main_c_16, main_v77, main_v78, main_v79, main_v80, main_v81, main_cst_17, main_v82, main_v83, main_v84, main_v85, main_c_18, main_v86, main_v87, main_c_19, main_v88, main_v89, main_v90, main_c_20, main_v91, main_v92, main_c_21, main_v93, main_v94, main_v95, main_v96, main_v97, main_v98, main_v99, main_v100, main_v101, main_c_22, main_v102, main_v103, main_v104, main_v105, main_v106, main_v107, main_c_23, main_v108, main_v109, main_call2_v0, main_v110, main_v111, main_v112, main_c_24, main_v113, main_v114, main_c_25, main_v115, main_v116, main_v117, main_v118, main_v119, main_v120, main_v121, main_v122, main_v123, main_v124, main_v125, main_v126, main_v127, main_v128, main_v129, main_v130, main_v131, main_c_26, main_v132, main_v133, main_c_27, main_v134, main_v135, main_v136, main_v137, main_v138, main_c_28, main_call4_v0, main_v139, main_v140, main_v141, main_v142, main_v143, main_v144, main_v145, main_v146, main_v147, main_v148, main_c_29, main_v149, main_v150, main_c_30, main_v151, main_v152, main_c_31, main_c_32, main_call5_v0, main_call5_v1, main_call5_v2, main_call5_v3, main_call5_v4, main_v153, main_c_33, main_v154, main_v155, main_c_34, main_c_35, main_call6_v0, main_call6_v1, main_call6_v2, main_call6_v3, main_call6_v4, main_v156, main_v157, main_c_36, main_v158, main_v159, main_v160, main_v161, main_v162, main_v163, main_c_37, main_v164, main_v165, main_c_38, main_v166, main_v167, main_v168, main_v169, main_v170, main_v171, main_v172, main_c_39, main_v173, main_v174, main_v175, main_v176, main_v177, main_v178, main_c_40, main_v179, main_v180, main_c_41, main_v181, main_v182, main_c_42, main_v183, main_v184, main_v185, main_v186, main_v187, main_v188, main_v189, main_c_43, main_v190, main_v191, main_v192, main_cst_44, main_v193, main_v194, main_c_45, main_v195, main_v196, main_v197, main_cst_46, main_v198, main_v199, main_v200, main_v201, main_v202, main_cst_47, main_v203, main_v204, main_v205, main_v206, main_v207, main_v208, main_v209, main_v210]

set_option maxHeartbeats 4000000 in
/-- `written` lists the writes of `line`. -/
theorem line_writes : (line (F := F)).map HloOp.writes = written.map (fun w => {Proc.devRef (τ := τ) .tc w}) := rfl

end Cert.Kernel.HostLine
-- ==== Proof.KernelHost.Vals.lean ====
module

public import proofs.«01_k».proof.Proof.KernelHost.Line
public import Idealize.ShloMosaic.PureOps
public import proofs.«01_k».proof.Proof.Gen.Kernel.Frame

/-!
What each buffer holds when the kernel is launched, named.
-/

@[expose] public section

set_option maxRecDepth 16384
set_option maxHeartbeats 400000

noncomputable section

namespace Cert.Kernel.HostLine

open Idealize.ShloMosaic Idealize.ShloMosaic.TcCoe Idealize.SL.Sem
open Cert.Kernel Cert.Kernel.Gen Cert.HostLine

variable {F : FTy → Type} [FloatOps F]

variable (m : (ℓ : Loc nD τ sig) → Buf (Elt F) ℓ) (c : Dev nD)

/-- What a buffer holds when the kernel is launched. -/
@[irreducible] def held (b : Ref sig .tc) : b.ty.Contents (Elt F) := V m c b

theorem V_eq (b : Ref sig .tc) : V m c b = held m c b := by unfold held; rfl

theorem held_eq (b : Ref sig .tc) : held m c b = StableHlo.after line (fun b => m (c, b)) (Proc.devRef .tc b) := by
  unfold held; rfl

/-- What `main_v147` holds when the kernel is launched. -/
def v147 : (⟨S257x28672, .i1⟩ : BufTy).Contents (Elt F) := held m c main_v147

/-- What `main_v148` holds when the kernel is launched. -/
def v148 : (⟨S257x28672, .i32⟩ : BufTy).Contents (Elt F) := held m c main_v148

/-- What `main_c_29` holds when the kernel is launched. -/
def c_29 : (⟨S_, .i32⟩ : BufTy).Contents (Elt F) := held m c main_c_29

/-- What `main_v149` holds when the kernel is launched. -/
def v149 : (⟨S257, .i32⟩ : BufTy).Contents (Elt F) := held m c main_v149

/-- What `main_v169` holds when the kernel is launched. -/
def v169 : (⟨S16x16x1, .i32⟩ : BufTy).Contents (Elt F) := held m c main_v169

/-- What `main_v170` holds when the kernel is launched. -/
def v170 : (⟨S16x16, .i32⟩ : BufTy).Contents (Elt F) := held m c main_v170

/-- What `main_v171` holds when the kernel is launched. -/
def v171 : (⟨S256, .i32⟩ : BufTy).Contents (Elt F) := held m c main_v171

/-- What `main_v186` holds when the kernel is launched. -/
def v186 : (⟨S16x16x1, .i32⟩ : BufTy).Contents (Elt F) := held m c main_v186

/-- What `main_v187` holds when the kernel is launched. -/
def v187 : (⟨S16x16, .i32⟩ : BufTy).Contents (Elt F) := held m c main_v187

/-- What `main_v188` holds when the kernel is launched. -/
def v188 : (⟨S256, .i32⟩ : BufTy).Contents (Elt F) := held m c main_v188

end Cert.Kernel.HostLine
-- ==== Proof.KernelHost.Steps1.lean ====
module

public import proofs.«01_k».proof.Proof.KernelHost.Vals
public import Idealize.ShloMosaic.PureOps
public import proofs.«01_k».proof.Proof.Gen.Kernel.Frame

/-!
Each value as its operation computes it from the others (part 1).
-/

@[expose] public section

set_option maxRecDepth 16384
set_option maxHeartbeats 400000

noncomputable section

namespace Cert.Kernel.HostLine

open Idealize.ShloMosaic Idealize.ShloMosaic.TcCoe Idealize.SL.Sem
open Cert.Kernel Cert.Kernel.Gen Cert.HostLine

variable {F : FTy → Type} [FloatOps F]

variable (m : (ℓ : Loc nD τ sig) → Buf (Elt F) ℓ) (c : Dev nD)

theorem v148_eq : v148 m c = (extui 32 · natLt_1_32) (v147 m c) := by
  have e := unary_step (held_eq m c) line_writes main_v147 main_v148 191 rfl (by decide) (by decide)
  exact e

theorem c_29_eq : c_29 m c = (constantI S_ 32 0#32) := by
  have e := nullary_step (held_eq m c) line_writes main_c_29 192 rfl (by decide)
  exact e

theorem v149_eq : v149 m c = (fun x v => Host.reduce IntOp.addi x v reducesTo_S257x28672_S257_d1 h_S_) (v148 m c) (c_29 m c) := by
  have e := binary_step (held_eq m c) line_writes main_v148 main_c_29 main_v149 193 rfl (by decide) (by decide) (by decide)
  exact e

theorem v170_eq : v170 m c = (fun x i => Host.gather gather_S257_S16x16x1_S16x16_n_0_n_n_0_2_1 x i) (v149 m c) (v169 m c) := by
  have e := binary_step (held_eq m c) line_writes main_v149 main_v169 main_v170 233 rfl (by decide) (by decide) (by decide)
  exact e

theorem v171_eq : v171 m c = shapeCast _ (v170 m c) shapeCasts_S16x16_S256 := by
  have e := reshape_step (held_eq m c) line_writes main_v170 main_v171 234 rfl (by decide) (by decide)
  exact e

theorem v187_eq : v187 m c = (fun x i => Host.gather gather_S257_S16x16x1_S16x16_n_0_n_n_0_2_1 x i) (v149 m c) (v186 m c) := by
  have e := binary_step (held_eq m c) line_writes main_v149 main_v186 main_v187 254 rfl (by decide) (by decide) (by decide)
  exact e

theorem v188_eq : v188 m c = shapeCast _ (v187 m c) shapeCasts_S16x16_S256 := by
  have e := reshape_step (held_eq m c) line_writes main_v187 main_v188 255 rfl (by decide) (by decide)
  exact e

end Cert.Kernel.HostLine
-- ==== Proof.Words.Bounds.lean ====
module

public import Idealize.ShloMosaic.Lib.Scf
public import Idealize.ShloMosaic.Lib.LoopRemainder
public import Idealize.ShloMosaic.PureOps

/-!
The kernel body's integer arithmetic. A grid point reads two words `s` and `e` of its tables, the ends of its run of
sorted pairs. It starts at block `s / 128` of 128 pairs and makes `⌊(e - 128·(s/128) + 255) / 256⌋` trips of two blocks
each. The quotients are rounded toward minus infinity, spelled with a correction of the truncated quotient.
-/

@[expose] public section

namespace Cert.Words

open Idealize.ShloMosaic

/-- The quotient rounded toward minus infinity, as the kernel spells it. -/
def fdiv (x d : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

theorem cond_aux (x d : BitVec 32) (hd : 0 < d.toInt) :
    (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32) : BitVec 32)))
      (Scalar.cmpi .ne (x.srem d) 0#32)) = BitVec.ofBool (decide (x.toInt ≤ 0 ∧ x.toInt.tmod d.toInt ≠ 0)) := by
  have h0 : (0#32).toInt = 0 := rfl
  have hr : (x.srem d != 0#32) = decide (x.toInt.tmod d.toInt ≠ 0) := by
    rw [← BitVec.toInt_srem, ← h0, Bool.eq_iff_iff, bne_iff_ne, decide_eq_true_iff, ne_eq, ne_eq, BitVec.toInt_inj]
  simp only [Scalar.andi, Scalar.cmpi, IntOp.cmpi, Scalar.subi, Scalar.extui, hr]
  have hd1 : (0#32).slt d = true := by rw [BitVec.slt_iff_toInt_lt]; exact hd
  have hd2 : d.slt 0#32 = false := by
    rw [← Bool.not_eq_true, BitVec.slt_iff_toInt_lt, h0]; omega
  rw [hd1, hd2]
  rcases lt_trichotomy x.toInt 0 with h | h | h
  · have e1 : (0#32).slt x = false := by rw [← Bool.not_eq_true, BitVec.slt_iff_toInt_lt, h0]; omega
    have e2 : x.slt 0#32 = true := by rw [BitVec.slt_iff_toInt_lt]; exact h
    rw [e1, e2]
    have : x.toInt ≤ 0 := h.le
    by_cases hm : x.toInt.tmod d.toInt = 0 <;> simp [this, hm] <;> decide
  · have e1 : (0#32).slt x = false := by rw [← Bool.not_eq_true, BitVec.slt_iff_toInt_lt, h0]; omega
    have e2 : x.slt 0#32 = false := by rw [← Bool.not_eq_true, BitVec.slt_iff_toInt_lt, h0]; omega
    rw [e1, e2, h]; simp; decide
  · have e1 : (0#32).slt x = true := by rw [BitVec.slt_iff_toInt_lt]; exact h
    have e2 : x.slt 0#32 = false := by rw [← Bool.not_eq_true, BitVec.slt_iff_toInt_lt, h0]; omega
    rw [e1, e2]
    have : ¬ x.toInt ≤ 0 := by omega
    by_cases hm : x.toInt.tmod d.toInt = 0 <;> simp [this, hm] <;> decide

/-- The kernel's quotient by a positive divisor is the floor. -/
theorem fdiv_toInt (x d : BitVec 32) (hd : 1 < d.toInt) : (fdiv x d).toInt = x.toInt / d.toInt := by
  have hc : ¬ IntOp.SDivCorner x d := by
    unfold IntOp.SDivCorner
    rintro (h | ⟨-, h⟩)
    · rw [h] at hd; exact absurd hd (by decide)
    · rw [h] at hd; exact absurd hd (by decide)
  have hlo := BitVec.le_toInt x
  have hhi := BitVec.toInt_lt (x := x)
  have key : ∀ a b : Int, 0 < b → a / b = if a ≤ 0 ∧ a.tmod b ≠ 0 then a.tdiv b - 1 else a.tdiv b := by
    intro a b hb
    rw [Int.tdiv_eq_ediv, Int.tmod_eq_emod]
    have hs : b.sign = 1 := Int.sign_eq_one_of_pos hb
    have hdv := Int.dvd_iff_emod_eq_zero (a := b) (b := a)
    have hnn := Int.emod_nonneg a hb.ne'
    have hlt := Int.emod_lt_of_pos a hb
    have hnat : (b.natAbs : Int) = b := by omega
    by_cases h : 0 ≤ a ∨ b ∣ a
    · rw [if_pos h, if_pos h]
      rcases h with h | h
      · rcases eq_or_lt_of_le h with h | h
        · subst h; simp
        · rw [if_neg (by omega)]; simp
      · rw [hdv.mp h]; simp
    · rw [if_neg h, if_neg h]
      push Not at h
      have : a % b ≠ 0 := fun hh => h.2 (hdv.mpr hh)
      rw [hs, if_pos ⟨h.1.le, by omega⟩]
      omega
  unfold fdiv Scalar.remsi Scalar.divsi IntOp.remsi IntOp.divsi
  rw [if_neg hc, if_neg hc, cond_aux x d (by omega), key x.toInt d.toInt (by omega)]
  have hq : -(2 ^ 31) ≤ x.toInt.tdiv d.toInt * 2 ∧ x.toInt.tdiv d.toInt * 2 < 2 ^ 31 := by
    have h1 := Int.natAbs_tdiv x.toInt d.toInt
    have h2 : (x.toInt.tdiv d.toInt).natAbs ≤ x.toInt.natAbs / 2 :=
      h1.le.trans (Nat.div_le_div_left (by omega) (by omega))
    have h3 : x.toInt.natAbs ≤ 2 ^ 31 := by omega
    have h4 : x.toInt.natAbs = 2 ^ 31 → x.toInt.tdiv d.toInt * 2 < 2 ^ 31 := by
      intro hx
      have : x.toInt ≤ 0 := by omega
      have h5 := Int.tdiv_nonneg (a := -x.toInt) (b := d.toInt) (by omega) (by omega)
      rw [Int.neg_tdiv] at h5
      omega
    omega
  have hdv : (x.sdiv d).toInt = x.toInt.tdiv d.toInt := by
    rw [BitVec.toInt_sdiv, Int.bmod_eq_of_le] <;> omega
  by_cases h : x.toInt ≤ 0 ∧ x.toInt.tmod d.toInt ≠ 0
  · rw [if_pos h, decide_eq_true h]
    show (x.sdiv d - 1#32).toInt = _
    rw [BitVec.toInt_sub, hdv, Int.bmod_eq_of_le] <;> simp <;> omega
  · rw [if_neg h, decide_eq_false h]
    exact hdv

/-- The first block of a run, -/
def blk0 (s : BitVec 32) : BitVec 32 := fdiv s 128#32
/-- and the number of its trips, as a word. -/
def nit (s e : BitVec 32) : BitVec 32 :=
  fdiv (Scalar.subi (Scalar.addi (Scalar.subi e (Scalar.muli (blk0 s) 128#32)) 256#32) 1#32) 256#32

variable {s e : BitVec 32}

theorem blk0_toInt (hs : s.toNat ≤ 28672) : (blk0 s).toInt = ((s.toNat / 128 : ℕ) : Int) := by
  rw [blk0, fdiv_toInt _ _ (by decide)]
  have : s.toInt = (s.toNat : Int) := by rw [BitVec.toInt_eq_toNat_of_lt]; omega
  have h : (128#32).toInt = 128 := rfl
  rw [this, h]; norm_cast

theorem blk0_eq (hs : s.toNat ≤ 28672) : blk0 s = BitVec.ofNat 32 (s.toNat / 128) := by
  apply BitVec.eq_of_toInt_eq
  rw [blk0_toInt hs, BitVec.toInt_eq_toNat_of_lt] <;> rw [BitVec.toNat_ofNat, Nat.mod_eq_of_lt] <;> omega

theorem nit_toInt (hs : s.toNat ≤ 28672) (he : e.toNat ≤ 28672) :
    (nit s e).toInt = ((e.toNat : Int) - 128 * (s.toNat / 128 : ℕ) + 255) / 256 := by
  rw [nit, fdiv_toInt _ _ (by decide)]
  have hE : e.toInt = (e.toNat : Int) := by rw [BitVec.toInt_eq_toNat_of_lt]; omega
  have h1 : (256#32).toInt = 256 := rfl
  have h2 : (128#32).toInt = 128 := rfl
  have h3 : (1#32).toInt = 1 := rfl
  have hb := blk0_toInt hs
  have m1 : (blk0 s * 128#32).toInt = 128 * ((s.toNat / 128 : ℕ) : Int) := by
    rw [BitVec.toInt_mul, hb, h2, Int.bmod_eq_of_le] <;> omega
  have m2 : (e - blk0 s * 128#32).toInt = (e.toNat : Int) - 128 * ((s.toNat / 128 : ℕ) : Int) := by
    rw [BitVec.toInt_sub, m1, hE, Int.bmod_eq_of_le] <;> omega
  have m3 : (e - blk0 s * 128#32 + 256#32).toInt = (e.toNat : Int) - 128 * ((s.toNat / 128 : ℕ) : Int) + 256 := by
    rw [BitVec.toInt_add, m2, h1, Int.bmod_eq_of_le] <;> omega
  have m4 : (e - blk0 s * 128#32 + 256#32 - 1#32).toInt = (e.toNat : Int) - 128 * ((s.toNat / 128 : ℕ) : Int) + 255 := by
    rw [BitVec.toInt_sub, m3, h3, Int.bmod_eq_of_le] <;> omega
  show (e - blk0 s * 128#32 + 256#32 - 1#32).toInt / _ = _
  rw [m4, h1]

/-- The loop's bounds: from 0 to the trip count by 1, spelled with a division by the step. -/
def loop1 (s e : BitVec 32) : Scf.Loop 32 :=
  ⟨0#32, Scalar.addi 0#32 (Scalar.muli (Scalar.divsi (Scalar.subi (nit s e) 0#32) 1#32) 1#32), 1#32⟩
/-- The rest of the loop after its last whole step: none is left. -/
def loop2 (s e : BitVec 32) : Scf.Loop 32 :=
  ⟨Scalar.addi 0#32 (Scalar.muli (Scalar.divsi (Scalar.subi (nit s e) 0#32) 1#32) 1#32),
    Scalar.addi 0#32 (Scalar.subi (nit s e) 0#32), 1#32⟩

theorem loop1_eq : loop1 s e = ⟨0#32, nit s e, 1#32⟩ := by
  unfold loop1
  rw [Scalar.muli_divsi_one]
  congr 1
  show 0#32 + (nit s e - 0#32) = nit s e
  simp

theorem loop2_eq : loop2 s e = ⟨nit s e, nit s e, 1#32⟩ := by
  unfold loop2
  rw [Scalar.muli_divsi_one]
  have : Scalar.addi 0#32 (Scalar.subi (nit s e) 0#32) = nit s e := by
    show 0#32 + (nit s e - 0#32) = nit s e
    simp
  rw [this]

/-- The number of trips, as a number. -/
theorem loop1_trips (hs : s.toNat ≤ 28672) (he : e.toNat ≤ 28672) :
    ((loop1 s e).trips : Int) = max 0 (((e.toNat : Int) - 128 * (s.toNat / 128 : ℕ) + 255) / 256) := by
  rw [loop1_eq]
  show ((Scf.trips 0#32 (nit s e) 1#32 : ℕ) : Int) = _
  unfold Scf.trips
  rw [nit_toInt hs he]
  have h0 : (0#32).toInt = 0 := rfl
  have h1 : (1#32).toInt = 1 := rfl
  rw [h0, h1, Int.ediv_one]
  omega

theorem loop1_ok (hs : s.toNat ≤ 28672) (he : e.toNat ≤ 28672) : (loop1 s e).OK := by
  have ht := loop1_trips hs he
  rw [loop1_eq] at ht ⊢
  refine ⟨(by decide : 0 < (1#32).toInt), ?_⟩
  have h0 : (0#32).toInt = 0 := rfl
  have h1 : (1#32).toInt = 1 := rfl
  show (0#32).toInt + ((Scf.trips 0#32 (nit s e) 1#32 : ℕ) : Int) * (1#32).toInt < _
  rw [h0, h1]
  have : ((Scf.trips 0#32 (nit s e) 1#32 : ℕ) : Int) = max 0 (((e.toNat : Int) - 128 * (s.toNat / 128 : ℕ) + 255) / 256) := ht
  rw [this]
  omega

theorem loop2_trips : (loop2 s e).trips = 0 := by
  rw [loop2_eq]; exact Scf.trips_self _

theorem loop2_ok (hs : s.toNat ≤ 28672) (he : e.toNat ≤ 28672) : (loop2 s e).OK := by
  have ht := loop2_trips (s := s) (e := e)
  refine ⟨by rw [loop2_eq]; exact (by decide : 0 < (1#32).toInt), ?_⟩
  show _ + (((loop2 s e).trips : ℕ) : Int) * _ < _
  rw [ht, loop2_eq]
  show (nit s e).toInt + _ < _
  rw [nit_toInt hs he]
  have h1 : (1#32).toInt = 1 := rfl
  simp only [Nat.cast_zero, zero_mul, add_zero]
  omega

/-- The block that trip `k` takes first, as a word, -/
def blkA (s : BitVec 32) (k : ℕ) : BitVec 32 := Scalar.addi (blk0 s) (Scalar.muli 2#32 (Scf.iv 0#32 1#32 k))
/-- and the block it takes second. -/
def blkB (s : BitVec 32) (k : ℕ) : BitVec 32 := Scalar.addi (blkA s k) 1#32

theorem blkA_eq (hs : s.toNat ≤ 28672) (k : ℕ) : blkA s k = BitVec.ofNat 32 (s.toNat / 128 + 2 * k) := by
  unfold blkA
  rw [blk0_eq hs]
  show BitVec.ofNat 32 (s.toNat / 128) + 2#32 * (0#32 + BitVec.ofNat 32 k * 1#32) = _
  rw [BitVec.mul_one, BitVec.zero_add, BitVec.ofNat_add, BitVec.ofNat_mul]

theorem blkB_eq (hs : s.toNat ≤ 28672) (k : ℕ) : blkB s k = BitVec.ofNat 32 (s.toNat / 128 + 2 * k + 1) := by
  unfold blkB
  rw [blkA_eq hs]
  show BitVec.ofNat 32 (s.toNat / 128 + 2 * k) + 1#32 = _
  rw [BitVec.ofNat_add (s.toNat / 128 + 2 * k) 1]

/-- Every block of a run is inside the table of pairs. -/
theorem blk_lt (hs : s.toNat ≤ 28672) (he : e.toNat ≤ 28672) (k : Fin (loop1 s e).trips) :
    s.toNat / 128 + 2 * k.val + 1 < 226 := by
  have h := loop1_trips hs he
  have hk := k.isLt
  have : (k.val : Int) + 1 ≤ (loop1 s e).trips := by omega
  rw [h] at this
  omega

theorem blkA_toNat (hs : s.toNat ≤ 28672) (he : e.toNat ≤ 28672) (k : Fin (loop1 s e).trips) :
    (blkA s k).toNat = s.toNat / 128 + 2 * k.val := by
  have := blk_lt hs he k
  rw [blkA_eq hs, BitVec.toNat_ofNat, Nat.mod_eq_of_lt (by omega)]

theorem blkB_toNat (hs : s.toNat ≤ 28672) (he : e.toNat ≤ 28672) (k : Fin (loop1 s e).trips) :
    (blkB s k).toNat = s.toNat / 128 + 2 * k.val + 1 := by
  have := blk_lt hs he k
  rw [blkB_eq hs, BitVec.toNat_ofNat, Nat.mod_eq_of_lt (by omega)]

end Cert.Words
-- ==== Proof.Words.Count.lean ====
module

public import Idealize.ShloMosaic.Lib.Pointwise
public import Idealize.ShloMosaic.Lib.IndicatorCount
public import Idealize.ShloMosaic.PureOps

/-!
A row of marks summed as words is the number of marks in the row.
-/

@[expose] public section

namespace Cert.Words

open Idealize.ShloMosaic

/-- The sum along the rows of a table of marks, each widened to a word, at row `v`: how many columns are marked. -/
theorem reduce_marks {R N : ℕ} (p : IVec ⟨2, ![R, N]⟩ 1) (hw : 1 < 32)
    (h : (⟨2, ![R, N]⟩ : Shape).ReducesTo [1] ⟨1, ![R]⟩) (hu : 0 < (⟨0, ![]⟩ : Shape).numel) (v : Fin R) :
    Host.reduce IntOp.addi (extui 32 p hw) (constantI ⟨0, ![]⟩ 32 0#32) h hu (ix1 v)
      = BitVec.ofNat 32 (Finset.univ.filter fun k : Fin N => p (ix2 v k) = 1#1).card := by
  classical
  rw [Host.reduce_eq_fold]
  have e := IndicatorCount.fold_addi_setWidth_eq_card (w := 32) p
    (Finset.univ.filter fun i : (⟨2, ![R, N]⟩ : Shape).Idx => h.drop i = ix1 v)
  refine Eq.trans e (congrArg (BitVec.ofNat 32) ?_)
  have hdrop : ∀ i : (⟨2, ![R, N]⟩ : Shape).Idx, h.drop i = ix1 v ↔ i 0 = v := by
    intro i
    have hv0 : (h.drop i 0 : Nat) = i 0 := Shape.ReducesTo.drop_apply_val h i 0
    constructor
    · intro e
      rw [e] at hv0
      exact Fin.ext hv0.symm
    · intro e1
      funext c
      match c with
      | ⟨0, _⟩ => exact Fin.ext (hv0.trans (congrArg Fin.val e1))
  have hback : ∀ i : (⟨2, ![R, N]⟩ : Shape).Idx, i 0 = v → ix2 v (i 1) = i := fun i hi => by
    funext c
    match c with
    | ⟨0, _⟩ => exact hi.symm
    | ⟨1, _⟩ => rfl
  refine Finset.card_bij' (fun i _ => i 1) (fun k _ => ix2 v k) ?_ ?_ ?_ ?_
  · intro i hi
    simp only [Finset.mem_filter, Finset.mem_univ, true_and] at hi
    refine Finset.mem_filter.2 ⟨Finset.mem_univ _, ?_⟩
    exact (congrArg p (hback i ((hdrop i).1 hi.1))).trans hi.2
  · intro k hk
    simp only [Finset.mem_filter, Finset.mem_univ, true_and] at hk ⊢
    exact ⟨(hdrop _).2 rfl, hk⟩
  · intro i hi
    simp only [Finset.mem_filter, Finset.mem_univ, true_and] at hi
    exact hback i ((hdrop i).1 hi.1)
  · intro k hk
    rfl

/-- So it is at most the number of columns. -/
theorem reduce_marks_le {R N : ℕ} (hN : N < 2 ^ 32) (p : IVec ⟨2, ![R, N]⟩ 1) (hw : 1 < 32)
    (h : (⟨2, ![R, N]⟩ : Shape).ReducesTo [1] ⟨1, ![R]⟩) (hu : 0 < (⟨0, ![]⟩ : Shape).numel)
    (j : (⟨1, ![R]⟩ : Shape).Idx) :
    (Host.reduce IntOp.addi (extui 32 p hw) (constantI ⟨0, ![]⟩ 32 0#32) h hu j).toNat ≤ N := by
  obtain ⟨v, rfl⟩ : ∃ v : Fin R, j = ix1 v := ⟨j 0, eq_ix1 j⟩
  rw [reduce_marks]
  have : (Finset.univ.filter fun k : Fin N => p (ix2 v k) = 1#1).card ≤ N := by
    simpa using Finset.card_le_univ (Finset.univ.filter fun k : Fin N => p (ix2 v k) = 1#1)
  rw [BitVec.toNat_ofNat, Nat.mod_eq_of_lt (by omega)]
  exact this

end Cert.Words
-- ==== Proof.KernelIdealHost.Line.lean ====
module

public import proofs.«01_k».proof.Proof.Line
public import proofs.«01_k».proof.Proof.Gen.KernelIdeal.Frame

/-!
The host lines before the launch, one step at a time. `line` is the list of host operations that run before the
kernel is launched and `written` the buffer each of them writes, in order. No buffer is written twice, so after the
whole line every buffer still holds the value its own operation computed from the values that the other buffers hold
after the whole line.
-/

@[expose] public section

set_option maxRecDepth 16384

noncomputable section

namespace Cert.KernelIdeal.HostLine

open Idealize.ShloMosaic Idealize.ShloMosaic.TcCoe Idealize.SL.Sem
open Cert.KernelIdeal Cert.KernelIdeal.Gen Cert.HostLine

variable {F : FTy → Type} [FloatOps F]

/-- The host operations before the launch, in order. -/
abbrev line : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14]

/-- The buffer that each operation of `line` writes. -/
def written : List (Ref sig .tc) := [main_v0, main_v1, main_cst, main_v2, main_v3, main_cst_0, main_v4, main_v5, main_cst_1, main_v6, main_v7, main_v8, main_v9, main_cst_2, main_v10, main_v11, main_cst_3, main_v12, main_v13, main_cst_4, main_v14, main_v15, main_v16, main_v17, main_v18, main_v19, main_cst_5, main_v20, main_v21, main_cst_6, main_v22, main_v23, main_cst_7, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_cst_8, main_v50, main_v51, main_cst_9, main_v52, main_v53, main_v54, main_v55, main_v56, main_v57, main_v58, main_v59, main_cst_10, main_v60, main_v61, main_v62, main_c, main_c_11, main_call0_v0, main_call0_v1, main_call0_v2, main_call0_v3, main_call0_v4, main_v63, main_cst_12, main_v64, main_v65, main_v66, main_c_13, main_c_14, main_call1_v0, main_call1_v1, main_call1_v2, main_call1_v3, main_call1_v4, main_v67, main_v68, main_v69, main_c_15, main_v70, main_v71, main_v72, main_v73, main_v74, main_v75, main_v76, main_c_16, main_v77, main_v78, main_v79, main_v80, main_v81, main_cst_17, main_v82, main_v83, main_v84, main_v85, main_c_18, main_v86, main_v87, main_c_19, main_v88, main_v89, main_v90, main_c_20, main_v91, main_v92, main_c_21, main_v93, main_v94, main_v95, main_v96, main_v97, main_v98, main_v99, main_v100, main_v101, main_c_22, main_v102, main_v103, main_v104, main_v105, main_v106, main_v107, main_c_23, main_v108, main_v109, main_call2_v0, main_v110, main_v111, main_v112, main_c_24, main_v113, main_v114, main_c_25, main_v115, main_v116, main_v117, main_v118, main_v119, main_v120, main_v121, main_v122, main_v123, main_v124, main_v125, main_v126, main_v127, main_v128, main_v129, main_v130, main_v131, main_c_26, main_v132, main_v133, main_c_27, main_v134, main_v135, main_v136, main_v137, main_v138, main_c_28, main_call4_v0, main_v139, main_v140, main_v141, main_v142, main_v143, main_v144, main_v145, main_v146, main_v147, main_v148, main_c_29, main_v149, main_v150, main_c_30, main_v151, main_v152, main_c_31, main_c_32, main_call5_v0, main_call5_v1, main_call5_v2, main_call5_v3, main_call5_v4, main_v153, main_c_33, main_v154, main_v155, main_c_34, main_c_35, main_call6_v0, main_call6_v1, main_call6_v2, main_call6_v3, main_call6_v4, main_v156, main_v157, main_c_36, main_v158, main_v159, main_v160, main_v161, main_v162, main_v163, main_c_37, main_v164, main_v165, main_c_38, main_v166, main_v167, main_v168, main_v169, main_v170, main_v171, main_v172, main_c_39, main_v173, main_v174, main_v175, main_v176, main_v177, main_v178, main_c_40, main_v179, main_v180, main_c_41, main_v181, main_v182, main_c_42, main_v183, main_v184, main_v185, main_v186, main_v187, main_v188, main_v189, main_c_43, main_v190, main_v191, main_v192, main_cst_44, main_v193, main_v194, main_c_45, main_v195, main_v196, main_v197, main_cst_46, main_v198, main_v199, main_v200, main_v201, main_v202, main_cst_47, main_v203, main_v204, main_v205, main_v206, main_v207, main_v208, main_v209, main_v210]

set_option maxHeartbeats 4000000 in
/-- `written` lists the writes of `line`. -/
theorem line_writes : (line (F := F)).map HloOp.writes = written.map (fun w => {Proc.devRef (τ := τ) .tc w}) := rfl

end Cert.KernelIdeal.HostLine
-- ==== Proof.KernelIdealHost.Vals.lean ====
module

public import proofs.«01_k».proof.Proof.KernelIdealHost.Line
public import Idealize.ShloMosaic.PureOps
public import proofs.«01_k».proof.Proof.Gen.KernelIdeal.Frame

/-!
What each buffer holds when the kernel is launched, named.
-/

@[expose] public section

set_option maxRecDepth 16384
set_option maxHeartbeats 400000

noncomputable section

namespace Cert.KernelIdeal.HostLine

open Idealize.ShloMosaic Idealize.ShloMosaic.TcCoe Idealize.SL.Sem
open Cert.KernelIdeal Cert.KernelIdeal.Gen Cert.HostLine

variable {F : FTy → Type} [FloatOps F]

variable (m : (ℓ : Loc nD τ sig) → Buf (Elt F) ℓ) (c : Dev nD)

/-- What a buffer holds when the kernel is launched. -/
@[irreducible] def held (b : Ref sig .tc) : b.ty.Contents (Elt F) := V m c b

theorem V_eq (b : Ref sig .tc) : V m c b = held m c b := by unfold held; rfl

theorem held_eq (b : Ref sig .tc) : held m c b = StableHlo.after line (fun b => m (c, b)) (Proc.devRef .tc b) := by
  unfold held; rfl

/-- What `main_arg0` holds when the kernel is launched. -/
def arg0 : (⟨S4096x2, .f32⟩ : BufTy).Contents (Elt F) := held m c main_arg0

/-- What `main_arg1` holds when the kernel is launched. -/
def arg1 : (⟨S4096x2, .f32⟩ : BufTy).Contents (Elt F) := held m c main_arg1

/-- What `main_arg2` holds when the kernel is launched. -/
def arg2 : (⟨S4096x1, .f32⟩ : BufTy).Contents (Elt F) := held m c main_arg2

/-- What `main_arg3` holds when the kernel is launched. -/
def arg3 : (⟨S4096x3, .f32⟩ : BufTy).Contents (Elt F) := held m c main_arg3

/-- What `main_arg4` holds when the kernel is launched. -/
def arg4 : (⟨S4096x1, .f32⟩ : BufTy).Contents (Elt F) := held m c main_arg4

/-- What `main_v0` holds when the kernel is launched. -/
def v0 : (⟨S4096x1, .f32⟩ : BufTy).Contents (Elt F) := held m c main_v0

/-- What `main_v1` holds when the kernel is launched. -/
def v1 : (⟨S4096, .f32⟩ : BufTy).Contents (Elt F) := held m c main_v1

/-- What `main_cst` holds when the kernel is launched. -/
def cst : (⟨S_, .f32⟩ : BufTy).Contents (Elt F) := held m c main_cst

/-- What `main_v2` holds when the kernel is launched. -/
def v2 : (⟨S4096, .f32⟩ : BufTy).Contents (Elt F) := held m c main_v2

/-- What `main_v3` holds when the kernel is launched. -/
def v3 : (⟨S4096, .f32⟩ : BufTy).Contents (Elt F) := held m c main_v3

/-- What `main_cst_0` holds when the kernel is launched. -/
def cst_0 : (⟨S_, .f32⟩ : BufTy).Contents (Elt F) := held m c main_cst_0

/-- What `main_v4` holds when the kernel is launched. -/
def v4 : (⟨S4096, .f32⟩ : BufTy).Contents (Elt F) := held m c main_v4

/-- What `main_v5` holds when the kernel is launched. -/
def v5 : (⟨S4096, .f32⟩ : BufTy).Contents (Elt F) := held m c main_v5

/-- What `main_cst_1` holds when the kernel is launched. -/
def cst_1 : (⟨S_, .f32⟩ : BufTy).Contents (Elt F) := held m c main_cst_1

/-- What `main_v6` holds when the kernel is launched. -/
def v6 : (⟨S4096, .f32⟩ : BufTy).Contents (Elt F) := held m c main_v6

/-- What `main_v7` holds when the kernel is launched. -/
def v7 : (⟨S4096, .f32⟩ : BufTy).Contents (Elt F) := held m c main_v7

/-- What `main_v8` holds when the kernel is launched. -/
def v8 : (⟨S4096x1, .f32⟩ : BufTy).Contents (Elt F) := held m c main_v8

/-- What `main_v9` holds when the kernel is launched. -/
def v9 : (⟨S4096, .f32⟩ : BufTy).Contents (Elt F) := held m c main_v9

/-- What `main_cst_2` holds when the kernel is launched. -/
def cst_2 : (⟨S_, .f32⟩ : BufTy).Contents (Elt F) := held m c main_cst_2

/-- What `main_v10` holds when the kernel is launched. -/
def v10 : (⟨S4096, .f32⟩ : BufTy).Contents (Elt F) := held m c main_v10

/-- What `main_v11` holds when the kernel is launched. -/
def v11 : (⟨S4096, .f32⟩ : BufTy).Contents (Elt F) := held m c main_v11

/-- What `main_cst_3` holds when the kernel is launched. -/
def cst_3 : (⟨S_, .f32⟩ : BufTy).Contents (Elt F) := held m c main_cst_3

/-- What `main_v12` holds when the kernel is launched. -/
def v12 : (⟨S4096, .f32⟩ : BufTy).Contents (Elt F) := held m c main_v12

/-- What `main_v13` holds when the kernel is launched. -/
def v13 : (⟨S4096, .f32⟩ : BufTy).Contents (Elt F) := held m c main_v13

/-- What `main_cst_4` holds when the kernel is launched. -/
def cst_4 : (⟨S_, .f32⟩ : BufTy).Contents (Elt F) := held m c main_cst_4

/-- What `main_v14` holds when the kernel is launched. -/
def v14 : (⟨S4096, .f32⟩ : BufTy).Contents (Elt F) := held m c main_v14

/-- What `main_v15` holds when the kernel is launched. -/
def v15 : (⟨S4096, .f32⟩ : BufTy).Contents (Elt F) := held m c main_v15

/-- What `main_v16` holds when the kernel is launched. -/
def v16 : (⟨S4096x2, .f32⟩ : BufTy).Contents (Elt F) := held m c main_v16

/-- What `main_v17` holds when the kernel is launched. -/
def v17 : (⟨S4096, .f32⟩ : BufTy).Contents (Elt F) := held m c main_v17

/-- What `main_v18` holds when the kernel is launched. -/
def v18 : (⟨S4096, .f32⟩ : BufTy).Contents (Elt F) := held m c main_v18

/-- What `main_v19` holds when the kernel is launched. -/
def v19 : (⟨S4096, .f32⟩ : BufTy).Contents (Elt F) := held m c main_v19

/-- What `main_cst_5` holds when the kernel is launched. -/
def cst_5 : (⟨S_, .f32⟩ : BufTy).Contents (Elt F) := held m c main_cst_5

/-- What `main_v20` holds when the kernel is launched. -/
def v20 : (⟨S4096, .f32⟩ : BufTy).Contents (Elt F) := held m c main_v20

/-- What `main_v21` holds when the kernel is launched. -/
def v21 : (⟨S4096, .f32⟩ : BufTy).Contents (Elt F) := held m c main_v21

/-- What `main_cst_6` holds when the kernel is launched. -/
def cst_6 : (⟨S_, .f32⟩ : BufTy).Contents (Elt F) := held m c main_cst_6

/-- What `main_v22` holds when the kernel is launched. -/
def v22 : (⟨S4096, .f32⟩ : BufTy).Contents (Elt F) := held m c main_v22

/-- What `main_v23` holds when the kernel is launched. -/
def v23 : (⟨S4096, .f32⟩ : BufTy).Contents (Elt F) := held m c main_v23

/-- What `main_cst_7` holds when the kernel is launched. -/
def cst_7 : (⟨S_, .f32⟩ : BufTy).Contents (Elt F) := held m c main_cst_7

/-- What `main_v24` holds when the kernel is launched. -/
def v24 : (⟨S4096, .f32⟩ : BufTy).Contents (Elt F) := held m c main_v24

/-- What `main_v25` holds when the kernel is launched. -/
def v25 : (⟨S4096, .f32⟩ : BufTy).Contents (Elt F) := held m c main_v25

/-- What `main_v26` holds when the kernel is launched. -/
def v26 : (⟨S4096, .f32⟩ : BufTy).Contents (Elt F) := held m c main_v26

/-- What `main_v27` holds when the kernel is launched. -/
def v27 : (⟨S4096, .f32⟩ : BufTy).Contents (Elt F) := held m c main_v27

/-- What `main_v28` holds when the kernel is launched. -/
def v28 : (⟨S4096x1, .f32⟩ : BufTy).Contents (Elt F) := held m c main_v28

/-- What `main_v29` holds when the kernel is launched. -/
def v29 : (⟨S4096, .f32⟩ : BufTy).Contents (Elt F) := held m c main_v29

/-- What `main_v30` holds when the kernel is launched. -/
def v30 : (⟨S4096, .f32⟩ : BufTy).Contents (Elt F) := held m c main_v30

/-- What `main_v31` holds when the kernel is launched. -/
def v31 : (⟨S4096x1, .f32⟩ : BufTy).Contents (Elt F) := held m c main_v31

/-- What `main_v32` holds when the kernel is launched. -/
def v32 : (⟨S4096, .f32⟩ : BufTy).Contents (Elt F) := held m c main_v32

/-- What `main_v33` holds when the kernel is launched. -/
def v33 : (⟨S4096, .f32⟩ : BufTy).Contents (Elt F) := held m c main_v33

/-- What `main_v34` holds when the kernel is launched. -/
def v34 : (⟨S4096, .f32⟩ : BufTy).Contents (Elt F) := held m c main_v34

/-- What `main_v35` holds when the kernel is launched. -/
def v35 : (⟨S4096, .f32⟩ : BufTy).Contents (Elt F) := held m c main_v35

/-- What `main_v36` holds when the kernel is launched. -/
def v36 : (⟨S4096, .f32⟩ : BufTy).Contents (Elt F) := held m c main_v36

/-- What `main_v37` holds when the kernel is launched. -/
def v37 : (⟨S4096, .f32⟩ : BufTy).Contents (Elt F) := held m c main_v37

/-- What `main_v38` holds when the kernel is launched. -/
def v38 : (⟨S4096, .f32⟩ : BufTy).Contents (Elt F) := held m c main_v38

/-- What `main_v39` holds when the kernel is launched. -/
def v39 : (⟨S4096, .f32⟩ : BufTy).Contents (Elt F) := held m c main_v39

/-- What `main_v40` holds when the kernel is launched. -/
def v40 : (⟨S4096, .f32⟩ : BufTy).Contents (Elt F) := held m c main_v40

/-- What `main_v41` holds when the kernel is launched. -/
def v41 : (⟨S4096, .f32⟩ : BufTy).Contents (Elt F) := held m c main_v41

/-- What `main_v42` holds when the kernel is launched. -/
def v42 : (⟨S4096, .f32⟩ : BufTy).Contents (Elt F) := held m c main_v42

/-- What `main_v43` holds when the kernel is launched. -/
def v43 : (⟨S4096, .f32⟩ : BufTy).Contents (Elt F) := held m c main_v43

/-- What `main_v44` holds when the kernel is launched. -/
def v44 : (⟨S4096, .f32⟩ : BufTy).Contents (Elt F) := held m c main_v44

/-- What `main_v45` holds when the kernel is launched. -/
def v45 : (⟨S4096, .f32⟩ : BufTy).Contents (Elt F) := held m c main_v45

/-- What `main_v46` holds when the kernel is launched. -/
def v46 : (⟨S4096, .f32⟩ : BufTy).Contents (Elt F) := held m c main_v46

/-- What `main_v47` holds when the kernel is launched. -/
def v47 : (⟨S4096, .f32⟩ : BufTy).Contents (Elt F) := held m c main_v47

/-- What `main_v48` holds when the kernel is launched. -/
def v48 : (⟨S4096, .f32⟩ : BufTy).Contents (Elt F) := held m c main_v48

/-- What `main_v49` holds when the kernel is launched. -/
def v49 : (⟨S4096, .f32⟩ : BufTy).Contents (Elt F) := held m c main_v49

/-- What `main_cst_8` holds when the kernel is launched. -/
def cst_8 : (⟨S_, .f32⟩ : BufTy).Contents (Elt F) := held m c main_cst_8

/-- What `main_v50` holds when the kernel is launched. -/
def v50 : (⟨S4096, .f32⟩ : BufTy).Contents (Elt F) := held m c main_v50

/-- What `main_v51` holds when the kernel is launched. -/
def v51 : (⟨S4096, .f32⟩ : BufTy).Contents (Elt F) := held m c main_v51

/-- What `main_cst_9` holds when the kernel is launched. -/
def cst_9 : (⟨S_, .f32⟩ : BufTy).Contents (Elt F) := held m c main_cst_9

/-- What `main_v52` holds when the kernel is launched. -/
def v52 : (⟨S4096, .f32⟩ : BufTy).Contents (Elt F) := held m c main_v52

/-- What `main_v53` holds when the kernel is launched. -/
def v53 : (⟨S4096, .f32⟩ : BufTy).Contents (Elt F) := held m c main_v53

/-- What `main_v54` holds when the kernel is launched. -/
def v54 : (⟨S4096, .f32⟩ : BufTy).Contents (Elt F) := held m c main_v54

/-- What `main_v55` holds when the kernel is launched. -/
def v55 : (⟨S4096, .f32⟩ : BufTy).Contents (Elt F) := held m c main_v55

/-- What `main_v56` holds when the kernel is launched. -/
def v56 : (⟨S4096, .f32⟩ : BufTy).Contents (Elt F) := held m c main_v56

/-- What `main_v57` holds when the kernel is launched. -/
def v57 : (⟨S4096, .f32⟩ : BufTy).Contents (Elt F) := held m c main_v57

/-- What `main_v58` holds when the kernel is launched. -/
def v58 : (⟨S4096x3, .f32⟩ : BufTy).Contents (Elt F) := held m c main_v58

/-- What `main_v59` holds when the kernel is launched. -/
def v59 : (⟨S4096x3, .f32⟩ : BufTy).Contents (Elt F) := held m c main_v59

/-- What `main_cst_10` holds when the kernel is launched. -/
def cst_10 : (⟨S_, .f32⟩ : BufTy).Contents (Elt F) := held m c main_cst_10

/-- What `main_v60` holds when the kernel is launched. -/
def v60 : (⟨S4096, .f32⟩ : BufTy).Contents (Elt F) := held m c main_v60

/-- What `main_v61` holds when the kernel is launched. -/
def v61 : (⟨S4096, .f32⟩ : BufTy).Contents (Elt F) := held m c main_v61

/-- What `main_v62` holds when the kernel is launched. -/
def v62 : (⟨S4096, .i32⟩ : BufTy).Contents (Elt F) := held m c main_v62

/-- What `main_c` holds when the kernel is launched. -/
def c0 : (⟨S_, .i32⟩ : BufTy).Contents (Elt F) := held m c main_c

/-- What `main_c_11` holds when the kernel is launched. -/
def c_11 : (⟨S_, .i32⟩ : BufTy).Contents (Elt F) := held m c main_c_11

/-- What `main_call0_v0` holds when the kernel is launched. -/
def call0_v0 : (⟨S_, .i32⟩ : BufTy).Contents (Elt F) := held m c main_call0_v0

/-- What `main_call0_v1` holds when the kernel is launched. -/
def call0_v1 : (⟨S4096, .i32⟩ : BufTy).Contents (Elt F) := held m c main_call0_v1

/-- What `main_call0_v2` holds when the kernel is launched. -/
def call0_v2 : (⟨S4096, .i32⟩ : BufTy).Contents (Elt F) := held m c main_call0_v2

/-- What `main_call0_v3` holds when the kernel is launched. -/
def call0_v3 : (⟨S_, .i32⟩ : BufTy).Contents (Elt F) := held m c main_call0_v3

/-- What `main_call0_v4` holds when the kernel is launched. -/
def call0_v4 : (⟨S4096, .i32⟩ : BufTy).Contents (Elt F) := held m c main_call0_v4

/-- What `main_v63` holds when the kernel is launched. -/
def v63 : (⟨S4096, .i32⟩ : BufTy).Contents (Elt F) := held m c main_v63

/-- What `main_cst_12` holds when the kernel is launched. -/
def cst_12 : (⟨S_, .f32⟩ : BufTy).Contents (Elt F) := held m c main_cst_12

/-- What `main_v64` holds when the kernel is launched. -/
def v64 : (⟨S4096, .f32⟩ : BufTy).Contents (Elt F) := held m c main_v64

/-- What `main_v65` holds when the kernel is launched. -/
def v65 : (⟨S4096, .f32⟩ : BufTy).Contents (Elt F) := held m c main_v65

/-- What `main_v66` holds when the kernel is launched. -/
def v66 : (⟨S4096, .i32⟩ : BufTy).Contents (Elt F) := held m c main_v66

/-- What `main_c_13` holds when the kernel is launched. -/
def c_13 : (⟨S_, .i32⟩ : BufTy).Contents (Elt F) := held m c main_c_13

/-- What `main_c_14` holds when the kernel is launched. -/
def c_14 : (⟨S_, .i32⟩ : BufTy).Contents (Elt F) := held m c main_c_14

/-- What `main_call1_v0` holds when the kernel is launched. -/
def call1_v0 : (⟨S_, .i32⟩ : BufTy).Contents (Elt F) := held m c main_call1_v0

/-- What `main_call1_v1` holds when the kernel is launched. -/
def call1_v1 : (⟨S4096, .i32⟩ : BufTy).Contents (Elt F) := held m c main_call1_v1

/-- What `main_call1_v2` holds when the kernel is launched. -/
def call1_v2 : (⟨S4096, .i32⟩ : BufTy).Contents (Elt F) := held m c main_call1_v2

/-- What `main_call1_v3` holds when the kernel is launched. -/
def call1_v3 : (⟨S_, .i32⟩ : BufTy).Contents (Elt F) := held m c main_call1_v3

/-- What `main_call1_v4` holds when the kernel is launched. -/
def call1_v4 : (⟨S4096, .i32⟩ : BufTy).Contents (Elt F) := held m c main_call1_v4

/-- What `main_v67` holds when the kernel is launched. -/
def v67 : (⟨S4096, .i32⟩ : BufTy).Contents (Elt F) := held m c main_v67

/-- What `main_v68` holds when the kernel is launched. -/
def v68 : (⟨S4096, .i32⟩ : BufTy).Contents (Elt F) := held m c main_v68

/-- What `main_v69` holds when the kernel is launched. -/
def v69 : (⟨S7, .i32⟩ : BufTy).Contents (Elt F) := held m c main_v69

/-- What `main_c_15` holds when the kernel is launched. -/
def c_15 : (⟨S_, .i32⟩ : BufTy).Contents (Elt F) := held m c main_c_15

/-- What `main_v70` holds when the kernel is launched. -/
def v70 : (⟨S7, .i32⟩ : BufTy).Contents (Elt F) := held m c main_v70

/-- What `main_v71` holds when the kernel is launched. -/
def v71 : (⟨S7, .i32⟩ : BufTy).Contents (Elt F) := held m c main_v71

/-- What `main_v72` holds when the kernel is launched. -/
def v72 : (⟨S4096x1, .i32⟩ : BufTy).Contents (Elt F) := held m c main_v72

/-- What `main_v73` holds when the kernel is launched. -/
def v73 : (⟨S1x7, .i32⟩ : BufTy).Contents (Elt F) := held m c main_v73

/-- What `main_v74` holds when the kernel is launched. -/
def v74 : (⟨S4096x7, .i32⟩ : BufTy).Contents (Elt F) := held m c main_v74

/-- What `main_v75` holds when the kernel is launched. -/
def v75 : (⟨S4096x7, .i32⟩ : BufTy).Contents (Elt F) := held m c main_v75

/-- What `main_v76` holds when the kernel is launched. -/
def v76 : (⟨S4096x7, .i32⟩ : BufTy).Contents (Elt F) := held m c main_v76

/-- What `main_c_16` holds when the kernel is launched. -/
def c_16 : (⟨S_, .i32⟩ : BufTy).Contents (Elt F) := held m c main_c_16

/-- What `main_v77` holds when the kernel is launched. -/
def v77 : (⟨S4096x7, .i32⟩ : BufTy).Contents (Elt F) := held m c main_v77

/-- What `main_v78` holds when the kernel is launched. -/
def v78 : (⟨S4096x7, .i32⟩ : BufTy).Contents (Elt F) := held m c main_v78

/-- What `main_v79` holds when the kernel is launched. -/
def v79 : (⟨S4096x1, .i32⟩ : BufTy).Contents (Elt F) := held m c main_v79

/-- What `main_v80` holds when the kernel is launched. -/
def v80 : (⟨S4096x7, .i32⟩ : BufTy).Contents (Elt F) := held m c main_v80

/-- What `main_v81` holds when the kernel is launched. -/
def v81 : (⟨S4096x7, .i32⟩ : BufTy).Contents (Elt F) := held m c main_v81

/-- What `main_cst_17` holds when the kernel is launched. -/
def cst_17 : (⟨S_, .f32⟩ : BufTy).Contents (Elt F) := held m c main_cst_17

/-- What `main_v82` holds when the kernel is launched. -/
def v82 : (⟨S4096, .f32⟩ : BufTy).Contents (Elt F) := held m c main_v82

/-- What `main_v83` holds when the kernel is launched. -/
def v83 : (⟨S4096, .f32⟩ : BufTy).Contents (Elt F) := held m c main_v83

/-- What `main_v84` holds when the kernel is launched. -/
def v84 : (⟨S4096, .f32⟩ : BufTy).Contents (Elt F) := held m c main_v84

/-- What `main_v85` holds when the kernel is launched. -/
def v85 : (⟨S7, .i32⟩ : BufTy).Contents (Elt F) := held m c main_v85

/-- What `main_c_18` holds when the kernel is launched. -/
def c_18 : (⟨S_, .i32⟩ : BufTy).Contents (Elt F) := held m c main_c_18

/-- What `main_v86` holds when the kernel is launched. -/
def v86 : (⟨S7, .i32⟩ : BufTy).Contents (Elt F) := held m c main_v86

/-- What `main_v87` holds when the kernel is launched. -/
def v87 : (⟨S7, .i32⟩ : BufTy).Contents (Elt F) := held m c main_v87

/-- What `main_c_19` holds when the kernel is launched. -/
def c_19 : (⟨S_, .i32⟩ : BufTy).Contents (Elt F) := held m c main_c_19

/-- What `main_v88` holds when the kernel is launched. -/
def v88 : (⟨S7, .i32⟩ : BufTy).Contents (Elt F) := held m c main_v88

/-- What `main_v89` holds when the kernel is launched. -/
def v89 : (⟨S7, .i32⟩ : BufTy).Contents (Elt F) := held m c main_v89

/-- What `main_v90` holds when the kernel is launched. -/
def v90 : (⟨S7, .f32⟩ : BufTy).Contents (Elt F) := held m c main_v90

/-- What `main_c_20` holds when the kernel is launched. -/
def c_20 : (⟨S_, .i32⟩ : BufTy).Contents (Elt F) := held m c main_c_20

/-- What `main_v91` holds when the kernel is launched. -/
def v91 : (⟨S4096x7, .i32⟩ : BufTy).Contents (Elt F) := held m c main_v91

/-- What `main_v92` holds when the kernel is launched. -/
def v92 : (⟨S4096x7, .i1⟩ : BufTy).Contents (Elt F) := held m c main_v92

/-- What `main_c_21` holds when the kernel is launched. -/
def c_21 : (⟨S_, .i32⟩ : BufTy).Contents (Elt F) := held m c main_c_21

/-- What `main_v93` holds when the kernel is launched. -/
def v93 : (⟨S4096x7, .i32⟩ : BufTy).Contents (Elt F) := held m c main_v93

/-- What `main_v94` holds when the kernel is launched. -/
def v94 : (⟨S4096x7, .i1⟩ : BufTy).Contents (Elt F) := held m c main_v94

/-- What `main_v95` holds when the kernel is launched. -/
def v95 : (⟨S4096x7, .i1⟩ : BufTy).Contents (Elt F) := held m c main_v95

/-- What `main_v96` holds when the kernel is launched. -/
def v96 : (⟨S4096x1, .f32⟩ : BufTy).Contents (Elt F) := held m c main_v96

/-- What `main_v97` holds when the kernel is launched. -/
def v97 : (⟨S1x7, .f32⟩ : BufTy).Contents (Elt F) := held m c main_v97

/-- What `main_v98` holds when the kernel is launched. -/
def v98 : (⟨S4096x7, .f32⟩ : BufTy).Contents (Elt F) := held m c main_v98

/-- What `main_v99` holds when the kernel is launched. -/
def v99 : (⟨S4096x7, .f32⟩ : BufTy).Contents (Elt F) := held m c main_v99

/-- What `main_v100` holds when the kernel is launched. -/
def v100 : (⟨S4096x7, .i1⟩ : BufTy).Contents (Elt F) := held m c main_v100

/-- What `main_v101` holds when the kernel is launched. -/
def v101 : (⟨S4096x7, .i1⟩ : BufTy).Contents (Elt F) := held m c main_v101

/-- What `main_c_22` holds when the kernel is launched. -/
def c_22 : (⟨S_, .i32⟩ : BufTy).Contents (Elt F) := held m c main_c_22

/-- What `main_v102` holds when the kernel is launched. -/
def v102 : (⟨S4096x7, .i32⟩ : BufTy).Contents (Elt F) := held m c main_v102

/-- What `main_v103` holds when the kernel is launched. -/
def v103 : (⟨S4096x7, .i32⟩ : BufTy).Contents (Elt F) := held m c main_v103

/-- What `main_v104` holds when the kernel is launched. -/
def v104 : (⟨S4096x1, .i32⟩ : BufTy).Contents (Elt F) := held m c main_v104

/-- What `main_v105` holds when the kernel is launched. -/
def v105 : (⟨S4096x7, .i32⟩ : BufTy).Contents (Elt F) := held m c main_v105

/-- What `main_v106` holds when the kernel is launched. -/
def v106 : (⟨S4096x7, .i32⟩ : BufTy).Contents (Elt F) := held m c main_v106

/-- What `main_v107` holds when the kernel is launched. -/
def v107 : (⟨S4096x1, .i32⟩ : BufTy).Contents (Elt F) := held m c main_v107

/-- What `main_c_23` holds when the kernel is launched. -/
def c_23 : (⟨S_, .i32⟩ : BufTy).Contents (Elt F) := held m c main_c_23

/-- What `main_v108` holds when the kernel is launched. -/
def v108 : (⟨S4096x1, .i32⟩ : BufTy).Contents (Elt F) := held m c main_v108

/-- What `main_v109` holds when the kernel is launched. -/
def v109 : (⟨S4096x1, .i32⟩ : BufTy).Contents (Elt F) := held m c main_v109

/-- What `main_call2_v0` holds when the kernel is launched. -/
def call2_v0 : (⟨S4096x7, .i32⟩ : BufTy).Contents (Elt F) := held m c main_call2_v0

/-- What `main_v110` holds when the kernel is launched. -/
def v110 : (⟨S4096x7, .i32⟩ : BufTy).Contents (Elt F) := held m c main_v110

/-- What `main_v111` holds when the kernel is launched. -/
def v111 : (⟨S28672, .i32⟩ : BufTy).Contents (Elt F) := held m c main_v111

/-- What `main_v112` holds when the kernel is launched. -/
def v112 : (⟨S28672, .i32⟩ : BufTy).Contents (Elt F) := held m c main_v112

/-- What `main_c_24` holds when the kernel is launched. -/
def c_24 : (⟨S_, .i32⟩ : BufTy).Contents (Elt F) := held m c main_c_24

/-- What `main_v113` holds when the kernel is launched. -/
def v113 : (⟨S28672, .i32⟩ : BufTy).Contents (Elt F) := held m c main_v113

/-- What `main_v114` holds when the kernel is launched. -/
def v114 : (⟨S28672, .i32⟩ : BufTy).Contents (Elt F) := held m c main_v114

/-- What `main_c_25` holds when the kernel is launched. -/
def c_25 : (⟨S_, .i32⟩ : BufTy).Contents (Elt F) := held m c main_c_25

/-- What `main_v115` holds when the kernel is launched. -/
def v115 : (⟨S28672, .i32⟩ : BufTy).Contents (Elt F) := held m c main_v115

/-- What `main_v116` holds when the kernel is launched. -/
def v116 : (⟨S28672, .i32⟩ : BufTy).Contents (Elt F) := held m c main_v116

/-- What `main_v117` holds when the kernel is launched. -/
def v117 : (⟨S4096x1, .f32⟩ : BufTy).Contents (Elt F) := held m c main_v117

/-- What `main_v118` holds when the kernel is launched. -/
def v118 : (⟨S4096, .f32⟩ : BufTy).Contents (Elt F) := held m c main_v118

/-- What `main_v119` holds when the kernel is launched. -/
def v119 : (⟨S4096x1, .f32⟩ : BufTy).Contents (Elt F) := held m c main_v119

/-- What `main_v120` holds when the kernel is launched. -/
def v120 : (⟨S4096, .f32⟩ : BufTy).Contents (Elt F) := held m c main_v120

/-- What `main_v121` holds when the kernel is launched. -/
def v121 : (⟨S4096x1, .f32⟩ : BufTy).Contents (Elt F) := held m c main_v121

/-- What `main_v122` holds when the kernel is launched. -/
def v122 : (⟨S4096, .f32⟩ : BufTy).Contents (Elt F) := held m c main_v122

/-- What `main_v123` holds when the kernel is launched. -/
def v123 : (⟨S4096x1, .f32⟩ : BufTy).Contents (Elt F) := held m c main_v123

/-- What `main_v124` holds when the kernel is launched. -/
def v124 : (⟨S4096x1, .f32⟩ : BufTy).Contents (Elt F) := held m c main_v124

/-- What `main_v125` holds when the kernel is launched. -/
def v125 : (⟨S4096x1, .f32⟩ : BufTy).Contents (Elt F) := held m c main_v125

/-- What `main_v126` holds when the kernel is launched. -/
def v126 : (⟨S4096x1, .f32⟩ : BufTy).Contents (Elt F) := held m c main_v126

/-- What `main_v127` holds when the kernel is launched. -/
def v127 : (⟨S4096x1, .f32⟩ : BufTy).Contents (Elt F) := held m c main_v127

/-- What `main_v128` holds when the kernel is launched. -/
def v128 : (⟨S4096x1, .f32⟩ : BufTy).Contents (Elt F) := held m c main_v128

/-- What `main_v129` holds when the kernel is launched. -/
def v129 : (⟨S4096x1, .f32⟩ : BufTy).Contents (Elt F) := held m c main_v129

/-- What `main_v130` holds when the kernel is launched. -/
def v130 : (⟨S4096x1, .f32⟩ : BufTy).Contents (Elt F) := held m c main_v130

/-- What `main_v131` holds when the kernel is launched. -/
def v131 : (⟨S4096x8, .f32⟩ : BufTy).Contents (Elt F) := held m c main_v131

/-- What `main_c_26` holds when the kernel is launched. -/
def c_26 : (⟨S_, .i32⟩ : BufTy).Contents (Elt F) := held m c main_c_26

/-- What `main_v132` holds when the kernel is launched. -/
def v132 : (⟨S28672, .i32⟩ : BufTy).Contents (Elt F) := held m c main_v132

/-- What `main_v133` holds when the kernel is launched. -/
def v133 : (⟨S28672, .i1⟩ : BufTy).Contents (Elt F) := held m c main_v133

/-- What `main_c_27` holds when the kernel is launched. -/
def c_27 : (⟨S_, .i32⟩ : BufTy).Contents (Elt F) := held m c main_c_27

/-- What `main_v134` holds when the kernel is launched. -/
def v134 : (⟨S28672, .i32⟩ : BufTy).Contents (Elt F) := held m c main_v134

/-- What `main_v135` holds when the kernel is launched. -/
def v135 : (⟨S28672, .i32⟩ : BufTy).Contents (Elt F) := held m c main_v135

/-- What `main_v136` holds when the kernel is launched. -/
def v136 : (⟨S28672, .i32⟩ : BufTy).Contents (Elt F) := held m c main_v136

/-- What `main_v137` holds when the kernel is launched. -/
def v137 : (⟨S28672x1, .i32⟩ : BufTy).Contents (Elt F) := held m c main_v137

/-- What `main_v138` holds when the kernel is launched. -/
def v138 : (⟨S28672x8, .f32⟩ : BufTy).Contents (Elt F) := held m c main_v138

/-- What `main_c_28` holds when the kernel is launched. -/
def c_28 : (⟨S_, .i32⟩ : BufTy).Contents (Elt F) := held m c main_c_28

/-- What `main_call4_v0` holds when the kernel is launched. -/
def call4_v0 : (⟨S_, .f32⟩ : BufTy).Contents (Elt F) := held m c main_call4_v0

/-- What `main_v139` holds when the kernel is launched. -/
def v139 : (⟨S28928x8, .f32⟩ : BufTy).Contents (Elt F) := held m c main_v139

/-- What `main_v140` holds when the kernel is launched. -/
def v140 : (⟨S226x128x8, .f32⟩ : BufTy).Contents (Elt F) := held m c main_v140

/-- What `main_v141` holds when the kernel is launched. -/
def v141 : (⟨S226x8x128, .f32⟩ : BufTy).Contents (Elt F) := held m c main_v141

/-- What `main_v142` holds when the kernel is launched. -/
def v142 : (⟨S1x28672, .i32⟩ : BufTy).Contents (Elt F) := held m c main_v142

/-- What `main_v143` holds when the kernel is launched. -/
def v143 : (⟨S257, .i32⟩ : BufTy).Contents (Elt F) := held m c main_v143

/-- What `main_v144` holds when the kernel is launched. -/
def v144 : (⟨S257x1, .i32⟩ : BufTy).Contents (Elt F) := held m c main_v144

/-- What `main_v145` holds when the kernel is launched. -/
def v145 : (⟨S257x28672, .i32⟩ : BufTy).Contents (Elt F) := held m c main_v145

/-- What `main_v146` holds when the kernel is launched. -/
def v146 : (⟨S257x28672, .i32⟩ : BufTy).Contents (Elt F) := held m c main_v146

/-- What `main_v147` holds when the kernel is launched. -/
def v147 : (⟨S257x28672, .i1⟩ : BufTy).Contents (Elt F) := held m c main_v147

/-- What `main_v148` holds when the kernel is launched. -/
def v148 : (⟨S257x28672, .i32⟩ : BufTy).Contents (Elt F) := held m c main_v148

/-- What `main_c_29` holds when the kernel is launched. -/
def c_29 : (⟨S_, .i32⟩ : BufTy).Contents (Elt F) := held m c main_c_29

/-- What `main_v149` holds when the kernel is launched. -/
def v149 : (⟨S257, .i32⟩ : BufTy).Contents (Elt F) := held m c main_v149

/-- What `main_v150` holds when the kernel is launched. -/
def v150 : (⟨S16, .i32⟩ : BufTy).Contents (Elt F) := held m c main_v150

/-- What `main_c_30` holds when the kernel is launched. -/
def c_30 : (⟨S_, .i32⟩ : BufTy).Contents (Elt F) := held m c main_c_30

/-- What `main_v151` holds when the kernel is launched. -/
def v151 : (⟨S16, .i32⟩ : BufTy).Contents (Elt F) := held m c main_v151

/-- What `main_v152` holds when the kernel is launched. -/
def v152 : (⟨S16, .i32⟩ : BufTy).Contents (Elt F) := held m c main_v152

/-- What `main_c_31` holds when the kernel is launched. -/
def c_31 : (⟨S_, .i32⟩ : BufTy).Contents (Elt F) := held m c main_c_31

/-- What `main_c_32` holds when the kernel is launched. -/
def c_32 : (⟨S_, .i32⟩ : BufTy).Contents (Elt F) := held m c main_c_32

/-- What `main_call5_v0` holds when the kernel is launched. -/
def call5_v0 : (⟨S_, .i32⟩ : BufTy).Contents (Elt F) := held m c main_call5_v0

/-- What `main_call5_v1` holds when the kernel is launched. -/
def call5_v1 : (⟨S16, .i32⟩ : BufTy).Contents (Elt F) := held m c main_call5_v1

/-- What `main_call5_v2` holds when the kernel is launched. -/
def call5_v2 : (⟨S16, .i32⟩ : BufTy).Contents (Elt F) := held m c main_call5_v2

/-- What `main_call5_v3` holds when the kernel is launched. -/
def call5_v3 : (⟨S_, .i32⟩ : BufTy).Contents (Elt F) := held m c main_call5_v3

/-- What `main_call5_v4` holds when the kernel is launched. -/
def call5_v4 : (⟨S16, .i32⟩ : BufTy).Contents (Elt F) := held m c main_call5_v4

/-- What `main_v153` holds when the kernel is launched. -/
def v153 : (⟨S16, .i32⟩ : BufTy).Contents (Elt F) := held m c main_v153

/-- What `main_c_33` holds when the kernel is launched. -/
def c_33 : (⟨S_, .i32⟩ : BufTy).Contents (Elt F) := held m c main_c_33

/-- What `main_v154` holds when the kernel is launched. -/
def v154 : (⟨S16, .i32⟩ : BufTy).Contents (Elt F) := held m c main_v154

/-- What `main_v155` holds when the kernel is launched. -/
def v155 : (⟨S16, .i32⟩ : BufTy).Contents (Elt F) := held m c main_v155

/-- What `main_c_34` holds when the kernel is launched. -/
def c_34 : (⟨S_, .i32⟩ : BufTy).Contents (Elt F) := held m c main_c_34

/-- What `main_c_35` holds when the kernel is launched. -/
def c_35 : (⟨S_, .i32⟩ : BufTy).Contents (Elt F) := held m c main_c_35

/-- What `main_call6_v0` holds when the kernel is launched. -/
def call6_v0 : (⟨S_, .i32⟩ : BufTy).Contents (Elt F) := held m c main_call6_v0

/-- What `main_call6_v1` holds when the kernel is launched. -/
def call6_v1 : (⟨S16, .i32⟩ : BufTy).Contents (Elt F) := held m c main_call6_v1

/-- What `main_call6_v2` holds when the kernel is launched. -/
def call6_v2 : (⟨S16, .i32⟩ : BufTy).Contents (Elt F) := held m c main_call6_v2

/-- What `main_call6_v3` holds when the kernel is launched. -/
def call6_v3 : (⟨S_, .i32⟩ : BufTy).Contents (Elt F) := held m c main_call6_v3

/-- What `main_call6_v4` holds when the kernel is launched. -/
def call6_v4 : (⟨S16, .i32⟩ : BufTy).Contents (Elt F) := held m c main_call6_v4

/-- What `main_v156` holds when the kernel is launched. -/
def v156 : (⟨S16, .i32⟩ : BufTy).Contents (Elt F) := held m c main_v156

/-- What `main_v157` holds when the kernel is launched. -/
def v157 : (⟨S16x1, .i32⟩ : BufTy).Contents (Elt F) := held m c main_v157

/-- What `main_c_36` holds when the kernel is launched. -/
def c_36 : (⟨S_, .i32⟩ : BufTy).Contents (Elt F) := held m c main_c_36

/-- What `main_v158` holds when the kernel is launched. -/
def v158 : (⟨S16x1, .i32⟩ : BufTy).Contents (Elt F) := held m c main_v158

/-- What `main_v159` holds when the kernel is launched. -/
def v159 : (⟨S16x1, .i32⟩ : BufTy).Contents (Elt F) := held m c main_v159

/-- What `main_v160` holds when the kernel is launched. -/
def v160 : (⟨S1x16, .i32⟩ : BufTy).Contents (Elt F) := held m c main_v160

/-- What `main_v161` holds when the kernel is launched. -/
def v161 : (⟨S16x16, .i32⟩ : BufTy).Contents (Elt F) := held m c main_v161

/-- What `main_v162` holds when the kernel is launched. -/
def v162 : (⟨S16x16, .i32⟩ : BufTy).Contents (Elt F) := held m c main_v162

/-- What `main_v163` holds when the kernel is launched. -/
def v163 : (⟨S16x16, .i32⟩ : BufTy).Contents (Elt F) := held m c main_v163

/-- What `main_c_37` holds when the kernel is launched. -/
def c_37 : (⟨S_, .i32⟩ : BufTy).Contents (Elt F) := held m c main_c_37

/-- What `main_v164` holds when the kernel is launched. -/
def v164 : (⟨S16x16, .i32⟩ : BufTy).Contents (Elt F) := held m c main_v164

/-- What `main_v165` holds when the kernel is launched. -/
def v165 : (⟨S16x16, .i1⟩ : BufTy).Contents (Elt F) := held m c main_v165

/-- What `main_c_38` holds when the kernel is launched. -/
def c_38 : (⟨S_, .i32⟩ : BufTy).Contents (Elt F) := held m c main_c_38

/-- What `main_v166` holds when the kernel is launched. -/
def v166 : (⟨S16x16, .i32⟩ : BufTy).Contents (Elt F) := held m c main_v166

/-- What `main_v167` holds when the kernel is launched. -/
def v167 : (⟨S16x16, .i32⟩ : BufTy).Contents (Elt F) := held m c main_v167

/-- What `main_v168` holds when the kernel is launched. -/
def v168 : (⟨S16x16, .i32⟩ : BufTy).Contents (Elt F) := held m c main_v168

/-- What `main_v169` holds when the kernel is launched. -/
def v169 : (⟨S16x16x1, .i32⟩ : BufTy).Contents (Elt F) := held m c main_v169

/-- What `main_v170` holds when the kernel is launched. -/
def v170 : (⟨S16x16, .i32⟩ : BufTy).Contents (Elt F) := held m c main_v170

/-- What `main_v171` holds when the kernel is launched. -/
def v171 : (⟨S256, .i32⟩ : BufTy).Contents (Elt F) := held m c main_v171

/-- What `main_v172` holds when the kernel is launched. -/
def v172 : (⟨S16x1, .i32⟩ : BufTy).Contents (Elt F) := held m c main_v172

/-- What `main_c_39` holds when the kernel is launched. -/
def c_39 : (⟨S_, .i32⟩ : BufTy).Contents (Elt F) := held m c main_c_39

/-- What `main_v173` holds when the kernel is launched. -/
def v173 : (⟨S16x1, .i32⟩ : BufTy).Contents (Elt F) := held m c main_v173

/-- What `main_v174` holds when the kernel is launched. -/
def v174 : (⟨S16x1, .i32⟩ : BufTy).Contents (Elt F) := held m c main_v174

/-- What `main_v175` holds when the kernel is launched. -/
def v175 : (⟨S1x16, .i32⟩ : BufTy).Contents (Elt F) := held m c main_v175

/-- What `main_v176` holds when the kernel is launched. -/
def v176 : (⟨S16x16, .i32⟩ : BufTy).Contents (Elt F) := held m c main_v176

/-- What `main_v177` holds when the kernel is launched. -/
def v177 : (⟨S16x16, .i32⟩ : BufTy).Contents (Elt F) := held m c main_v177

/-- What `main_v178` holds when the kernel is launched. -/
def v178 : (⟨S16x16, .i32⟩ : BufTy).Contents (Elt F) := held m c main_v178

/-- What `main_c_40` holds when the kernel is launched. -/
def c_40 : (⟨S_, .i32⟩ : BufTy).Contents (Elt F) := held m c main_c_40

/-- What `main_v179` holds when the kernel is launched. -/
def v179 : (⟨S16x16, .i32⟩ : BufTy).Contents (Elt F) := held m c main_v179

/-- What `main_v180` holds when the kernel is launched. -/
def v180 : (⟨S16x16, .i32⟩ : BufTy).Contents (Elt F) := held m c main_v180

/-- What `main_c_41` holds when the kernel is launched. -/
def c_41 : (⟨S_, .i32⟩ : BufTy).Contents (Elt F) := held m c main_c_41

/-- What `main_v181` holds when the kernel is launched. -/
def v181 : (⟨S16x16, .i32⟩ : BufTy).Contents (Elt F) := held m c main_v181

/-- What `main_v182` holds when the kernel is launched. -/
def v182 : (⟨S16x16, .i1⟩ : BufTy).Contents (Elt F) := held m c main_v182

/-- What `main_c_42` holds when the kernel is launched. -/
def c_42 : (⟨S_, .i32⟩ : BufTy).Contents (Elt F) := held m c main_c_42

/-- What `main_v183` holds when the kernel is launched. -/
def v183 : (⟨S16x16, .i32⟩ : BufTy).Contents (Elt F) := held m c main_v183

/-- What `main_v184` holds when the kernel is launched. -/
def v184 : (⟨S16x16, .i32⟩ : BufTy).Contents (Elt F) := held m c main_v184

/-- What `main_v185` holds when the kernel is launched. -/
def v185 : (⟨S16x16, .i32⟩ : BufTy).Contents (Elt F) := held m c main_v185

/-- What `main_v186` holds when the kernel is launched. -/
def v186 : (⟨S16x16x1, .i32⟩ : BufTy).Contents (Elt F) := held m c main_v186

/-- What `main_v187` holds when the kernel is launched. -/
def v187 : (⟨S16x16, .i32⟩ : BufTy).Contents (Elt F) := held m c main_v187

/-- What `main_v188` holds when the kernel is launched. -/
def v188 : (⟨S256, .i32⟩ : BufTy).Contents (Elt F) := held m c main_v188

/-- What `main_v189` holds when the kernel is launched. -/
def v189 : (⟨S256, .i32⟩ : BufTy).Contents (Elt F) := held m c main_v189

/-- What `main_c_43` holds when the kernel is launched. -/
def c_43 : (⟨S_, .i32⟩ : BufTy).Contents (Elt F) := held m c main_c_43

/-- What `main_v190` holds when the kernel is launched. -/
def v190 : (⟨S256, .i32⟩ : BufTy).Contents (Elt F) := held m c main_v190

/-- What `main_v191` holds when the kernel is launched. -/
def v191 : (⟨S256, .i32⟩ : BufTy).Contents (Elt F) := held m c main_v191

/-- What `main_v192` holds when the kernel is launched. -/
def v192 : (⟨S256, .f32⟩ : BufTy).Contents (Elt F) := held m c main_v192

/-- What `main_cst_44` holds when the kernel is launched. -/
def cst_44 : (⟨S_, .f32⟩ : BufTy).Contents (Elt F) := held m c main_cst_44

/-- What `main_v193` holds when the kernel is launched. -/
def v193 : (⟨S256, .f32⟩ : BufTy).Contents (Elt F) := held m c main_v193

/-- What `main_v194` holds when the kernel is launched. -/
def v194 : (⟨S256, .f32⟩ : BufTy).Contents (Elt F) := held m c main_v194

/-- What `main_c_45` holds when the kernel is launched. -/
def c_45 : (⟨S_, .i32⟩ : BufTy).Contents (Elt F) := held m c main_c_45

/-- What `main_v195` holds when the kernel is launched. -/
def v195 : (⟨S256, .i32⟩ : BufTy).Contents (Elt F) := held m c main_v195

/-- What `main_v196` holds when the kernel is launched. -/
def v196 : (⟨S256, .i32⟩ : BufTy).Contents (Elt F) := held m c main_v196

/-- What `main_v197` holds when the kernel is launched. -/
def v197 : (⟨S256, .f32⟩ : BufTy).Contents (Elt F) := held m c main_v197

/-- What `main_cst_46` holds when the kernel is launched. -/
def cst_46 : (⟨S_, .f32⟩ : BufTy).Contents (Elt F) := held m c main_cst_46

/-- What `main_v198` holds when the kernel is launched. -/
def v198 : (⟨S256, .f32⟩ : BufTy).Contents (Elt F) := held m c main_v198

/-- What `main_v199` holds when the kernel is launched. -/
def v199 : (⟨S256, .f32⟩ : BufTy).Contents (Elt F) := held m c main_v199

/-- What `main_v200` holds when the kernel is launched. -/
def v200 : (⟨S256, .f32⟩ : BufTy).Contents (Elt F) := held m c main_v200

/-- What `main_v201` holds when the kernel is launched. -/
def v201 : (⟨S256, .f32⟩ : BufTy).Contents (Elt F) := held m c main_v201

/-- What `main_v202` holds when the kernel is launched. -/
def v202 : (⟨S256, .f32⟩ : BufTy).Contents (Elt F) := held m c main_v202

/-- What `main_cst_47` holds when the kernel is launched. -/
def cst_47 : (⟨S_, .f32⟩ : BufTy).Contents (Elt F) := held m c main_cst_47

/-- What `main_v203` holds when the kernel is launched. -/
def v203 : (⟨S256, .f32⟩ : BufTy).Contents (Elt F) := held m c main_v203

/-- What `main_v204` holds when the kernel is launched. -/
def v204 : (⟨S256x1, .f32⟩ : BufTy).Contents (Elt F) := held m c main_v204

/-- What `main_v205` holds when the kernel is launched. -/
def v205 : (⟨S256x1, .f32⟩ : BufTy).Contents (Elt F) := held m c main_v205

/-- What `main_v206` holds when the kernel is launched. -/
def v206 : (⟨S256x1, .f32⟩ : BufTy).Contents (Elt F) := held m c main_v206

/-- What `main_v207` holds when the kernel is launched. -/
def v207 : (⟨S256x1, .f32⟩ : BufTy).Contents (Elt F) := held m c main_v207

/-- What `main_v208` holds when the kernel is launched. -/
def v208 : (⟨S256x1, .f32⟩ : BufTy).Contents (Elt F) := held m c main_v208

/-- What `main_v209` holds when the kernel is launched. -/
def v209 : (⟨S256x1, .f32⟩ : BufTy).Contents (Elt F) := held m c main_v209

/-- What `main_v210` holds when the kernel is launched. -/
def v210 : (⟨S256x6, .f32⟩ : BufTy).Contents (Elt F) := held m c main_v210

end Cert.KernelIdeal.HostLine
-- ==== Proof.KernelIdealHost.Steps3.lean ====
module

public import proofs.«01_k».proof.Proof.KernelIdealHost.Vals
public import Idealize.ShloMosaic.PureOps
public import proofs.«01_k».proof.Proof.Gen.KernelIdeal.Frame

/-!
Each value as its operation computes it from the others (part 3).
-/

@[expose] public section

set_option maxRecDepth 16384
set_option maxHeartbeats 400000

noncomputable section

namespace Cert.KernelIdeal.HostLine

open Idealize.ShloMosaic Idealize.ShloMosaic.TcCoe Idealize.SL.Sem
open Cert.KernelIdeal Cert.KernelIdeal.Gen Cert.HostLine

variable {F : FTy → Type} [FloatOps F]

variable (m : (ℓ : Loc nD τ sig) → Buf (Elt F) ℓ) (c : Dev nD)

theorem c_24_eq : c_24 m c = (constantI S_ 32 4095#32) := by
  have e := nullary_step (held_eq m c) line_writes main_c_24 150 rfl (by decide)
  exact e

theorem v113_eq : v113 m c = (broadcastInDim S28672 ![] bcast_S_S28672) (c_24 m c) := by
  have e := unary_step (held_eq m c) line_writes main_c_24 main_v113 151 rfl (by decide) (by decide)
  exact e

theorem v114_eq : v114 m c = andi (v112 m c) (v113 m c) := by
  have e := binary_step (held_eq m c) line_writes main_v112 main_v113 main_v114 152 rfl (by decide) (by decide) (by decide)
  exact e

theorem c_25_eq : c_25 m c = (constantI S_ 32 12#32) := by
  have e := nullary_step (held_eq m c) line_writes main_c_25 153 rfl (by decide)
  exact e

theorem v115_eq : v115 m c = (broadcastInDim S28672 ![] bcast_S_S28672) (c_25 m c) := by
  have e := unary_step (held_eq m c) line_writes main_c_25 main_v115 154 rfl (by decide) (by decide)
  exact e

theorem v116_eq : v116 m c = Host.shrsi (v112 m c) (v115 m c) := by
  have e := binary_step (held_eq m c) line_writes main_v112 main_v115 main_v116 155 rfl (by decide) (by decide) (by decide)
  exact e

theorem v117_eq : v117 m c = (extractStridedSlice S4096x1 ![0, 0] · slices_S4096x3_S4096x1_0_0) (v59 m c) := by
  have e := unary_step (held_eq m c) line_writes main_v59 main_v117 156 rfl (by decide) (by decide)
  exact e

theorem v118_eq : v118 m c = shapeCast _ (v117 m c) shapeCasts_S4096x1_S4096 := by
  have e := reshape_step (held_eq m c) line_writes main_v117 main_v118 157 rfl (by decide) (by decide)
  exact e

theorem v119_eq : v119 m c = (extractStridedSlice S4096x1 ![0, 1] · slices_S4096x3_S4096x1_0_1) (v59 m c) := by
  have e := unary_step (held_eq m c) line_writes main_v59 main_v119 158 rfl (by decide) (by decide)
  exact e

theorem v120_eq : v120 m c = shapeCast _ (v119 m c) shapeCasts_S4096x1_S4096 := by
  have e := reshape_step (held_eq m c) line_writes main_v119 main_v120 159 rfl (by decide) (by decide)
  exact e

theorem v121_eq : v121 m c = (extractStridedSlice S4096x1 ![0, 2] · slices_S4096x3_S4096x1_0_2) (v59 m c) := by
  have e := unary_step (held_eq m c) line_writes main_v59 main_v121 160 rfl (by decide) (by decide)
  exact e

theorem v122_eq : v122 m c = shapeCast _ (v121 m c) shapeCasts_S4096x1_S4096 := by
  have e := reshape_step (held_eq m c) line_writes main_v121 main_v122 161 rfl (by decide) (by decide)
  exact e

theorem v123_eq : v123 m c = (broadcastInDim S4096x1 ![0] bcast_S4096_S4096x1_0) (v7 m c) := by
  have e := unary_step (held_eq m c) line_writes main_v7 main_v123 162 rfl (by decide) (by decide)
  exact e

theorem v124_eq : v124 m c = (broadcastInDim S4096x1 ![0] bcast_S4096_S4096x1_0) (v15 m c) := by
  have e := unary_step (held_eq m c) line_writes main_v15 main_v124 163 rfl (by decide) (by decide)
  exact e

theorem v125_eq : v125 m c = (broadcastInDim S4096x1 ![0] bcast_S4096_S4096x1_0) (v54 m c) := by
  have e := unary_step (held_eq m c) line_writes main_v54 main_v125 164 rfl (by decide) (by decide)
  exact e

theorem v126_eq : v126 m c = (broadcastInDim S4096x1 ![0] bcast_S4096_S4096x1_0) (v56 m c) := by
  have e := unary_step (held_eq m c) line_writes main_v56 main_v126 165 rfl (by decide) (by decide)
  exact e

theorem v127_eq : v127 m c = (broadcastInDim S4096x1 ![0] bcast_S4096_S4096x1_0) (v57 m c) := by
  have e := unary_step (held_eq m c) line_writes main_v57 main_v127 166 rfl (by decide) (by decide)
  exact e

theorem v128_eq : v128 m c = (broadcastInDim S4096x1 ![0] bcast_S4096_S4096x1_0) (v118 m c) := by
  have e := unary_step (held_eq m c) line_writes main_v118 main_v128 167 rfl (by decide) (by decide)
  exact e

theorem v129_eq : v129 m c = (broadcastInDim S4096x1 ![0] bcast_S4096_S4096x1_0) (v120 m c) := by
  have e := unary_step (held_eq m c) line_writes main_v120 main_v129 168 rfl (by decide) (by decide)
  exact e

theorem v130_eq : v130 m c = (broadcastInDim S4096x1 ![0] bcast_S4096_S4096x1_0) (v122 m c) := by
  have e := unary_step (held_eq m c) line_writes main_v122 main_v130 169 rfl (by decide) (by decide)
  exact e

theorem v131_eq : v131 m c = concatenate S4096x8 1 [⟨S4096x1, (v123 m c)⟩, ⟨S4096x1, (v124 m c)⟩, ⟨S4096x1, (v125 m c)⟩, ⟨S4096x1, (v126 m c)⟩, ⟨S4096x1, (v127 m c)⟩, ⟨S4096x1, (v128 m c)⟩, ⟨S4096x1, (v129 m c)⟩, ⟨S4096x1, (v130 m c)⟩] concatenates_S4096x1_S4096x1_S4096x1_S4096x1_S4096x1_S4096x1_S4096x1_S4096x1_S4096x8_d1 := by
  have e := nary_step (held_eq m c) line_writes ![main_v123, main_v124, main_v125, main_v126, main_v127, main_v128, main_v129, main_v130] main_v131 170 rfl (by decide) (by decide)
  exact e

theorem c_26_eq : c_26 m c = (constantI S_ 32 0#32) := by
  have e := nullary_step (held_eq m c) line_writes main_c_26 171 rfl (by decide)
  exact e

theorem v132_eq : v132 m c = (broadcastInDim S28672 ![] bcast_S_S28672) (c_26 m c) := by
  have e := unary_step (held_eq m c) line_writes main_c_26 main_v132 172 rfl (by decide) (by decide)
  exact e

theorem v133_eq : v133 m c = (cmpi .slt) (v114 m c) (v132 m c) := by
  have e := binary_step (held_eq m c) line_writes main_v114 main_v132 main_v133 173 rfl (by decide) (by decide) (by decide)
  exact e

theorem c_27_eq : c_27 m c = (constantI S_ 32 4096#32) := by
  have e := nullary_step (held_eq m c) line_writes main_c_27 174 rfl (by decide)
  exact e

theorem v134_eq : v134 m c = (broadcastInDim S28672 ![] bcast_S_S28672) (c_27 m c) := by
  have e := unary_step (held_eq m c) line_writes main_c_27 main_v134 175 rfl (by decide) (by decide)
  exact e

theorem v135_eq : v135 m c = addi (v114 m c) (v134 m c) := by
  have e := binary_step (held_eq m c) line_writes main_v114 main_v134 main_v135 176 rfl (by decide) (by decide) (by decide)
  exact e

theorem v136_eq : v136 m c = select (v133 m c) (v135 m c) (v114 m c) := by
  have e := ternary_step (held_eq m c) line_writes main_v133 main_v135 main_v114 main_v136 177 rfl (by decide) (by decide) (by decide) (by decide)
  exact e

theorem v137_eq : v137 m c = (broadcastInDim S28672x1 ![0] bcast_S28672_S28672x1_0) (v136 m c) := by
  have e := unary_step (held_eq m c) line_writes main_v136 main_v137 178 rfl (by decide) (by decide)
  exact e

theorem v138_eq : v138 m c = (fun x i => Host.gather gather_S4096x8_S28672x1_S28672x8_1_0_n_n_0_1_18 x i) (v131 m c) (v137 m c) := by
  have e := binary_step (held_eq m c) line_writes main_v131 main_v137 main_v138 179 rfl (by decide) (by decide) (by decide)
  exact e

theorem c_28_eq : c_28 m c = (constantI S_ 32 0#32) := by
  have e := nullary_step (held_eq m c) line_writes main_c_28 180 rfl (by decide)
  exact e

theorem call4_v0_eq : call4_v0 m c = (sitofp .f32) (c_28 m c) := by
  have e := unary_call (held_eq m c) line_writes (.of main_c_28 : StableHlo.TRef sig ⟨S_, .i32⟩) (.of main_call4_v0 : StableHlo.TRef sig ⟨S_, .f32⟩) 181 rfl (by decide) (by decide)
  exact e

theorem v139_eq : v139 m c = (fun x v => pad S28928x8 ![0, 0] ![256, 0] ![0, 0] x v pads_S28672x8_S28928x8_02560_000 h_S_) (v138 m c) (call4_v0 m c) := by
  have e := binary_call (held_eq m c) line_writes (.of main_v138 : StableHlo.TRef sig ⟨S28672x8, .f32⟩) (.of main_call4_v0 : StableHlo.TRef sig ⟨S_, .f32⟩) (.of main_v139 : StableHlo.TRef sig ⟨S28928x8, .f32⟩) 182 rfl (by decide) (by decide) (by decide)
  exact e

theorem v140_eq : v140 m c = shapeCast _ (v139 m c) shapeCasts_S28928x8_S226x128x8 := by
  have e := reshape_step (held_eq m c) line_writes main_v139 main_v140 183 rfl (by decide) (by decide)
  exact e

theorem v141_eq : v141 m c = (transpose S226x8x128 [0, 2, 1] · transposes_S226x128x8_S226x8x128_0_2_1) (v140 m c) := by
  have e := unary_step (held_eq m c) line_writes main_v140 main_v141 184 rfl (by decide) (by decide)
  exact e

theorem v142_eq : v142 m c = (broadcastInDim S1x28672 ![1] bcast_S28672_S1x28672_1) (v116 m c) := by
  have e := unary_step (held_eq m c) line_writes main_v116 main_v142 185 rfl (by decide) (by decide)
  exact e

theorem v143_eq : v143 m c = (iotaInDim S257 32 0) := by
  have e := nullary_step (held_eq m c) line_writes main_v143 186 rfl (by decide)
  exact e

theorem v144_eq : v144 m c = (broadcastInDim S257x1 ![0] bcast_S257_S257x1_0) (v143 m c) := by
  have e := unary_step (held_eq m c) line_writes main_v143 main_v144 187 rfl (by decide) (by decide)
  exact e

theorem v145_eq : v145 m c = (broadcastInDim S257x28672 ![0, 1] bcast_S1x28672_S257x28672_0_1) (v142 m c) := by
  have e := unary_step (held_eq m c) line_writes main_v142 main_v145 188 rfl (by decide) (by decide)
  exact e

theorem v146_eq : v146 m c = (broadcastInDim S257x28672 ![0, 1] bcast_S257x1_S257x28672_0_1) (v144 m c) := by
  have e := unary_step (held_eq m c) line_writes main_v144 main_v146 189 rfl (by decide) (by decide)
  exact e

theorem v147_eq : v147 m c = (cmpi .slt) (v145 m c) (v146 m c) := by
  have e := binary_step (held_eq m c) line_writes main_v145 main_v146 main_v147 190 rfl (by decide) (by decide) (by decide)
  exact e

theorem v148_eq : v148 m c = (extui 32 · natLt_1_32) (v147 m c) := by
  have e := unary_step (held_eq m c) line_writes main_v147 main_v148 191 rfl (by decide) (by decide)
  exact e

theorem c_29_eq : c_29 m c = (constantI S_ 32 0#32) := by
  have e := nullary_step (held_eq m c) line_writes main_c_29 192 rfl (by decide)
  exact e

theorem v149_eq : v149 m c = (fun x v => Host.reduce IntOp.addi x v reducesTo_S257x28672_S257_d1 h_S_) (v148 m c) (c_29 m c) := by
  have e := binary_step (held_eq m c) line_writes main_v148 main_c_29 main_v149 193 rfl (by decide) (by decide) (by decide)
  exact e

theorem v150_eq : v150 m c = (iotaInDim S16 32 0) := by
  have e := nullary_step (held_eq m c) line_writes main_v150 194 rfl (by decide)
  exact e

theorem c_30_eq : c_30 m c = (constantI S_ 32 3#32) := by
  have e := nullary_step (held_eq m c) line_writes main_c_30 195 rfl (by decide)
  exact e

theorem v151_eq : v151 m c = (broadcastInDim S16 ![] bcast_S_S16) (c_30 m c) := by
  have e := unary_step (held_eq m c) line_writes main_c_30 main_v151 196 rfl (by decide) (by decide)
  exact e

theorem v152_eq : v152 m c = subi (v150 m c) (v151 m c) := by
  have e := binary_step (held_eq m c) line_writes main_v150 main_v151 main_v152 197 rfl (by decide) (by decide) (by decide)
  exact e

theorem c_31_eq : c_31 m c = (constantI S_ 32 0#32) := by
  have e := nullary_step (held_eq m c) line_writes main_c_31 198 rfl (by decide)
  exact e

theorem c_32_eq : c_32 m c = (constantI S_ 32 15#32) := by
  have e := nullary_step (held_eq m c) line_writes main_c_32 199 rfl (by decide)
  exact e

theorem call5_v0_eq : call5_v0 m c = id (c_31 m c) := by
  have e := unary_call (held_eq m c) line_writes (.of main_c_31 : StableHlo.TRef sig ⟨S_, .i32⟩) (.of main_call5_v0 : StableHlo.TRef sig ⟨S_, .i32⟩) 200 rfl (by decide) (by decide)
  exact e

theorem call5_v1_eq : call5_v1 m c = (broadcastInDim S16 ![] bcast_S_S16) (call5_v0 m c) := by
  have e := unary_call (held_eq m c) line_writes (.of main_call5_v0 : StableHlo.TRef sig ⟨S_, .i32⟩) (.of main_call5_v1 : StableHlo.TRef sig ⟨S16, .i32⟩) 201 rfl (by decide) (by decide)
  exact e

theorem call5_v2_eq : call5_v2 m c = maxsi (call5_v1 m c) (v152 m c) := by
  have e := binary_call (held_eq m c) line_writes (.of main_call5_v1 : StableHlo.TRef sig ⟨S16, .i32⟩) (.of main_v152 : StableHlo.TRef sig ⟨S16, .i32⟩) (.of main_call5_v2 : StableHlo.TRef sig ⟨S16, .i32⟩) 202 rfl (by decide) (by decide) (by decide)
  exact e

theorem call5_v3_eq : call5_v3 m c = id (c_32 m c) := by
  have e := unary_call (held_eq m c) line_writes (.of main_c_32 : StableHlo.TRef sig ⟨S_, .i32⟩) (.of main_call5_v3 : StableHlo.TRef sig ⟨S_, .i32⟩) 203 rfl (by decide) (by decide)
  exact e

theorem call5_v4_eq : call5_v4 m c = (broadcastInDim S16 ![] bcast_S_S16) (call5_v3 m c) := by
  have e := unary_call (held_eq m c) line_writes (.of main_call5_v3 : StableHlo.TRef sig ⟨S_, .i32⟩) (.of main_call5_v4 : StableHlo.TRef sig ⟨S16, .i32⟩) 204 rfl (by decide) (by decide)
  exact e

theorem v153_eq : v153 m c = minsi (call5_v4 m c) (call5_v2 m c) := by
  have e := binary_call (held_eq m c) line_writes (.of main_call5_v4 : StableHlo.TRef sig ⟨S16, .i32⟩) (.of main_call5_v2 : StableHlo.TRef sig ⟨S16, .i32⟩) (.of main_v153 : StableHlo.TRef sig ⟨S16, .i32⟩) 205 rfl (by decide) (by decide) (by decide)
  exact e

theorem c_33_eq : c_33 m c = (constantI S_ 32 3#32) := by
  have e := nullary_step (held_eq m c) line_writes main_c_33 206 rfl (by decide)
  exact e

theorem v154_eq : v154 m c = (broadcastInDim S16 ![] bcast_S_S16) (c_33 m c) := by
  have e := unary_step (held_eq m c) line_writes main_c_33 main_v154 207 rfl (by decide) (by decide)
  exact e

theorem v155_eq : v155 m c = addi (v150 m c) (v154 m c) := by
  have e := binary_step (held_eq m c) line_writes main_v150 main_v154 main_v155 208 rfl (by decide) (by decide) (by decide)
  exact e

theorem c_34_eq : c_34 m c = (constantI S_ 32 0#32) := by
  have e := nullary_step (held_eq m c) line_writes main_c_34 209 rfl (by decide)
  exact e

theorem c_35_eq : c_35 m c = (constantI S_ 32 15#32) := by
  have e := nullary_step (held_eq m c) line_writes main_c_35 210 rfl (by decide)
  exact e

theorem call6_v0_eq : call6_v0 m c = id (c_34 m c) := by
  have e := unary_call (held_eq m c) line_writes (.of main_c_34 : StableHlo.TRef sig ⟨S_, .i32⟩) (.of main_call6_v0 : StableHlo.TRef sig ⟨S_, .i32⟩) 211 rfl (by decide) (by decide)
  exact e

theorem call6_v1_eq : call6_v1 m c = (broadcastInDim S16 ![] bcast_S_S16) (call6_v0 m c) := by
  have e := unary_call (held_eq m c) line_writes (.of main_call6_v0 : StableHlo.TRef sig ⟨S_, .i32⟩) (.of main_call6_v1 : StableHlo.TRef sig ⟨S16, .i32⟩) 212 rfl (by decide) (by decide)
  exact e

theorem call6_v2_eq : call6_v2 m c = maxsi (call6_v1 m c) (v155 m c) := by
  have e := binary_call (held_eq m c) line_writes (.of main_call6_v1 : StableHlo.TRef sig ⟨S16, .i32⟩) (.of main_v155 : StableHlo.TRef sig ⟨S16, .i32⟩) (.of main_call6_v2 : StableHlo.TRef sig ⟨S16, .i32⟩) 213 rfl (by decide) (by decide) (by decide)
  exact e

theorem call6_v3_eq : call6_v3 m c = id (c_35 m c) := by
  have e := unary_call (held_eq m c) line_writes (.of main_c_35 : StableHlo.TRef sig ⟨S_, .i32⟩) (.of main_call6_v3 : StableHlo.TRef sig ⟨S_, .i32⟩) 214 rfl (by decide) (by decide)
  exact e

theorem call6_v4_eq : call6_v4 m c = (broadcastInDim S16 ![] bcast_S_S16) (call6_v3 m c) := by
  have e := unary_call (held_eq m c) line_writes (.of main_call6_v3 : StableHlo.TRef sig ⟨S_, .i32⟩) (.of main_call6_v4 : StableHlo.TRef sig ⟨S16, .i32⟩) 215 rfl (by decide) (by decide)
  exact e

theorem v156_eq : v156 m c = minsi (call6_v4 m c) (call6_v2 m c) := by
  have e := binary_call (held_eq m c) line_writes (.of main_call6_v4 : StableHlo.TRef sig ⟨S16, .i32⟩) (.of main_call6_v2 : StableHlo.TRef sig ⟨S16, .i32⟩) (.of main_v156 : StableHlo.TRef sig ⟨S16, .i32⟩) 216 rfl (by decide) (by decide) (by decide)
  exact e

theorem v157_eq : v157 m c = (broadcastInDim S16x1 ![0] bcast_S16_S16x1_0) (v150 m c) := by
  have e := unary_step (held_eq m c) line_writes main_v150 main_v157 217 rfl (by decide) (by decide)
  exact e

theorem c_36_eq : c_36 m c = (constantI S_ 32 16#32) := by
  have e := nullary_step (held_eq m c) line_writes main_c_36 218 rfl (by decide)
  exact e

theorem v158_eq : v158 m c = (broadcastInDim S16x1 ![] bcast_S_S16x1) (c_36 m c) := by
  have e := unary_step (held_eq m c) line_writes main_c_36 main_v158 219 rfl (by decide) (by decide)
  exact e

theorem v159_eq : v159 m c = muli (v157 m c) (v158 m c) := by
  have e := binary_step (held_eq m c) line_writes main_v157 main_v158 main_v159 220 rfl (by decide) (by decide) (by decide)
  exact e

theorem v160_eq : v160 m c = (broadcastInDim S1x16 ![1] bcast_S16_S1x16_1) (v153 m c) := by
  have e := unary_step (held_eq m c) line_writes main_v153 main_v160 221 rfl (by decide) (by decide)
  exact e

theorem v161_eq : v161 m c = (broadcastInDim S16x16 ![0, 1] bcast_S16x1_S16x16_0_1) (v159 m c) := by
  have e := unary_step (held_eq m c) line_writes main_v159 main_v161 222 rfl (by decide) (by decide)
  exact e

theorem v162_eq : v162 m c = (broadcastInDim S16x16 ![0, 1] bcast_S1x16_S16x16_0_1) (v160 m c) := by
  have e := unary_step (held_eq m c) line_writes main_v160 main_v162 223 rfl (by decide) (by decide)
  exact e

theorem v163_eq : v163 m c = addi (v161 m c) (v162 m c) := by
  have e := binary_step (held_eq m c) line_writes main_v161 main_v162 main_v163 224 rfl (by decide) (by decide) (by decide)
  exact e

end Cert.KernelIdeal.HostLine
-- ==== Proof.KernelIdealHost.Steps4.lean ====
module

public import proofs.«01_k».proof.Proof.KernelIdealHost.Vals
public import Idealize.ShloMosaic.PureOps
public import proofs.«01_k».proof.Proof.Gen.KernelIdeal.Frame

/-!
Each value as its operation computes it from the others (part 4).
-/

@[expose] public section

set_option maxRecDepth 16384
set_option maxHeartbeats 400000

noncomputable section

namespace Cert.KernelIdeal.HostLine

open Idealize.ShloMosaic Idealize.ShloMosaic.TcCoe Idealize.SL.Sem
open Cert.KernelIdeal Cert.KernelIdeal.Gen Cert.HostLine

variable {F : FTy → Type} [FloatOps F]

variable (m : (ℓ : Loc nD τ sig) → Buf (Elt F) ℓ) (c : Dev nD)

theorem c_37_eq : c_37 m c = (constantI S_ 32 0#32) := by
  have e := nullary_step (held_eq m c) line_writes main_c_37 225 rfl (by decide)
  exact e

theorem v164_eq : v164 m c = (broadcastInDim S16x16 ![] bcast_S_S16x16) (c_37 m c) := by
  have e := unary_step (held_eq m c) line_writes main_c_37 main_v164 226 rfl (by decide) (by decide)
  exact e

theorem v165_eq : v165 m c = (cmpi .slt) (v163 m c) (v164 m c) := by
  have e := binary_step (held_eq m c) line_writes main_v163 main_v164 main_v165 227 rfl (by decide) (by decide) (by decide)
  exact e

theorem c_38_eq : c_38 m c = (constantI S_ 32 257#32) := by
  have e := nullary_step (held_eq m c) line_writes main_c_38 228 rfl (by decide)
  exact e

theorem v166_eq : v166 m c = (broadcastInDim S16x16 ![] bcast_S_S16x16) (c_38 m c) := by
  have e := unary_step (held_eq m c) line_writes main_c_38 main_v166 229 rfl (by decide) (by decide)
  exact e

theorem v167_eq : v167 m c = addi (v163 m c) (v166 m c) := by
  have e := binary_step (held_eq m c) line_writes main_v163 main_v166 main_v167 230 rfl (by decide) (by decide) (by decide)
  exact e

theorem v168_eq : v168 m c = select (v165 m c) (v167 m c) (v163 m c) := by
  have e := ternary_step (held_eq m c) line_writes main_v165 main_v167 main_v163 main_v168 231 rfl (by decide) (by decide) (by decide) (by decide)
  exact e

theorem v169_eq : v169 m c = (broadcastInDim S16x16x1 ![0, 1] bcast_S16x16_S16x16x1_0_1) (v168 m c) := by
  have e := unary_step (held_eq m c) line_writes main_v168 main_v169 232 rfl (by decide) (by decide)
  exact e

theorem v170_eq : v170 m c = (fun x i => Host.gather gather_S257_S16x16x1_S16x16_n_0_n_n_0_2_1 x i) (v149 m c) (v169 m c) := by
  have e := binary_step (held_eq m c) line_writes main_v149 main_v169 main_v170 233 rfl (by decide) (by decide) (by decide)
  exact e

theorem v171_eq : v171 m c = shapeCast _ (v170 m c) shapeCasts_S16x16_S256 := by
  have e := reshape_step (held_eq m c) line_writes main_v170 main_v171 234 rfl (by decide) (by decide)
  exact e

theorem v172_eq : v172 m c = (broadcastInDim S16x1 ![0] bcast_S16_S16x1_0) (v150 m c) := by
  have e := unary_step (held_eq m c) line_writes main_v150 main_v172 235 rfl (by decide) (by decide)
  exact e

theorem c_39_eq : c_39 m c = (constantI S_ 32 16#32) := by
  have e := nullary_step (held_eq m c) line_writes main_c_39 236 rfl (by decide)
  exact e

theorem v173_eq : v173 m c = (broadcastInDim S16x1 ![] bcast_S_S16x1) (c_39 m c) := by
  have e := unary_step (held_eq m c) line_writes main_c_39 main_v173 237 rfl (by decide) (by decide)
  exact e

theorem v174_eq : v174 m c = muli (v172 m c) (v173 m c) := by
  have e := binary_step (held_eq m c) line_writes main_v172 main_v173 main_v174 238 rfl (by decide) (by decide) (by decide)
  exact e

theorem v175_eq : v175 m c = (broadcastInDim S1x16 ![1] bcast_S16_S1x16_1) (v156 m c) := by
  have e := unary_step (held_eq m c) line_writes main_v156 main_v175 239 rfl (by decide) (by decide)
  exact e

theorem v176_eq : v176 m c = (broadcastInDim S16x16 ![0, 1] bcast_S16x1_S16x16_0_1) (v174 m c) := by
  have e := unary_step (held_eq m c) line_writes main_v174 main_v176 240 rfl (by decide) (by decide)
  exact e

theorem v177_eq : v177 m c = (broadcastInDim S16x16 ![0, 1] bcast_S1x16_S16x16_0_1) (v175 m c) := by
  have e := unary_step (held_eq m c) line_writes main_v175 main_v177 241 rfl (by decide) (by decide)
  exact e

theorem v178_eq : v178 m c = addi (v176 m c) (v177 m c) := by
  have e := binary_step (held_eq m c) line_writes main_v176 main_v177 main_v178 242 rfl (by decide) (by decide) (by decide)
  exact e

theorem c_40_eq : c_40 m c = (constantI S_ 32 1#32) := by
  have e := nullary_step (held_eq m c) line_writes main_c_40 243 rfl (by decide)
  exact e

theorem v179_eq : v179 m c = (broadcastInDim S16x16 ![] bcast_S_S16x16) (c_40 m c) := by
  have e := unary_step (held_eq m c) line_writes main_c_40 main_v179 244 rfl (by decide) (by decide)
  exact e

theorem v180_eq : v180 m c = addi (v178 m c) (v179 m c) := by
  have e := binary_step (held_eq m c) line_writes main_v178 main_v179 main_v180 245 rfl (by decide) (by decide) (by decide)
  exact e

theorem c_41_eq : c_41 m c = (constantI S_ 32 0#32) := by
  have e := nullary_step (held_eq m c) line_writes main_c_41 246 rfl (by decide)
  exact e

theorem v181_eq : v181 m c = (broadcastInDim S16x16 ![] bcast_S_S16x16) (c_41 m c) := by
  have e := unary_step (held_eq m c) line_writes main_c_41 main_v181 247 rfl (by decide) (by decide)
  exact e

theorem v182_eq : v182 m c = (cmpi .slt) (v180 m c) (v181 m c) := by
  have e := binary_step (held_eq m c) line_writes main_v180 main_v181 main_v182 248 rfl (by decide) (by decide) (by decide)
  exact e

theorem c_42_eq : c_42 m c = (constantI S_ 32 257#32) := by
  have e := nullary_step (held_eq m c) line_writes main_c_42 249 rfl (by decide)
  exact e

theorem v183_eq : v183 m c = (broadcastInDim S16x16 ![] bcast_S_S16x16) (c_42 m c) := by
  have e := unary_step (held_eq m c) line_writes main_c_42 main_v183 250 rfl (by decide) (by decide)
  exact e

theorem v184_eq : v184 m c = addi (v180 m c) (v183 m c) := by
  have e := binary_step (held_eq m c) line_writes main_v180 main_v183 main_v184 251 rfl (by decide) (by decide) (by decide)
  exact e

theorem v185_eq : v185 m c = select (v182 m c) (v184 m c) (v180 m c) := by
  have e := ternary_step (held_eq m c) line_writes main_v182 main_v184 main_v180 main_v185 252 rfl (by decide) (by decide) (by decide) (by decide)
  exact e

theorem v186_eq : v186 m c = (broadcastInDim S16x16x1 ![0, 1] bcast_S16x16_S16x16x1_0_1) (v185 m c) := by
  have e := unary_step (held_eq m c) line_writes main_v185 main_v186 253 rfl (by decide) (by decide)
  exact e

theorem v187_eq : v187 m c = (fun x i => Host.gather gather_S257_S16x16x1_S16x16_n_0_n_n_0_2_1 x i) (v149 m c) (v186 m c) := by
  have e := binary_step (held_eq m c) line_writes main_v149 main_v186 main_v187 254 rfl (by decide) (by decide) (by decide)
  exact e

theorem v188_eq : v188 m c = shapeCast _ (v187 m c) shapeCasts_S16x16_S256 := by
  have e := reshape_step (held_eq m c) line_writes main_v187 main_v188 255 rfl (by decide) (by decide)
  exact e

theorem v189_eq : v189 m c = (iotaInDim S256 32 0) := by
  have e := nullary_step (held_eq m c) line_writes main_v189 256 rfl (by decide)
  exact e

theorem c_43_eq : c_43 m c = (constantI S_ 32 15#32) := by
  have e := nullary_step (held_eq m c) line_writes main_c_43 257 rfl (by decide)
  exact e

theorem v190_eq : v190 m c = (broadcastInDim S256 ![] bcast_S_S256) (c_43 m c) := by
  have e := unary_step (held_eq m c) line_writes main_c_43 main_v190 258 rfl (by decide) (by decide)
  exact e

theorem v191_eq : v191 m c = andi (v189 m c) (v190 m c) := by
  have e := binary_step (held_eq m c) line_writes main_v189 main_v190 main_v191 259 rfl (by decide) (by decide) (by decide)
  exact e

theorem v192_eq : v192 m c = (sitofp .f32) (v191 m c) := by
  have e := unary_step (held_eq m c) line_writes main_v191 main_v192 260 rfl (by decide) (by decide)
  exact e

theorem cst_44_eq : cst_44 m c = (constant S_ .f32 0x40F00000#32) := by
  have e := nullary_step (held_eq m c) line_writes main_cst_44 261 rfl (by decide)
  exact e

theorem v193_eq : v193 m c = (broadcastInDim S256 ![] bcast_S_S256) (cst_44 m c) := by
  have e := unary_step (held_eq m c) line_writes main_cst_44 main_v193 262 rfl (by decide) (by decide)
  exact e

theorem v194_eq : v194 m c = subf (v192 m c) (v193 m c) := by
  have e := binary_step (held_eq m c) line_writes main_v192 main_v193 main_v194 263 rfl (by decide) (by decide) (by decide)
  exact e

theorem c_45_eq : c_45 m c = (constantI S_ 32 4#32) := by
  have e := nullary_step (held_eq m c) line_writes main_c_45 264 rfl (by decide)
  exact e

theorem v195_eq : v195 m c = (broadcastInDim S256 ![] bcast_S_S256) (c_45 m c) := by
  have e := unary_step (held_eq m c) line_writes main_c_45 main_v195 265 rfl (by decide) (by decide)
  exact e

theorem v196_eq : v196 m c = Host.shrsi (v189 m c) (v195 m c) := by
  have e := binary_step (held_eq m c) line_writes main_v189 main_v195 main_v196 266 rfl (by decide) (by decide) (by decide)
  exact e

theorem v197_eq : v197 m c = (sitofp .f32) (v196 m c) := by
  have e := unary_step (held_eq m c) line_writes main_v196 main_v197 267 rfl (by decide) (by decide)
  exact e

theorem cst_46_eq : cst_46 m c = (constant S_ .f32 0x40F00000#32) := by
  have e := nullary_step (held_eq m c) line_writes main_cst_46 268 rfl (by decide)
  exact e

theorem v198_eq : v198 m c = (broadcastInDim S256 ![] bcast_S_S256) (cst_46 m c) := by
  have e := unary_step (held_eq m c) line_writes main_cst_46 main_v198 269 rfl (by decide) (by decide)
  exact e

theorem v199_eq : v199 m c = subf (v197 m c) (v198 m c) := by
  have e := binary_step (held_eq m c) line_writes main_v197 main_v198 main_v199 270 rfl (by decide) (by decide) (by decide)
  exact e

theorem v200_eq : v200 m c = mulf (v194 m c) (v194 m c) := by
  have e := binary_step (held_eq m c) line_writes main_v194 main_v194 main_v200 271 rfl (by decide) (by decide) (by decide)
  exact e

theorem v201_eq : v201 m c = mulf (v199 m c) (v199 m c) := by
  have e := binary_step (held_eq m c) line_writes main_v199 main_v199 main_v201 272 rfl (by decide) (by decide) (by decide)
  exact e

theorem v202_eq : v202 m c = mulf (v194 m c) (v199 m c) := by
  have e := binary_step (held_eq m c) line_writes main_v194 main_v199 main_v202 273 rfl (by decide) (by decide) (by decide)
  exact e

theorem cst_47_eq : cst_47 m c = (constant S_ .f32 0x3F800000#32) := by
  have e := nullary_step (held_eq m c) line_writes main_cst_47 274 rfl (by decide)
  exact e

theorem v203_eq : v203 m c = (broadcastInDim S256 ![] bcast_S_S256) (cst_47 m c) := by
  have e := unary_step (held_eq m c) line_writes main_cst_47 main_v203 275 rfl (by decide) (by decide)
  exact e

theorem v204_eq : v204 m c = (broadcastInDim S256x1 ![0] bcast_S256_S256x1_0) (v200 m c) := by
  have e := unary_step (held_eq m c) line_writes main_v200 main_v204 276 rfl (by decide) (by decide)
  exact e

theorem v205_eq : v205 m c = (broadcastInDim S256x1 ![0] bcast_S256_S256x1_0) (v194 m c) := by
  have e := unary_step (held_eq m c) line_writes main_v194 main_v205 277 rfl (by decide) (by decide)
  exact e

theorem v206_eq : v206 m c = (broadcastInDim S256x1 ![0] bcast_S256_S256x1_0) (v201 m c) := by
  have e := unary_step (held_eq m c) line_writes main_v201 main_v206 278 rfl (by decide) (by decide)
  exact e

theorem v207_eq : v207 m c = (broadcastInDim S256x1 ![0] bcast_S256_S256x1_0) (v199 m c) := by
  have e := unary_step (held_eq m c) line_writes main_v199 main_v207 279 rfl (by decide) (by decide)
  exact e

theorem v208_eq : v208 m c = (broadcastInDim S256x1 ![0] bcast_S256_S256x1_0) (v202 m c) := by
  have e := unary_step (held_eq m c) line_writes main_v202 main_v208 280 rfl (by decide) (by decide)
  exact e

theorem v209_eq : v209 m c = (broadcastInDim S256x1 ![0] bcast_S256_S256x1_0) (v203 m c) := by
  have e := unary_step (held_eq m c) line_writes main_v203 main_v209 281 rfl (by decide) (by decide)
  exact e

theorem v210_eq : v210 m c = concatenate S256x6 1 [⟨S256x1, (v204 m c)⟩, ⟨S256x1, (v205 m c)⟩, ⟨S256x1, (v206 m c)⟩, ⟨S256x1, (v207 m c)⟩, ⟨S256x1, (v208 m c)⟩, ⟨S256x1, (v209 m c)⟩] concatenates_S256x1_S256x1_S256x1_S256x1_S256x1_S256x1_S256x6_d1 := by
  have e := nary_step (held_eq m c) line_writes ![main_v204, main_v205, main_v206, main_v207, main_v208, main_v209] main_v210 282 rfl (by decide) (by decide)
  exact e

theorem arg0_eq : arg0 m c = m ((c : Thread nD τ).loc main_arg0) :=
  arg_step (held_eq m c) line_writes main_arg0 (by decide)

theorem arg1_eq : arg1 m c = m ((c : Thread nD τ).loc main_arg1) :=
  arg_step (held_eq m c) line_writes main_arg1 (by decide)

theorem arg2_eq : arg2 m c = m ((c : Thread nD τ).loc main_arg2) :=
  arg_step (held_eq m c) line_writes main_arg2 (by decide)

theorem arg3_eq : arg3 m c = m ((c : Thread nD τ).loc main_arg3) :=
  arg_step (held_eq m c) line_writes main_arg3 (by decide)

theorem arg4_eq : arg4 m c = m ((c : Thread nD τ).loc main_arg4) :=
  arg_step (held_eq m c) line_writes main_arg4 (by decide)

end Cert.KernelIdeal.HostLine
-- ==== Proof.KernelIdealHost.Hyps.lean ====
module

public import proofs.«01_k».proof.Proof.KernelIdealHost.Steps3
public import proofs.«01_k».proof.Proof.KernelIdealHost.Steps4
public import proofs.«01_k».proof.Proof.Words.Bounds
public import proofs.«01_k».proof.Proof.Words.Count

/-!
The side condition of the kernel body: the blocks that a grid point loads lie inside the table of pairs. Every word of
the two tables is a count of marks in a row of 28672, so it is at most 28672, and the body's arithmetic (module
`Words.Bounds`) keeps such a run inside the 226 blocks.
-/

@[expose] public section

set_option maxRecDepth 16384

noncomputable section

namespace Cert.KernelIdeal.HostLine

open Idealize.ShloMosaic Idealize.ShloMosaic.TcCoe Idealize.SL.Sem
open Cert.KernelIdeal Cert.KernelIdeal.Gen Cert.HostLine

variable {F : FTy → Type} [FloatOps F]

/-- The body's side condition holds of two words that are at most 28672. -/
theorem chk1_of_le {s e : BitVec 32} (hs : s.toNat ≤ 28672) (he : e.toNat ≤ 28672) : k0_chk1 s e := by
  have hA : ∀ k : Fin (Words.loop1 s e).trips, ∀ a, (![(Words.blkA s k).toNat, 0, 0] : Fin 3 → ℕ) a + S1x8x128.size a ≤ S226x8x128.size a := by
    intro k a
    have := Words.blk_lt hs he k
    rw [Words.blkA_toNat hs he k]
    fin_cases a
    · show s.toNat / 128 + 2 * k.val + 1 ≤ 226
      omega
    · show 0 + 8 ≤ 8
      omega
    · show 0 + 128 ≤ 128
      omega
  have hB : ∀ k : Fin (Words.loop1 s e).trips, ∀ a, (![(Words.blkB s k).toNat, 0, 0] : Fin 3 → ℕ) a + S1x8x128.size a ≤ S226x8x128.size a := by
    intro k a
    have := Words.blk_lt hs he k
    rw [Words.blkB_toNat hs he k]
    fin_cases a
    · show s.toNat / 128 + 2 * k.val + 1 + 1 ≤ 226
      omega
    · show 0 + 8 ≤ 8
      omega
    · show 0 + 128 ≤ 128
      omega
  have h2 : (Words.loop2 s e).trips = 0 := Words.loop2_trips
  exact ⟨Words.loop1_ok hs he, hA, hB, Words.loop2_ok hs he,
    fun k => absurd k.isLt (by show ¬ k.val < (Words.loop2 s e).trips; omega),
    fun k => absurd k.isLt (by show ¬ k.val < (Words.loop2 s e).trips; omega)⟩

variable (m : (ℓ : Loc nD τ sig) → Buf (Elt F) ℓ) (c : Dev nD)

/-- Every count is at most the number of pairs. -/
theorem v149_le (j : S257.Idx) : (v149 m c j).toNat ≤ 28672 := by
  rw [v149_eq, v148_eq, c_29_eq]
  exact Words.reduce_marks_le (by decide) (v147 m c) natLt_1_32 reducesTo_S257x28672_S257_d1 h_S_ j

/-- So is every word of the table of starts, -/
theorem v171_le (j : S256.Idx) : (v171 m c j).toNat ≤ 28672 := by
  rw [v171_eq, v170_eq]
  exact v149_le m c _

/-- and every word of the table of ends. -/
theorem v188_le (j : S256.Idx) : (v188 m c j).toNat ≤ 28672 := by
  rw [v188_eq, v187_eq]
  exact v149_le m c _

/-- No index map of the launch reads a table. -/
theorem ok : Ok m := trivial

/-- The body's side condition, over any two tables of words that are at most 28672. -/
theorem chk1_of_tables (c : Dev nD) (i : grid0.Coords) (x0 : TbBuf0 (F := F) c tbM0_0) (x1 : TbBuf0 (F := F) c tbM0_1)
    (h0 : ∀ j, ((x0 : IVec S256 32) j).toNat ≤ 28672) (h1 : ∀ j, ((x1 : IVec S256 32) j).toNat ≤ 28672) :
    k0_chk1 (tbM0_0.view.readAt (Elt F) (Rect.unit (s := S256) (k0_off1 i) S1.size (k0_off1_inb i)).toLoadRect x0 (Shape.Idx.first (numel1_S1.symm ▸ Nat.one_pos)))
      (tbM0_1.view.readAt (Elt F) (Rect.unit (s := S256) (k0_off1 i) S1.size (k0_off1_inb i)).toLoadRect x1 (Shape.Idx.first (numel1_S1.symm ▸ Nat.one_pos))) :=
  chk1_of_le (h0 _) (h1 _)

/-- The two tables, as the launch finds them. -/
theorem tbl0_eq : tbl m 0 = held m 0 main_v171 := V_eq m 0 main_v171
theorem tbl1_eq : tbl m 1 = held m 0 main_v188 := V_eq m 0 main_v188

/-- The side conditions that the launch assumes hold of every memory. -/
theorem hyps (hO : Ok m) : Hyps m hO :=
  Hyps.of fun c t => by
    unfold Hyps.p0
    rw [tbl0_eq, tbl1_eq]
    exact chk1_of_tables c (grid0.coords t) (held m 0 main_v171) (held m 0 main_v188) (v171_le m 0) (v188_le m 0)

end Cert.KernelIdeal.HostLine
-- ==== Proof.Image.Gauss.lean ====
module

public import Idealize.ShloMosaic.Lib.Pointwise
public import Idealize.ShloMosaic.Lib.IdealHost

/-!
One Gaussian, as extended reals: where its centre lies on the image, its covariance, the inverse of that matrix, and the
tile that it falls into. `x` is a coordinate of the centre as the caller gives it, `s` and `t` are the two scales and `r`
the rotation.
-/

@[expose] public section

noncomputable section

namespace Cert.Gauss

open Idealize.ShloMosaic

/-- A float literal. -/
abbrev lit (w : BitVec 32) : EReal := Ideal.ofBits .f32 w

/-- The centre's coordinate, in pixels. -/
def pos (x : EReal) : EReal := lit 1056964608#32 * (x + 1) * lit 1132462080#32

/-- The angle of rotation. -/
def angle (r : EReal) : EReal := Ideal.div 1 (1 + Ideal.exp (-r)) * lit 1086918619#32

/-- A scale's absolute value, squared. -/
def scaleSq (s : EReal) : EReal := FloatOps.absf (F := Ideal) (φ := .f32) s * FloatOps.absf (F := Ideal) (φ := .f32) s

/-- The covariance: along `x`, -/
def covXX (s t r : EReal) : EReal :=
  Ideal.cos (angle r) * Ideal.cos (angle r) * scaleSq s + Ideal.sin (angle r) * Ideal.sin (angle r) * scaleSq t
/-- mixed, -/
def covXY (s t r : EReal) : EReal := Ideal.cos (angle r) * Ideal.sin (angle r) * (scaleSq s - scaleSq t)
/-- and along `y`. -/
def covYY (s t r : EReal) : EReal :=
  Ideal.sin (angle r) * Ideal.sin (angle r) * scaleSq s + Ideal.cos (angle r) * Ideal.cos (angle r) * scaleSq t

/-- One over the determinant, kept away from zero. -/
def recip (s t r : EReal) : EReal :=
  Ideal.div 1 (covXX s t r * covYY s t r - covXY s t r * covXY s t r + lit 730643660#32)

/-- The inverse matrix: along `x`, -/
def conA (s t r : EReal) : EReal := covYY s t r * recip s t r
/-- mixed, -/
def conB (s t r : EReal) : EReal := -covXY s t r * recip s t r
/-- and along `y`. -/
def conC (s t r : EReal) : EReal := covXX s t r * recip s t r

/-- The tile that a coordinate falls into, as a word. -/
def bin (x : EReal) : BitVec 32 :=
  IntOp.minsi 15#32 (IntOp.maxsi 0#32 (FloatOps.fptosi (F := Ideal) (φ := .f32) 32 (pos x * lit 1031798784#32)))

/-- How far down or up the image the Gaussian is drawn. -/
def reach (s t r : EReal) : EReal := Ideal.sqrt (lit 1103101952#32 * covYY s t r)

end Cert.Gauss
-- ==== Proof.Image.Conic.lean ====
module

public import proofs.«01_k».proof.Proof.Image.Gauss

/-!
The inverse covariance of a Gaussian with finite scales. It is a real matrix, and where a diagonal entry is zero, so is the
mixed one.
-/

@[expose] public section

noncomputable section

namespace Cert.Gauss

open Idealize.ShloMosaic

/-- The angle is a real number, whatever the rotation. -/
theorem angle_real (r : EReal) : ∃ a : ℝ, angle r = a := by
  have hl : lit 1086918619#32 = ((13176795 / 2097152 : ℝ) : EReal) := by
    simp [Ideal.ofBits, Ideal.ieee, -EReal.coe_mul]; norm_num
  have hd : ∃ y : ℝ, Ideal.div 1 (1 + Ideal.exp (-r)) = y := by
    induction r with
    | bot =>
      refine ⟨0, ?_⟩
      rw [EReal.neg_bot]
      show Ideal.div 1 (1 + ⊤) = _
      rw [show (1 : EReal) + ⊤ = ⊤ from EReal.coe_add_top 1, Ideal.div, if_neg EReal.top_ne_zero, EReal.inv_top, mul_zero]
      rfl
    | top =>
      refine ⟨1, ?_⟩
      rw [EReal.neg_top]
      show Ideal.div 1 (1 + 0) = _
      rw [add_zero, Ideal.div, if_neg one_ne_zero, inv_one, mul_one]
      rfl
    | coe r =>
      refine ⟨(1 + Real.exp (-r))⁻¹, ?_⟩
      have hp : (0 : ℝ) < 1 + Real.exp (-r) := by positivity
      rw [← EReal.coe_neg]
      show Ideal.div 1 (1 + ((Real.exp (-r) : ℝ) : EReal)) = _
      rw [show (1 : EReal) + ((Real.exp (-r) : ℝ) : EReal) = ((1 + Real.exp (-r) : ℝ) : EReal) from rfl, Ideal.div,
        if_neg (by rw [← EReal.coe_zero]; exact fun h => hp.ne' (EReal.coe_injective h)), one_mul, EReal.coe_inv]
  obtain ⟨y, hy⟩ := hd
  refine ⟨y * (13176795 / 2097152), ?_⟩
  unfold angle
  rw [hy, hl, ← EReal.coe_mul]

/-- A finite scale's square is real and not negative. -/
theorem scaleSq_real {s : EReal} {x : ℝ} (hs : s = x) : scaleSq s = ((x * x : ℝ) : EReal) := by
  subst hs
  show max (x : EReal) (-(x : EReal)) * max (x : EReal) (-(x : EReal)) = _
  rw [← EReal.coe_neg, ← EReal.coe_strictMono.monotone.map_max, ← EReal.coe_mul, ← abs_eq_max_neg, abs_mul_abs_self]

/-- The facts about the inverse matrix that the image needs. -/
theorem conic_real {s t : EReal} {x y : ℝ} (hs : s = x) (ht : t = y) (r : EReal) :
    ∃ a b c : ℝ, conA s t r = a ∧ conB s t r = b ∧ conC s t r = c ∧ (a = 0 → b = 0) ∧ (c = 0 → b = 0) := by
  obtain ⟨w, hw⟩ := angle_real r
  have hcos : Ideal.cos (angle r) = (Real.cos w : ℝ) := by rw [hw]; rfl
  have hsin : Ideal.sin (angle r) = (Real.sin w : ℝ) := by rw [hw]; rfl
  generalize Real.cos w = p at hcos
  generalize Real.sin w = q at hsin
  have hS := scaleSq_real hs
  have hT := scaleSq_real ht
  have hS0 : 0 ≤ x * x := mul_self_nonneg x
  have hT0 : 0 ≤ y * y := mul_self_nonneg y
  generalize x * x = S at hS hS0
  generalize y * y = T at hT hT0
  have hxx : covXX s t r = ((p * p * S + q * q * T : ℝ) : EReal) := by
    unfold covXX
    rw [hcos, hsin, hS, hT]
    norm_cast
  have hxy : covXY s t r = ((p * q * (S - T) : ℝ) : EReal) := by
    unfold covXY
    rw [hcos, hsin, hS, hT]
    norm_cast
  have hyy : covYY s t r = ((q * q * S + p * p * T : ℝ) : EReal) := by
    unfold covYY
    rw [hcos, hsin, hS, hT]
    norm_cast
  obtain ⟨e, he0, he⟩ : ∃ e : ℝ, 0 < e ∧ lit 730643660#32 = e := by
    refine ⟨_, ?_, by simp [Ideal.ofBits, Ideal.ieee, -EReal.coe_mul]; rfl⟩
    positivity
  have hpos : 0 < (p * p * S + q * q * T) * (q * q * S + p * p * T) - p * q * (S - T) * (p * q * (S - T)) + e := by
    have : (p * p * S + q * q * T) * (q * q * S + p * p * T) - p * q * (S - T) * (p * q * (S - T))
        = S * T * ((p * p + q * q) * (p * p + q * q)) := by ring
    rw [this]
    have := mul_nonneg (mul_nonneg hS0 hT0) (mul_self_nonneg (p * p + q * q))
    linarith
  have hrec : ∃ i : ℝ, 0 < i ∧ recip s t r = i := by
    refine ⟨_, inv_pos.2 hpos, ?_⟩
    unfold recip
    rw [hxx, hxy, hyy, he, ← EReal.coe_mul, ← EReal.coe_mul, ← EReal.coe_sub, ← EReal.coe_add, Ideal.div,
      if_neg (by rw [← EReal.coe_zero]; exact fun h => hpos.ne' (EReal.coe_injective h)), one_mul, EReal.coe_inv]
  obtain ⟨i, hi0, hi⟩ := hrec
  refine ⟨(q * q * S + p * p * T) * i, -(p * q * (S - T)) * i, (p * p * S + q * q * T) * i, ?_, ?_, ?_, ?_, ?_⟩
  · unfold conA
    rw [hyy, hi, ← EReal.coe_mul]
  · unfold conB
    rw [hxy, hi, ← EReal.coe_neg, ← EReal.coe_mul]
  · unfold conC
    rw [hxx, hi, ← EReal.coe_mul]
  all_goals
    intro h
    have h0 := (mul_eq_zero.1 h).resolve_right hi0.ne'
    have hp := mul_self_nonneg p
    have hq := mul_self_nonneg q
    have k1 := mul_nonneg hq hS0
    have k2 := mul_nonneg hp hT0
    have k3 := mul_nonneg hp hS0
    have k4 := mul_nonneg hq hT0
    have m1 : p * q * S = 0 := by
      have : p * q * S * (p * q * S) = (p * p * S) * (q * q * S) := by ring
      have : p * q * S * (p * q * S) = 0 := by
        rw [this]
        first | rw [show q * q * S = 0 by linarith, mul_zero] | rw [show p * p * S = 0 by linarith, zero_mul]
      exact mul_self_eq_zero.1 this
    have m2 : p * q * T = 0 := by
      have : p * q * T * (p * q * T) = (p * p * T) * (q * q * T) := by ring
      have : p * q * T * (p * q * T) = 0 := by
        rw [this]
        first | rw [show q * q * T = 0 by linarith, mul_zero] | rw [show p * p * T = 0 by linarith, zero_mul]
      exact mul_self_eq_zero.1 this
    have : p * q * (S - T) = 0 := by rw [mul_sub, m1, m2, sub_zero]
    rw [this, neg_zero, zero_mul]

end Cert.Gauss
-- ==== Proof.Image.Reference.lean ====
module

public import proofs.«01_k».proof.Proof.Gen.ReferenceIdeal.Read
public import proofs.«01_k».proof.Proof.Image.Gauss
public import Idealize.ShloMosaic.Lib.Pointwise
public import Idealize.ShloMosaic.Lib.IdealHost

/-!
The reference, read at a pixel: the sum over all Gaussians of the Gaussian's weight there, where it is drawn, times its
opacity and its feature, clipped to `[0, 1]`.
-/

@[expose] public section

set_option maxRecDepth 16384

noncomputable section

namespace Cert.ReferenceIdeal.Image

open Idealize.ShloMosaic Idealize.ShloMosaic.TcCoe Idealize.SL.Sem
open Cert.ReferenceIdeal Cert.ReferenceIdeal.Gen Cert.ReferenceIdeal.Read Cert.Gauss

variable (x0 x1 : FVec Ideal S4096x2 .f32) (x2 : FVec Ideal S4096x1 .f32) (x3 : FVec Ideal S4096x3 .f32)
  (x4 : FVec Ideal S4096x1 .f32) (g : Fin 4096)

theorem zero_ap : (id (constant (F := Ideal) S_ FTy.f32 0#32) : FVec Ideal S_ .f32) ix0 = (0 : EReal) := Ideal.ofBits_zero_f32
theorem one_ap : (id (constant (F := Ideal) S_ FTy.f32 1065353216#32) : FVec Ideal S_ .f32) ix0 = (1 : EReal) :=
  Ideal.ofBits_one_f32

/-- Bits that say whether something holds. -/
theorem bit_and (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem bit_iff (p : Prop) [Decidable p] : BitVec.ofBool (decide p) = 1#1 ↔ p := by
  by_cases hp : p <;> simp [hp]

theorem v6_ap (k : Fin 2) : val_main_v6 (F := Ideal) x0 (ix2 g k) = pos (x0 (ix2 g k)) := by
  simp only [val_main_v6, val_main_v5, val_main_v4, val_main_v3, val_main_v2, val_main_v1, val_main_v0, val_main_cst,
    val_main_cst_0, val_main_cst_1]
  pointwise
  rfl

/-- Twice, and then times the literal of `π`, is once times the literal of twice that. -/
theorem turn : Ideal.ofBits .f32 1073741824#32 * Ideal.ofBits .f32 1078530011#32 = Ideal.ofBits .f32 1086918619#32 := by
  have h1 : Ideal.ofBits .f32 1073741824#32 = ((2 : ℝ) : EReal) := by
    simp [Ideal.ofBits, Ideal.ieee, -EReal.coe_mul]; norm_num
  have h2 : Ideal.ofBits .f32 1078530011#32 = ((13176795 / 4194304 : ℝ) : EReal) := by
    simp [Ideal.ofBits, Ideal.ieee, -EReal.coe_mul]; norm_num
  have h3 : Ideal.ofBits .f32 1086918619#32 = ((13176795 / 2097152 : ℝ) : EReal) := by
    simp [Ideal.ofBits, Ideal.ieee, -EReal.coe_mul]; norm_num
  rw [h1, h2, h3, ← EReal.coe_mul]
  norm_num

theorem v18_ap : val_main_v18 (F := Ideal) x2 (ix1 g) = angle (x2 (ix2 g 0)) := by
  simp only [val_main_v18, val_main_v17, val_main_v16, val_main_v15, val_main_v14, val_main_v13, val_main_v12,
    val_main_v11, val_main_v10, val_main_v9, val_main_v8, val_main_cst_2, val_main_cst_3, val_main_cst_4, val_main_cst_5]
  pointwise
  unfold angle
  rw [mul_assoc, turn]

theorem v23_ap : val_main_v23 (F := Ideal) x1 (ix1 g) = scaleSq (x1 (ix2 g 0)) := by
  simp only [val_main_v23, val_main_v22, val_main_v21, val_main_v7]
  pointwise
  rfl

theorem v26_ap : val_main_v26 (F := Ideal) x1 (ix1 g) = scaleSq (x1 (ix2 g 1)) := by
  simp only [val_main_v26, val_main_v25, val_main_v24, val_main_v7]
  pointwise
  rfl

theorem v31_ap : val_main_v31 (F := Ideal) x1 x2 (ix1 g) = covXX (x1 (ix2 g 0)) (x1 (ix2 g 1)) (x2 (ix2 g 0)) := by
  simp only [val_main_v31, val_main_v30, val_main_v29, val_main_v28, val_main_v27, val_main_v20, val_main_v19]
  pointwise
  rw [v18_ap, v23_ap, v26_ap]
  rfl

theorem v34_ap : val_main_v34 (F := Ideal) x1 x2 (ix1 g) = covXY (x1 (ix2 g 0)) (x1 (ix2 g 1)) (x2 (ix2 g 0)) := by
  simp only [val_main_v34, val_main_v33, val_main_v32, val_main_v20, val_main_v19]
  pointwise
  rw [v18_ap, v23_ap, v26_ap]
  rfl

theorem v39_ap : val_main_v39 (F := Ideal) x1 x2 (ix1 g) = covYY (x1 (ix2 g 0)) (x1 (ix2 g 1)) (x2 (ix2 g 0)) := by
  simp only [val_main_v39, val_main_v38, val_main_v37, val_main_v36, val_main_v35, val_main_v20, val_main_v19]
  pointwise
  rw [v18_ap, v23_ap, v26_ap]
  rfl

theorem v46_ap : val_main_v46 (F := Ideal) x1 x2 (ix1 g) = recip (x1 (ix2 g 0)) (x1 (ix2 g 1)) (x2 (ix2 g 0)) := by
  simp only [val_main_v46, val_main_v45, val_main_v44, val_main_v43, val_main_v42, val_main_v41, val_main_v40,
    val_main_cst_6, val_main_cst_7]
  pointwise
  rw [v31_ap, v34_ap, v39_ap]
  rfl

theorem v47_ap : val_main_v47 (F := Ideal) x1 x2 (ix1 g) = conA (x1 (ix2 g 0)) (x1 (ix2 g 1)) (x2 (ix2 g 0)) := by
  simp only [val_main_v47]
  pointwise
  rw [v46_ap, v39_ap]
  rfl

theorem v49_ap : val_main_v49 (F := Ideal) x1 x2 (ix1 g) = conB (x1 (ix2 g 0)) (x1 (ix2 g 1)) (x2 (ix2 g 0)) := by
  simp only [val_main_v49, val_main_v48]
  pointwise
  rw [v46_ap, v34_ap]
  rfl

theorem v50_ap : val_main_v50 (F := Ideal) x1 x2 (ix1 g) = conC (x1 (ix2 g 0)) (x1 (ix2 g 1)) (x2 (ix2 g 0)) := by
  simp only [val_main_v50]
  pointwise
  rw [v46_ap, v31_ap]
  rfl

/-- The middle of a pixel, along a row or a column. -/
def mid (p : Fin 256) : EReal := ((p.val : ℝ) + 0.5 : ℝ)

theorem half_lit : Ideal.ofBits .f32 1056964608#32 = ((0.5 : ℝ) : EReal) := by
  simp [Ideal.ofBits, Ideal.ieee, -EReal.coe_mul]; norm_num

theorem word_int : ∀ p : Fin 256, (BitVec.ofNat 32 p.val).toInt = (p.val : Int) := by
  decide +kernel

theorem v55_ap (s : Fin 256) : val_main_v55 (F := Ideal) (ix1 s) = mid s := by
  simp only [val_main_v55, val_main_v54, val_main_v53, val_main_v52, val_main_cst_8]
  pointwise
  show (((BitVec.ofNat 32 s.val).toInt : ℝ) : EReal) + Ideal.ofBits .f32 1056964608#32 = _
  rw [word_int, half_lit]
  unfold mid
  norm_cast

theorem v59_ap (r : Fin 256) : val_main_v59 (F := Ideal) (ix1 r) = mid r := by
  simp only [val_main_v59, val_main_v58, val_main_v57, val_main_v56, val_main_cst_9]
  pointwise
  show (((BitVec.ofNat 32 r.val).toInt : ℝ) : EReal) + Ideal.ofBits .f32 1056964608#32 = _
  rw [word_int, half_lit]
  unfold mid
  norm_cast

/-- The quadratic form at a pixel, from the way to the centre. -/
def sigma (A B C dx dy : EReal) : EReal := lit 1056964608#32 * (A * dx * dx + C * dy * dy) + B * dx * dy

theorem v95_ap (r s : Fin 256) : val_main_v95 (F := Ideal) x0 x1 x2 (ix3 r s g)
    = sigma (conA (x1 (ix2 g 0)) (x1 (ix2 g 1)) (x2 (ix2 g 0))) (conB (x1 (ix2 g 0)) (x1 (ix2 g 1)) (x2 (ix2 g 0)))
        (conC (x1 (ix2 g 0)) (x1 (ix2 g 1)) (x2 (ix2 g 0))) (mid s - pos (x0 (ix2 g 0))) (mid r - pos (x0 (ix2 g 1))) := by
  simp only [val_main_v95, val_main_v94, val_main_v93, val_main_v92, val_main_v91, val_main_v90, val_main_v89,
    val_main_v88, val_main_v87, val_main_v86, val_main_v85, val_main_v84, val_main_v83, val_main_v82, val_main_v81,
    val_main_v80, val_main_v79, val_main_v78, val_main_v77, val_main_v76, val_main_v75, val_main_v74, val_main_v73,
    val_main_v72, val_main_v71, val_main_v70, val_main_v69, val_main_v68, val_main_v67, val_main_v66, val_main_v65,
    val_main_v64, val_main_v63, val_main_v62, val_main_v61, val_main_v60, val_main_cst_10]
  pointwise
  rw [v55_ap, v59_ap, v47_ap, v49_ap, v50_ap, v6_ap, v6_ap]
  rfl

/-- The weight of a form's value. -/
def weight (s : EReal) : EReal := if 0 ≤ s then Ideal.exp (-s) else 0

theorem v100_ap (r s : Fin 256) : val_main_v100 (F := Ideal) x0 x1 x2 (ix3 r s g)
    = weight (val_main_v95 (F := Ideal) x0 x1 x2 (ix3 r s g)) := by
  simp only [val_main_v100, val_main_v99, val_main_v98, val_main_v97, val_main_v96, val_main_call0_v1, val_main_call0_v0,
    val_main_cst_11, val_main_cst_12]
  pointwise
  rw [zero_ap]
  rfl

theorem v104_ap (k : Fin 2) : val_main_v104 (F := Ideal) x0 (ix2 g k) = bin (x0 (ix2 g k)) := by
  simp only [val_main_v104, val_main_call1_v4, val_main_call1_v3, val_main_call1_v2, val_main_call1_v1, val_main_call1_v0,
    val_main_v103, val_main_v102, val_main_v101, val_main_c, val_main_c_14, val_main_cst_13]
  pointwise
  rw [v6_ap]
  rfl

theorem v127_ap : val_main_v127 (F := Ideal) x1 x2 (ix1 g) = reach (x1 (ix2 g 0)) (x1 (ix2 g 1)) (x2 (ix2 g 0)) := by
  simp only [val_main_v127, val_main_v126, val_main_v125, val_main_cst_17]
  pointwise
  rw [v39_ap]
  rfl

/-- A word's sign, as a word. -/
def sgn (w : BitVec 32) : BitVec 32 := if w = 0 then 0 else if w.msb then -1 else 1

theorem sign_col (s : Fin 256) : val_main_call2_v3 (F := Ideal) (ix1 s) = sgn (BitVec.ofNat 32 s.val) := rfl
theorem sign_col' : val_main_call2_v4 (F := Ideal) ix0 = sgn 16#32 := rfl
theorem sign_row (r : Fin 256) : val_main_call3_v3 (F := Ideal) (ix1 r) = sgn (BitVec.ofNat 32 r.val) := rfl
theorem sign_row' : val_main_call3_v4 (F := Ideal) ix0 = sgn 16#32 := rfl

theorem v106_ap (s : Fin 256) : val_main_v106 (F := Ideal) (ix1 s) = BitVec.ofNat 32 (s.val / 16) := by
  simp only [val_main_v106, val_main_call2_v13, val_main_call2_v12, val_main_call2_v11, val_main_call2_v10,
    val_main_call2_v9, val_main_call2_v8, val_main_call2_v7, val_main_call2_v6, val_main_call2_v5, val_main_call2_v2,
    val_main_call2_v1, val_main_call2_v0, val_main_v105, val_main_c_15, val_main_call2_c, val_main_call2_c_0]
  pointwise
  rw [sign_col, sign_col']
  revert s
  decide +kernel

theorem v108_ap (r : Fin 256) : val_main_v108 (F := Ideal) (ix1 r) = BitVec.ofNat 32 (r.val / 16) := by
  simp only [val_main_v108, val_main_call3_v13, val_main_call3_v12, val_main_call3_v11, val_main_call3_v10,
    val_main_call3_v9, val_main_call3_v8, val_main_call3_v7, val_main_call3_v6, val_main_call3_v5, val_main_call3_v2,
    val_main_call3_v1, val_main_call3_v0, val_main_v107, val_main_c_16, val_main_call3_c, val_main_call3_c_0]
  pointwise
  rw [sign_row, sign_row']
  revert r
  decide +kernel

/-- How far apart two tiles are, as a word. -/
def gap (i b : ℕ) : BitVec 32 := IntOp.absi (IntOp.subi (BitVec.ofNat 32 i) (BitVec.ofNat 32 b))

theorem gap_le : ∀ i b : Fin 16, IntOp.cmpi CmpIPredicate.sle (gap i.val b.val) 3#32
    = BitVec.ofBool (decide (i.val ≤ b.val + 3 ∧ b.val ≤ i.val + 3)) := by
  decide +kernel

/-- A band of tiles at this distance lies within a Gaussian's reach. -/
def within (d : BitVec 32) (e : EReal) : Prop :=
  FloatOps.sitofp (F := Ideal) FTy.f32 (IntOp.muli (IntOp.subi d 1#32) 16#32) < e

/-- A Gaussian with tile `(bx, b)` and reach `e` is drawn in tile `(ti, tj)`. -/
def drawn (bx b : ℕ) (e : EReal) (ti tj : ℕ) : Prop :=
  (tj ≤ bx + 3 ∧ bx ≤ tj + 3) ∧ (ti ≤ b + 3 ∧ b ≤ ti + 3) ∧ within (gap ti b) e

theorem v145_ap (r s : Fin 256) {bx b : Fin 16} (hx : bin (x0 (ix2 g 0)) = BitVec.ofNat 32 bx.val)
    (hy : bin (x0 (ix2 g 1)) = BitVec.ofNat 32 b.val) :
    val_main_v145 (F := Ideal) x0 x1 x2 (ix3 r s g) = 1#1
      ↔ drawn bx.val b.val (reach (x1 (ix2 g 0)) (x1 (ix2 g 1)) (x2 (ix2 g 0))) (r.val / 16) (s.val / 16) := by
  simp only [val_main_v145, val_main_v144, val_main_v143, val_main_v142, val_main_v141, val_main_v140, val_main_v139,
    val_main_v138, val_main_v137, val_main_v136, val_main_v135, val_main_v134, val_main_v133, val_main_v132,
    val_main_v131, val_main_v130, val_main_v129, val_main_v128, val_main_v124, val_main_v123, val_main_v122,
    val_main_v121, val_main_v120, val_main_v119, val_main_v118, val_main_v117, val_main_v116, val_main_v115,
    val_main_v114, val_main_v113, val_main_v112, val_main_v111, val_main_v110, val_main_v109, val_main_c_18,
    val_main_c_19, val_main_c_20, val_main_c_21]
  pointwise
  rw [v106_ap, v108_ap, v104_ap, v104_ap, v127_ap, hx, hy]
  have h1 := gap_le ⟨s.val / 16, by omega⟩ bx
  have h2 := gap_le ⟨r.val / 16, by omega⟩ b
  unfold gap at h1 h2
  rw [h1, h2, bit_and, bit_and, bit_iff]
  rfl

open Classical in
theorem v149_ap (r s : Fin 256) {bx b : Fin 16} (hx : bin (x0 (ix2 g 0)) = BitVec.ofNat 32 bx.val)
    (hy : bin (x0 (ix2 g 1)) = BitVec.ofNat 32 b.val) :
    val_main_v149 (F := Ideal) x0 x1 x2 x4 (ix3 r s g)
      = (if drawn bx.val b.val (reach (x1 (ix2 g 0)) (x1 (ix2 g 1)) (x2 (ix2 g 0))) (r.val / 16) (s.val / 16)
          then weight (val_main_v95 (F := Ideal) x0 x1 x2 (ix3 r s g)) else 0) * x4 (ix2 g 0) := by
  have h := v145_ap x0 x1 x2 g r s hx hy
  rw [← v100_ap]
  simp only [val_main_v149, val_main_v148, val_main_v147, val_main_v146, val_main_call4_v1, val_main_call4_v0, val_main_v51, val_main_cst_22]
  pointwise
  rw [zero_ap]
  exact congrArg (· * x4 (ix2 g 0)) (if_congr h rfl rfl)

theorem v153_ap (ch : Fin 3) (r s : Fin 256) : val_main_v153 (F := Ideal) x0 x1 x2 x3 x4 (ix4 0 ch r s)
    = min 1 (max 0 (∑ g : Fin 4096, val_main_v149 (F := Ideal) x0 x1 x2 x4 (ix3 r s g) * x3 (ix2 g ch))) := by
  have e : val_main_v150 (F := Ideal) x0 x1 x2 x3 x4 (ix3 r s ch)
      = ∑ g : Fin 4096, val_main_v149 (F := Ideal) x0 x1 x2 x4 (ix3 r s g) * x3 (ix2 g ch) := by
    rw [val_main_v150_apply]
    refine Finset.sum_congr rfl fun g _ => ?_
    congr 2
    · funext a
      match a with
      | ⟨0, _⟩ => rfl
      | ⟨1, _⟩ => rfl
      | ⟨2, _⟩ => rfl
    · funext a
      match a with
      | ⟨0, _⟩ => rfl
      | ⟨1, _⟩ => rfl
  rw [← e]
  simp only [val_main_v153, val_main_v152, val_main_v151, val_main_call5_v4, val_main_call5_v3, val_main_call5_v2,
    val_main_call5_v1, val_main_call5_v0, val_main_cst_23, val_main_cst_24]
  pointwise
  rw [zero_ap, one_ap]

end Cert.ReferenceIdeal.Image
-- ==== Proof.KernelIdealHost.Steps1.lean ====
module

public import proofs.«01_k».proof.Proof.KernelIdealHost.Vals
public import Idealize.ShloMosaic.PureOps
public import proofs.«01_k».proof.Proof.Gen.KernelIdeal.Frame

/-!
Each value as its operation computes it from the others (part 1).
-/

@[expose] public section

set_option maxRecDepth 16384
set_option maxHeartbeats 400000

noncomputable section

namespace Cert.KernelIdeal.HostLine

open Idealize.ShloMosaic Idealize.ShloMosaic.TcCoe Idealize.SL.Sem
open Cert.KernelIdeal Cert.KernelIdeal.Gen Cert.HostLine

variable {F : FTy → Type} [FloatOps F]

variable (m : (ℓ : Loc nD τ sig) → Buf (Elt F) ℓ) (c : Dev nD)

theorem v0_eq : v0 m c = (extractStridedSlice S4096x1 ![0, 0] · slices_S4096x2_S4096x1_0_0) (arg0 m c) := by
  have e := unary_step (held_eq m c) line_writes main_arg0 main_v0 0 rfl (by decide) (by decide)
  exact e

theorem v1_eq : v1 m c = shapeCast _ (v0 m c) shapeCasts_S4096x1_S4096 := by
  have e := reshape_step (held_eq m c) line_writes main_v0 main_v1 1 rfl (by decide) (by decide)
  exact e

theorem cst_eq : cst m c = (constant S_ .f32 0x3F800000#32) := by
  have e := nullary_step (held_eq m c) line_writes main_cst 2 rfl (by decide)
  exact e

theorem v2_eq : v2 m c = (broadcastInDim S4096 ![] bcast_S_S4096) (cst m c) := by
  have e := unary_step (held_eq m c) line_writes main_cst main_v2 3 rfl (by decide) (by decide)
  exact e

theorem v3_eq : v3 m c = addf (v1 m c) (v2 m c) := by
  have e := binary_step (held_eq m c) line_writes main_v1 main_v2 main_v3 4 rfl (by decide) (by decide) (by decide)
  exact e

theorem cst_0_eq : cst_0 m c = (constant S_ .f32 0x3F000000#32) := by
  have e := nullary_step (held_eq m c) line_writes main_cst_0 5 rfl (by decide)
  exact e

theorem v4_eq : v4 m c = (broadcastInDim S4096 ![] bcast_S_S4096) (cst_0 m c) := by
  have e := unary_step (held_eq m c) line_writes main_cst_0 main_v4 6 rfl (by decide) (by decide)
  exact e

theorem v5_eq : v5 m c = mulf (v4 m c) (v3 m c) := by
  have e := binary_step (held_eq m c) line_writes main_v4 main_v3 main_v5 7 rfl (by decide) (by decide) (by decide)
  exact e

theorem cst_1_eq : cst_1 m c = (constant S_ .f32 0x43800000#32) := by
  have e := nullary_step (held_eq m c) line_writes main_cst_1 8 rfl (by decide)
  exact e

theorem v6_eq : v6 m c = (broadcastInDim S4096 ![] bcast_S_S4096) (cst_1 m c) := by
  have e := unary_step (held_eq m c) line_writes main_cst_1 main_v6 9 rfl (by decide) (by decide)
  exact e

theorem v7_eq : v7 m c = mulf (v5 m c) (v6 m c) := by
  have e := binary_step (held_eq m c) line_writes main_v5 main_v6 main_v7 10 rfl (by decide) (by decide) (by decide)
  exact e

theorem v8_eq : v8 m c = (extractStridedSlice S4096x1 ![0, 1] · slices_S4096x2_S4096x1_0_1) (arg0 m c) := by
  have e := unary_step (held_eq m c) line_writes main_arg0 main_v8 11 rfl (by decide) (by decide)
  exact e

theorem v9_eq : v9 m c = shapeCast _ (v8 m c) shapeCasts_S4096x1_S4096 := by
  have e := reshape_step (held_eq m c) line_writes main_v8 main_v9 12 rfl (by decide) (by decide)
  exact e

theorem cst_2_eq : cst_2 m c = (constant S_ .f32 0x3F800000#32) := by
  have e := nullary_step (held_eq m c) line_writes main_cst_2 13 rfl (by decide)
  exact e

theorem v10_eq : v10 m c = (broadcastInDim S4096 ![] bcast_S_S4096) (cst_2 m c) := by
  have e := unary_step (held_eq m c) line_writes main_cst_2 main_v10 14 rfl (by decide) (by decide)
  exact e

theorem v11_eq : v11 m c = addf (v9 m c) (v10 m c) := by
  have e := binary_step (held_eq m c) line_writes main_v9 main_v10 main_v11 15 rfl (by decide) (by decide) (by decide)
  exact e

theorem cst_3_eq : cst_3 m c = (constant S_ .f32 0x3F000000#32) := by
  have e := nullary_step (held_eq m c) line_writes main_cst_3 16 rfl (by decide)
  exact e

theorem v12_eq : v12 m c = (broadcastInDim S4096 ![] bcast_S_S4096) (cst_3 m c) := by
  have e := unary_step (held_eq m c) line_writes main_cst_3 main_v12 17 rfl (by decide) (by decide)
  exact e

theorem v13_eq : v13 m c = mulf (v12 m c) (v11 m c) := by
  have e := binary_step (held_eq m c) line_writes main_v12 main_v11 main_v13 18 rfl (by decide) (by decide) (by decide)
  exact e

theorem cst_4_eq : cst_4 m c = (constant S_ .f32 0x43800000#32) := by
  have e := nullary_step (held_eq m c) line_writes main_cst_4 19 rfl (by decide)
  exact e

theorem v14_eq : v14 m c = (broadcastInDim S4096 ![] bcast_S_S4096) (cst_4 m c) := by
  have e := unary_step (held_eq m c) line_writes main_cst_4 main_v14 20 rfl (by decide) (by decide)
  exact e

theorem v15_eq : v15 m c = mulf (v13 m c) (v14 m c) := by
  have e := binary_step (held_eq m c) line_writes main_v13 main_v14 main_v15 21 rfl (by decide) (by decide) (by decide)
  exact e

theorem v16_eq : v16 m c = Host.absf (arg1 m c) := by
  have e := unary_step (held_eq m c) line_writes main_arg1 main_v16 22 rfl (by decide) (by decide)
  exact e

theorem v17_eq : v17 m c = shapeCast _ (arg2 m c) shapeCasts_S4096x1_S4096 := by
  have e := reshape_step (held_eq m c) line_writes main_arg2 main_v17 23 rfl (by decide) (by decide)
  exact e

theorem v18_eq : v18 m c = Host.negf (v17 m c) := by
  have e := unary_step (held_eq m c) line_writes main_v17 main_v18 24 rfl (by decide) (by decide)
  exact e

theorem v19_eq : v19 m c = Host.exp (v18 m c) := by
  have e := unary_step (held_eq m c) line_writes main_v18 main_v19 25 rfl (by decide) (by decide)
  exact e

theorem cst_5_eq : cst_5 m c = (constant S_ .f32 0x3F800000#32) := by
  have e := nullary_step (held_eq m c) line_writes main_cst_5 26 rfl (by decide)
  exact e

theorem v20_eq : v20 m c = (broadcastInDim S4096 ![] bcast_S_S4096) (cst_5 m c) := by
  have e := unary_step (held_eq m c) line_writes main_cst_5 main_v20 27 rfl (by decide) (by decide)
  exact e

theorem v21_eq : v21 m c = addf (v20 m c) (v19 m c) := by
  have e := binary_step (held_eq m c) line_writes main_v20 main_v19 main_v21 28 rfl (by decide) (by decide) (by decide)
  exact e

theorem cst_6_eq : cst_6 m c = (constant S_ .f32 0x3F800000#32) := by
  have e := nullary_step (held_eq m c) line_writes main_cst_6 29 rfl (by decide)
  exact e

theorem v22_eq : v22 m c = (broadcastInDim S4096 ![] bcast_S_S4096) (cst_6 m c) := by
  have e := unary_step (held_eq m c) line_writes main_cst_6 main_v22 30 rfl (by decide) (by decide)
  exact e

theorem v23_eq : v23 m c = Host.divf (v22 m c) (v21 m c) := by
  have e := binary_step (held_eq m c) line_writes main_v22 main_v21 main_v23 31 rfl (by decide) (by decide) (by decide)
  exact e

theorem cst_7_eq : cst_7 m c = (constant S_ .f32 0x40C90FDB#32) := by
  have e := nullary_step (held_eq m c) line_writes main_cst_7 32 rfl (by decide)
  exact e

theorem v24_eq : v24 m c = (broadcastInDim S4096 ![] bcast_S_S4096) (cst_7 m c) := by
  have e := unary_step (held_eq m c) line_writes main_cst_7 main_v24 33 rfl (by decide) (by decide)
  exact e

theorem v25_eq : v25 m c = mulf (v23 m c) (v24 m c) := by
  have e := binary_step (held_eq m c) line_writes main_v23 main_v24 main_v25 34 rfl (by decide) (by decide) (by decide)
  exact e

theorem v26_eq : v26 m c = Host.cos (v25 m c) := by
  have e := unary_step (held_eq m c) line_writes main_v25 main_v26 35 rfl (by decide) (by decide)
  exact e

theorem v27_eq : v27 m c = Host.sin (v25 m c) := by
  have e := unary_step (held_eq m c) line_writes main_v25 main_v27 36 rfl (by decide) (by decide)
  exact e

theorem v28_eq : v28 m c = (extractStridedSlice S4096x1 ![0, 0] · slices_S4096x2_S4096x1_0_0) (v16 m c) := by
  have e := unary_step (held_eq m c) line_writes main_v16 main_v28 37 rfl (by decide) (by decide)
  exact e

theorem v29_eq : v29 m c = shapeCast _ (v28 m c) shapeCasts_S4096x1_S4096 := by
  have e := reshape_step (held_eq m c) line_writes main_v28 main_v29 38 rfl (by decide) (by decide)
  exact e

theorem v30_eq : v30 m c = mulf (v29 m c) (v29 m c) := by
  have e := binary_step (held_eq m c) line_writes main_v29 main_v29 main_v30 39 rfl (by decide) (by decide) (by decide)
  exact e

theorem v31_eq : v31 m c = (extractStridedSlice S4096x1 ![0, 1] · slices_S4096x2_S4096x1_0_1) (v16 m c) := by
  have e := unary_step (held_eq m c) line_writes main_v16 main_v31 40 rfl (by decide) (by decide)
  exact e

theorem v32_eq : v32 m c = shapeCast _ (v31 m c) shapeCasts_S4096x1_S4096 := by
  have e := reshape_step (held_eq m c) line_writes main_v31 main_v32 41 rfl (by decide) (by decide)
  exact e

theorem v33_eq : v33 m c = mulf (v32 m c) (v32 m c) := by
  have e := binary_step (held_eq m c) line_writes main_v32 main_v32 main_v33 42 rfl (by decide) (by decide) (by decide)
  exact e

theorem v34_eq : v34 m c = mulf (v26 m c) (v26 m c) := by
  have e := binary_step (held_eq m c) line_writes main_v26 main_v26 main_v34 43 rfl (by decide) (by decide) (by decide)
  exact e

theorem v35_eq : v35 m c = mulf (v34 m c) (v30 m c) := by
  have e := binary_step (held_eq m c) line_writes main_v34 main_v30 main_v35 44 rfl (by decide) (by decide) (by decide)
  exact e

theorem v36_eq : v36 m c = mulf (v27 m c) (v27 m c) := by
  have e := binary_step (held_eq m c) line_writes main_v27 main_v27 main_v36 45 rfl (by decide) (by decide) (by decide)
  exact e

theorem v37_eq : v37 m c = mulf (v36 m c) (v33 m c) := by
  have e := binary_step (held_eq m c) line_writes main_v36 main_v33 main_v37 46 rfl (by decide) (by decide) (by decide)
  exact e

theorem v38_eq : v38 m c = addf (v35 m c) (v37 m c) := by
  have e := binary_step (held_eq m c) line_writes main_v35 main_v37 main_v38 47 rfl (by decide) (by decide) (by decide)
  exact e

theorem v39_eq : v39 m c = mulf (v26 m c) (v27 m c) := by
  have e := binary_step (held_eq m c) line_writes main_v26 main_v27 main_v39 48 rfl (by decide) (by decide) (by decide)
  exact e

theorem v40_eq : v40 m c = subf (v30 m c) (v33 m c) := by
  have e := binary_step (held_eq m c) line_writes main_v30 main_v33 main_v40 49 rfl (by decide) (by decide) (by decide)
  exact e

theorem v41_eq : v41 m c = mulf (v39 m c) (v40 m c) := by
  have e := binary_step (held_eq m c) line_writes main_v39 main_v40 main_v41 50 rfl (by decide) (by decide) (by decide)
  exact e

theorem v42_eq : v42 m c = mulf (v27 m c) (v27 m c) := by
  have e := binary_step (held_eq m c) line_writes main_v27 main_v27 main_v42 51 rfl (by decide) (by decide) (by decide)
  exact e

theorem v43_eq : v43 m c = mulf (v42 m c) (v30 m c) := by
  have e := binary_step (held_eq m c) line_writes main_v42 main_v30 main_v43 52 rfl (by decide) (by decide) (by decide)
  exact e

theorem v44_eq : v44 m c = mulf (v26 m c) (v26 m c) := by
  have e := binary_step (held_eq m c) line_writes main_v26 main_v26 main_v44 53 rfl (by decide) (by decide) (by decide)
  exact e

theorem v45_eq : v45 m c = mulf (v44 m c) (v33 m c) := by
  have e := binary_step (held_eq m c) line_writes main_v44 main_v33 main_v45 54 rfl (by decide) (by decide) (by decide)
  exact e

theorem v46_eq : v46 m c = addf (v43 m c) (v45 m c) := by
  have e := binary_step (held_eq m c) line_writes main_v43 main_v45 main_v46 55 rfl (by decide) (by decide) (by decide)
  exact e

theorem v47_eq : v47 m c = mulf (v38 m c) (v46 m c) := by
  have e := binary_step (held_eq m c) line_writes main_v38 main_v46 main_v47 56 rfl (by decide) (by decide) (by decide)
  exact e

theorem v48_eq : v48 m c = mulf (v41 m c) (v41 m c) := by
  have e := binary_step (held_eq m c) line_writes main_v41 main_v41 main_v48 57 rfl (by decide) (by decide) (by decide)
  exact e

theorem v49_eq : v49 m c = subf (v47 m c) (v48 m c) := by
  have e := binary_step (held_eq m c) line_writes main_v47 main_v48 main_v49 58 rfl (by decide) (by decide) (by decide)
  exact e

theorem cst_8_eq : cst_8 m c = (constant S_ .f32 0x2B8CBCCC#32) := by
  have e := nullary_step (held_eq m c) line_writes main_cst_8 59 rfl (by decide)
  exact e

theorem v50_eq : v50 m c = (broadcastInDim S4096 ![] bcast_S_S4096) (cst_8 m c) := by
  have e := unary_step (held_eq m c) line_writes main_cst_8 main_v50 60 rfl (by decide) (by decide)
  exact e

theorem v51_eq : v51 m c = addf (v49 m c) (v50 m c) := by
  have e := binary_step (held_eq m c) line_writes main_v49 main_v50 main_v51 61 rfl (by decide) (by decide) (by decide)
  exact e

theorem cst_9_eq : cst_9 m c = (constant S_ .f32 0x3F800000#32) := by
  have e := nullary_step (held_eq m c) line_writes main_cst_9 62 rfl (by decide)
  exact e

theorem v52_eq : v52 m c = (broadcastInDim S4096 ![] bcast_S_S4096) (cst_9 m c) := by
  have e := unary_step (held_eq m c) line_writes main_cst_9 main_v52 63 rfl (by decide) (by decide)
  exact e

theorem v53_eq : v53 m c = Host.divf (v52 m c) (v51 m c) := by
  have e := binary_step (held_eq m c) line_writes main_v52 main_v51 main_v53 64 rfl (by decide) (by decide) (by decide)
  exact e

theorem v54_eq : v54 m c = mulf (v46 m c) (v53 m c) := by
  have e := binary_step (held_eq m c) line_writes main_v46 main_v53 main_v54 65 rfl (by decide) (by decide) (by decide)
  exact e

theorem v55_eq : v55 m c = Host.negf (v41 m c) := by
  have e := unary_step (held_eq m c) line_writes main_v41 main_v55 66 rfl (by decide) (by decide)
  exact e

theorem v56_eq : v56 m c = mulf (v55 m c) (v53 m c) := by
  have e := binary_step (held_eq m c) line_writes main_v55 main_v53 main_v56 67 rfl (by decide) (by decide) (by decide)
  exact e

theorem v57_eq : v57 m c = mulf (v38 m c) (v53 m c) := by
  have e := binary_step (held_eq m c) line_writes main_v38 main_v53 main_v57 68 rfl (by decide) (by decide) (by decide)
  exact e

theorem v58_eq : v58 m c = (broadcastInDim S4096x3 ![0, 1] bcast_S4096x1_S4096x3_0_1) (arg4 m c) := by
  have e := unary_step (held_eq m c) line_writes main_arg4 main_v58 69 rfl (by decide) (by decide)
  exact e

theorem v59_eq : v59 m c = mulf (arg3 m c) (v58 m c) := by
  have e := binary_step (held_eq m c) line_writes main_arg3 main_v58 main_v59 70 rfl (by decide) (by decide) (by decide)
  exact e

theorem cst_10_eq : cst_10 m c = (constant S_ .f32 0x3D800000#32) := by
  have e := nullary_step (held_eq m c) line_writes main_cst_10 71 rfl (by decide)
  exact e

theorem v60_eq : v60 m c = (broadcastInDim S4096 ![] bcast_S_S4096) (cst_10 m c) := by
  have e := unary_step (held_eq m c) line_writes main_cst_10 main_v60 72 rfl (by decide) (by decide)
  exact e

theorem v61_eq : v61 m c = mulf (v7 m c) (v60 m c) := by
  have e := binary_step (held_eq m c) line_writes main_v7 main_v60 main_v61 73 rfl (by decide) (by decide) (by decide)
  exact e

theorem v62_eq : v62 m c = (fptosi 32) (v61 m c) := by
  have e := unary_step (held_eq m c) line_writes main_v61 main_v62 74 rfl (by decide) (by decide)
  exact e

end Cert.KernelIdeal.HostLine
-- ==== Proof.KernelIdealHost.Steps2.lean ====
module

public import proofs.«01_k».proof.Proof.KernelIdealHost.Vals
public import Idealize.ShloMosaic.PureOps
public import proofs.«01_k».proof.Proof.Gen.KernelIdeal.Frame

/-!
Each value as its operation computes it from the others (part 2).
-/

@[expose] public section

set_option maxRecDepth 16384
set_option maxHeartbeats 400000

noncomputable section

namespace Cert.KernelIdeal.HostLine

open Idealize.ShloMosaic Idealize.ShloMosaic.TcCoe Idealize.SL.Sem
open Cert.KernelIdeal Cert.KernelIdeal.Gen Cert.HostLine

variable {F : FTy → Type} [FloatOps F]

variable (m : (ℓ : Loc nD τ sig) → Buf (Elt F) ℓ) (c : Dev nD)

theorem c0_eq : c0 m c = (constantI S_ 32 0#32) := by
  have e := nullary_step (held_eq m c) line_writes main_c 75 rfl (by decide)
  exact e

theorem c_11_eq : c_11 m c = (constantI S_ 32 15#32) := by
  have e := nullary_step (held_eq m c) line_writes main_c_11 76 rfl (by decide)
  exact e

theorem call0_v0_eq : call0_v0 m c = id (c0 m c) := by
  have e := unary_call (held_eq m c) line_writes (.of main_c : StableHlo.TRef sig ⟨S_, .i32⟩) (.of main_call0_v0 : StableHlo.TRef sig ⟨S_, .i32⟩) 77 rfl (by decide) (by decide)
  exact e

theorem call0_v1_eq : call0_v1 m c = (broadcastInDim S4096 ![] bcast_S_S4096) (call0_v0 m c) := by
  have e := unary_call (held_eq m c) line_writes (.of main_call0_v0 : StableHlo.TRef sig ⟨S_, .i32⟩) (.of main_call0_v1 : StableHlo.TRef sig ⟨S4096, .i32⟩) 78 rfl (by decide) (by decide)
  exact e

theorem call0_v2_eq : call0_v2 m c = maxsi (call0_v1 m c) (v62 m c) := by
  have e := binary_call (held_eq m c) line_writes (.of main_call0_v1 : StableHlo.TRef sig ⟨S4096, .i32⟩) (.of main_v62 : StableHlo.TRef sig ⟨S4096, .i32⟩) (.of main_call0_v2 : StableHlo.TRef sig ⟨S4096, .i32⟩) 79 rfl (by decide) (by decide) (by decide)
  exact e

theorem call0_v3_eq : call0_v3 m c = id (c_11 m c) := by
  have e := unary_call (held_eq m c) line_writes (.of main_c_11 : StableHlo.TRef sig ⟨S_, .i32⟩) (.of main_call0_v3 : StableHlo.TRef sig ⟨S_, .i32⟩) 80 rfl (by decide) (by decide)
  exact e

theorem call0_v4_eq : call0_v4 m c = (broadcastInDim S4096 ![] bcast_S_S4096) (call0_v3 m c) := by
  have e := unary_call (held_eq m c) line_writes (.of main_call0_v3 : StableHlo.TRef sig ⟨S_, .i32⟩) (.of main_call0_v4 : StableHlo.TRef sig ⟨S4096, .i32⟩) 81 rfl (by decide) (by decide)
  exact e

theorem v63_eq : v63 m c = minsi (call0_v4 m c) (call0_v2 m c) := by
  have e := binary_call (held_eq m c) line_writes (.of main_call0_v4 : StableHlo.TRef sig ⟨S4096, .i32⟩) (.of main_call0_v2 : StableHlo.TRef sig ⟨S4096, .i32⟩) (.of main_v63 : StableHlo.TRef sig ⟨S4096, .i32⟩) 82 rfl (by decide) (by decide) (by decide)
  exact e

theorem cst_12_eq : cst_12 m c = (constant S_ .f32 0x3D800000#32) := by
  have e := nullary_step (held_eq m c) line_writes main_cst_12 83 rfl (by decide)
  exact e

theorem v64_eq : v64 m c = (broadcastInDim S4096 ![] bcast_S_S4096) (cst_12 m c) := by
  have e := unary_step (held_eq m c) line_writes main_cst_12 main_v64 84 rfl (by decide) (by decide)
  exact e

theorem v65_eq : v65 m c = mulf (v15 m c) (v64 m c) := by
  have e := binary_step (held_eq m c) line_writes main_v15 main_v64 main_v65 85 rfl (by decide) (by decide) (by decide)
  exact e

theorem v66_eq : v66 m c = (fptosi 32) (v65 m c) := by
  have e := unary_step (held_eq m c) line_writes main_v65 main_v66 86 rfl (by decide) (by decide)
  exact e

theorem c_13_eq : c_13 m c = (constantI S_ 32 0#32) := by
  have e := nullary_step (held_eq m c) line_writes main_c_13 87 rfl (by decide)
  exact e

theorem c_14_eq : c_14 m c = (constantI S_ 32 15#32) := by
  have e := nullary_step (held_eq m c) line_writes main_c_14 88 rfl (by decide)
  exact e

theorem call1_v0_eq : call1_v0 m c = id (c_13 m c) := by
  have e := unary_call (held_eq m c) line_writes (.of main_c_13 : StableHlo.TRef sig ⟨S_, .i32⟩) (.of main_call1_v0 : StableHlo.TRef sig ⟨S_, .i32⟩) 89 rfl (by decide) (by decide)
  exact e

theorem call1_v1_eq : call1_v1 m c = (broadcastInDim S4096 ![] bcast_S_S4096) (call1_v0 m c) := by
  have e := unary_call (held_eq m c) line_writes (.of main_call1_v0 : StableHlo.TRef sig ⟨S_, .i32⟩) (.of main_call1_v1 : StableHlo.TRef sig ⟨S4096, .i32⟩) 90 rfl (by decide) (by decide)
  exact e

theorem call1_v2_eq : call1_v2 m c = maxsi (call1_v1 m c) (v66 m c) := by
  have e := binary_call (held_eq m c) line_writes (.of main_call1_v1 : StableHlo.TRef sig ⟨S4096, .i32⟩) (.of main_v66 : StableHlo.TRef sig ⟨S4096, .i32⟩) (.of main_call1_v2 : StableHlo.TRef sig ⟨S4096, .i32⟩) 91 rfl (by decide) (by decide) (by decide)
  exact e

theorem call1_v3_eq : call1_v3 m c = id (c_14 m c) := by
  have e := unary_call (held_eq m c) line_writes (.of main_c_14 : StableHlo.TRef sig ⟨S_, .i32⟩) (.of main_call1_v3 : StableHlo.TRef sig ⟨S_, .i32⟩) 92 rfl (by decide) (by decide)
  exact e

theorem call1_v4_eq : call1_v4 m c = (broadcastInDim S4096 ![] bcast_S_S4096) (call1_v3 m c) := by
  have e := unary_call (held_eq m c) line_writes (.of main_call1_v3 : StableHlo.TRef sig ⟨S_, .i32⟩) (.of main_call1_v4 : StableHlo.TRef sig ⟨S4096, .i32⟩) 93 rfl (by decide) (by decide)
  exact e

theorem v67_eq : v67 m c = minsi (call1_v4 m c) (call1_v2 m c) := by
  have e := binary_call (held_eq m c) line_writes (.of main_call1_v4 : StableHlo.TRef sig ⟨S4096, .i32⟩) (.of main_call1_v2 : StableHlo.TRef sig ⟨S4096, .i32⟩) (.of main_v67 : StableHlo.TRef sig ⟨S4096, .i32⟩) 94 rfl (by decide) (by decide) (by decide)
  exact e

theorem v68_eq : v68 m c = (iotaInDim S4096 32 0) := by
  have e := nullary_step (held_eq m c) line_writes main_v68 95 rfl (by decide)
  exact e

theorem v69_eq : v69 m c = (iotaInDim S7 32 0) := by
  have e := nullary_step (held_eq m c) line_writes main_v69 96 rfl (by decide)
  exact e

theorem c_15_eq : c_15 m c = (constantI S_ 32 4294967293#32) := by
  have e := nullary_step (held_eq m c) line_writes main_c_15 97 rfl (by decide)
  exact e

theorem v70_eq : v70 m c = (broadcastInDim S7 ![] bcast_S_S7) (c_15 m c) := by
  have e := unary_step (held_eq m c) line_writes main_c_15 main_v70 98 rfl (by decide) (by decide)
  exact e

theorem v71_eq : v71 m c = addi (v70 m c) (v69 m c) := by
  have e := binary_step (held_eq m c) line_writes main_v70 main_v69 main_v71 99 rfl (by decide) (by decide) (by decide)
  exact e

theorem v72_eq : v72 m c = (broadcastInDim S4096x1 ![0] bcast_S4096_S4096x1_0) (v67 m c) := by
  have e := unary_step (held_eq m c) line_writes main_v67 main_v72 100 rfl (by decide) (by decide)
  exact e

theorem v73_eq : v73 m c = (broadcastInDim S1x7 ![1] bcast_S7_S1x7_1) (v71 m c) := by
  have e := unary_step (held_eq m c) line_writes main_v71 main_v73 101 rfl (by decide) (by decide)
  exact e

theorem v74_eq : v74 m c = (broadcastInDim S4096x7 ![0, 1] bcast_S4096x1_S4096x7_0_1) (v72 m c) := by
  have e := unary_step (held_eq m c) line_writes main_v72 main_v74 102 rfl (by decide) (by decide)
  exact e

theorem v75_eq : v75 m c = (broadcastInDim S4096x7 ![0, 1] bcast_S1x7_S4096x7_0_1) (v73 m c) := by
  have e := unary_step (held_eq m c) line_writes main_v73 main_v75 103 rfl (by decide) (by decide)
  exact e

theorem v76_eq : v76 m c = addi (v74 m c) (v75 m c) := by
  have e := binary_step (held_eq m c) line_writes main_v74 main_v75 main_v76 104 rfl (by decide) (by decide) (by decide)
  exact e

theorem c_16_eq : c_16 m c = (constantI S_ 32 16#32) := by
  have e := nullary_step (held_eq m c) line_writes main_c_16 105 rfl (by decide)
  exact e

theorem v77_eq : v77 m c = (broadcastInDim S4096x7 ![] bcast_S_S4096x7) (c_16 m c) := by
  have e := unary_step (held_eq m c) line_writes main_c_16 main_v77 106 rfl (by decide) (by decide)
  exact e

theorem v78_eq : v78 m c = muli (v76 m c) (v77 m c) := by
  have e := binary_step (held_eq m c) line_writes main_v76 main_v77 main_v78 107 rfl (by decide) (by decide) (by decide)
  exact e

theorem v79_eq : v79 m c = (broadcastInDim S4096x1 ![0] bcast_S4096_S4096x1_0) (v63 m c) := by
  have e := unary_step (held_eq m c) line_writes main_v63 main_v79 108 rfl (by decide) (by decide)
  exact e

theorem v80_eq : v80 m c = (broadcastInDim S4096x7 ![0, 1] bcast_S4096x1_S4096x7_0_1) (v79 m c) := by
  have e := unary_step (held_eq m c) line_writes main_v79 main_v80 109 rfl (by decide) (by decide)
  exact e

theorem v81_eq : v81 m c = addi (v78 m c) (v80 m c) := by
  have e := binary_step (held_eq m c) line_writes main_v78 main_v80 main_v81 110 rfl (by decide) (by decide) (by decide)
  exact e

theorem cst_17_eq : cst_17 m c = (constant S_ .f32 0x41C00000#32) := by
  have e := nullary_step (held_eq m c) line_writes main_cst_17 111 rfl (by decide)
  exact e

theorem v82_eq : v82 m c = (broadcastInDim S4096 ![] bcast_S_S4096) (cst_17 m c) := by
  have e := unary_step (held_eq m c) line_writes main_cst_17 main_v82 112 rfl (by decide) (by decide)
  exact e

theorem v83_eq : v83 m c = mulf (v82 m c) (v46 m c) := by
  have e := binary_step (held_eq m c) line_writes main_v82 main_v46 main_v83 113 rfl (by decide) (by decide) (by decide)
  exact e

theorem v84_eq : v84 m c = Host.sqrt (v83 m c) := by
  have e := unary_step (held_eq m c) line_writes main_v83 main_v84 114 rfl (by decide) (by decide)
  exact e

theorem v85_eq : v85 m c = absi (v71 m c) := by
  have e := unary_step (held_eq m c) line_writes main_v71 main_v85 115 rfl (by decide) (by decide)
  exact e

theorem c_18_eq : c_18 m c = (constantI S_ 32 1#32) := by
  have e := nullary_step (held_eq m c) line_writes main_c_18 116 rfl (by decide)
  exact e

theorem v86_eq : v86 m c = (broadcastInDim S7 ![] bcast_S_S7) (c_18 m c) := by
  have e := unary_step (held_eq m c) line_writes main_c_18 main_v86 117 rfl (by decide) (by decide)
  exact e

theorem v87_eq : v87 m c = subi (v85 m c) (v86 m c) := by
  have e := binary_step (held_eq m c) line_writes main_v85 main_v86 main_v87 118 rfl (by decide) (by decide) (by decide)
  exact e

theorem c_19_eq : c_19 m c = (constantI S_ 32 16#32) := by
  have e := nullary_step (held_eq m c) line_writes main_c_19 119 rfl (by decide)
  exact e

theorem v88_eq : v88 m c = (broadcastInDim S7 ![] bcast_S_S7) (c_19 m c) := by
  have e := unary_step (held_eq m c) line_writes main_c_19 main_v88 120 rfl (by decide) (by decide)
  exact e

theorem v89_eq : v89 m c = muli (v87 m c) (v88 m c) := by
  have e := binary_step (held_eq m c) line_writes main_v87 main_v88 main_v89 121 rfl (by decide) (by decide) (by decide)
  exact e

theorem v90_eq : v90 m c = (sitofp .f32) (v89 m c) := by
  have e := unary_step (held_eq m c) line_writes main_v89 main_v90 122 rfl (by decide) (by decide)
  exact e

theorem c_20_eq : c_20 m c = (constantI S_ 32 0#32) := by
  have e := nullary_step (held_eq m c) line_writes main_c_20 123 rfl (by decide)
  exact e

theorem v91_eq : v91 m c = (broadcastInDim S4096x7 ![] bcast_S_S4096x7) (c_20 m c) := by
  have e := unary_step (held_eq m c) line_writes main_c_20 main_v91 124 rfl (by decide) (by decide)
  exact e

theorem v92_eq : v92 m c = (cmpi .sge) (v76 m c) (v91 m c) := by
  have e := binary_step (held_eq m c) line_writes main_v76 main_v91 main_v92 125 rfl (by decide) (by decide) (by decide)
  exact e

theorem c_21_eq : c_21 m c = (constantI S_ 32 16#32) := by
  have e := nullary_step (held_eq m c) line_writes main_c_21 126 rfl (by decide)
  exact e

theorem v93_eq : v93 m c = (broadcastInDim S4096x7 ![] bcast_S_S4096x7) (c_21 m c) := by
  have e := unary_step (held_eq m c) line_writes main_c_21 main_v93 127 rfl (by decide) (by decide)
  exact e

theorem v94_eq : v94 m c = (cmpi .slt) (v76 m c) (v93 m c) := by
  have e := binary_step (held_eq m c) line_writes main_v76 main_v93 main_v94 128 rfl (by decide) (by decide) (by decide)
  exact e

theorem v95_eq : v95 m c = andi (v92 m c) (v94 m c) := by
  have e := binary_step (held_eq m c) line_writes main_v92 main_v94 main_v95 129 rfl (by decide) (by decide) (by decide)
  exact e

theorem v96_eq : v96 m c = (broadcastInDim S4096x1 ![0] bcast_S4096_S4096x1_0) (v84 m c) := by
  have e := unary_step (held_eq m c) line_writes main_v84 main_v96 130 rfl (by decide) (by decide)
  exact e

theorem v97_eq : v97 m c = (broadcastInDim S1x7 ![1] bcast_S7_S1x7_1) (v90 m c) := by
  have e := unary_step (held_eq m c) line_writes main_v90 main_v97 131 rfl (by decide) (by decide)
  exact e

theorem v98_eq : v98 m c = (broadcastInDim S4096x7 ![0, 1] bcast_S4096x1_S4096x7_0_1) (v96 m c) := by
  have e := unary_step (held_eq m c) line_writes main_v96 main_v98 132 rfl (by decide) (by decide)
  exact e

theorem v99_eq : v99 m c = (broadcastInDim S4096x7 ![0, 1] bcast_S1x7_S4096x7_0_1) (v97 m c) := by
  have e := unary_step (held_eq m c) line_writes main_v97 main_v99 133 rfl (by decide) (by decide)
  exact e

theorem v100_eq : v100 m c = (cmpf .ogt) (v98 m c) (v99 m c) := by
  have e := binary_step (held_eq m c) line_writes main_v98 main_v99 main_v100 134 rfl (by decide) (by decide) (by decide)
  exact e

theorem v101_eq : v101 m c = andi (v95 m c) (v100 m c) := by
  have e := binary_step (held_eq m c) line_writes main_v95 main_v100 main_v101 135 rfl (by decide) (by decide) (by decide)
  exact e

theorem c_22_eq : c_22 m c = (constantI S_ 32 4096#32) := by
  have e := nullary_step (held_eq m c) line_writes main_c_22 136 rfl (by decide)
  exact e

theorem v102_eq : v102 m c = (broadcastInDim S4096x7 ![] bcast_S_S4096x7) (c_22 m c) := by
  have e := unary_step (held_eq m c) line_writes main_c_22 main_v102 137 rfl (by decide) (by decide)
  exact e

theorem v103_eq : v103 m c = muli (v81 m c) (v102 m c) := by
  have e := binary_step (held_eq m c) line_writes main_v81 main_v102 main_v103 138 rfl (by decide) (by decide) (by decide)
  exact e

theorem v104_eq : v104 m c = (broadcastInDim S4096x1 ![0] bcast_S4096_S4096x1_0) (v68 m c) := by
  have e := unary_step (held_eq m c) line_writes main_v68 main_v104 139 rfl (by decide) (by decide)
  exact e

theorem v105_eq : v105 m c = (broadcastInDim S4096x7 ![0, 1] bcast_S4096x1_S4096x7_0_1) (v104 m c) := by
  have e := unary_step (held_eq m c) line_writes main_v104 main_v105 140 rfl (by decide) (by decide)
  exact e

theorem v106_eq : v106 m c = addi (v103 m c) (v105 m c) := by
  have e := binary_step (held_eq m c) line_writes main_v103 main_v105 main_v106 141 rfl (by decide) (by decide) (by decide)
  exact e

theorem v107_eq : v107 m c = (broadcastInDim S4096x1 ![0] bcast_S4096_S4096x1_0) (v68 m c) := by
  have e := unary_step (held_eq m c) line_writes main_v68 main_v107 142 rfl (by decide) (by decide)
  exact e

theorem c_23_eq : c_23 m c = (constantI S_ 32 536870912#32) := by
  have e := nullary_step (held_eq m c) line_writes main_c_23 143 rfl (by decide)
  exact e

theorem v108_eq : v108 m c = (broadcastInDim S4096x1 ![] bcast_S_S4096x1) (c_23 m c) := by
  have e := unary_step (held_eq m c) line_writes main_c_23 main_v108 144 rfl (by decide) (by decide)
  exact e

theorem v109_eq : v109 m c = addi (v108 m c) (v107 m c) := by
  have e := binary_step (held_eq m c) line_writes main_v108 main_v107 main_v109 145 rfl (by decide) (by decide) (by decide)
  exact e

theorem call2_v0_eq : call2_v0 m c = (broadcastInDim S4096x7 ![0, 1] bcast_S4096x1_S4096x7_0_1) (v109 m c) := by
  have e := unary_call (held_eq m c) line_writes (.of main_v109 : StableHlo.TRef sig ⟨S4096x1, .i32⟩) (.of main_call2_v0 : StableHlo.TRef sig ⟨S4096x7, .i32⟩) 146 rfl (by decide) (by decide)
  exact e

theorem v110_eq : v110 m c = select (v101 m c) (v106 m c) (call2_v0 m c) := by
  have e := ternary_call (held_eq m c) line_writes (.of main_v101 : StableHlo.TRef sig ⟨S4096x7, .i1⟩) (.of main_v106 : StableHlo.TRef sig ⟨S4096x7, .i32⟩) (.of main_call2_v0 : StableHlo.TRef sig ⟨S4096x7, .i32⟩) (.of main_v110 : StableHlo.TRef sig ⟨S4096x7, .i32⟩) 147 rfl (by decide) (by decide) (by decide) (by decide)
  exact e

theorem v111_eq : v111 m c = shapeCast _ (v110 m c) shapeCasts_S4096x7_S28672 := by
  have e := reshape_step (held_eq m c) line_writes main_v110 main_v111 148 rfl (by decide) (by decide)
  exact e

theorem v112_eq : v112 m c = (fun x => Host.sort S28672 0 comparator_i32_d0 x) (v111 m c) := by
  have e := unary_call (held_eq m c) line_writes (.of main_v111 : StableHlo.TRef sig ⟨S28672, .i32⟩) (.of main_v112 : StableHlo.TRef sig ⟨S28672, .i32⟩) 149 rfl (by decide) (by decide)
  exact e

end Cert.KernelIdeal.HostLine
-- ==== Proof.Words.Keys.lean ====
module

public import Idealize.ShloMosaic.Lib.Pointwise
public import Idealize.ShloMosaic.Lib.Decide

/-!
The sorting key of a pair as a number: the pair's group times 4096, plus the Gaussian's number. A pair that is kept has the
group `band * 16 + tile`, below 256; one that is dropped has the group 131072.
-/

@[expose] public section

set_option maxRecDepth 16384

namespace Cert.Words

open Idealize.ShloMosaic

/-- The band of tiles that is `d - 3` away from the band `b`. -/
def band (b : BitVec 32) (d : ℕ) : BitVec 32 := IntOp.addi b (IntOp.addi (4294967293#32) (BitVec.ofNat 32 d))

/-- The key of a pair: `g` is the Gaussian's number, `bx` and `b` its tile, `r` says that it reaches the band. -/
def pairKey (g : ℕ) (bx b : BitVec 32) (r : Bool) (d : ℕ) : BitVec 32 :=
  Scalar.select
    (IntOp.andi (IntOp.andi (IntOp.cmpi CmpIPredicate.sge (band b d) 0#32) (IntOp.cmpi CmpIPredicate.slt (band b d) 16#32))
      (BitVec.ofBool r))
    (IntOp.addi (IntOp.muli (IntOp.addi (IntOp.muli (band b d) 16#32) bx) 4096#32) (BitVec.ofNat 32 g))
    (IntOp.addi (536870912#32) (BitVec.ofNat 32 g))

theorem band_in : ∀ (b : Fin 16) (d : Fin 7),
    IntOp.andi (IntOp.cmpi CmpIPredicate.sge (band (BitVec.ofNat 32 b.val) d.val) 0#32)
      (IntOp.cmpi CmpIPredicate.slt (band (BitVec.ofNat 32 b.val) d.val) 16#32)
      = BitVec.ofBool (decide (3 ≤ b.val + d.val ∧ b.val + d.val < 19)) := by
  decide +kernel

theorem band_group : ∀ (b bx : Fin 16) (d : Fin 7), 3 ≤ b.val + d.val → b.val + d.val < 19 →
    IntOp.addi (IntOp.muli (band (BitVec.ofNat 32 b.val) d.val) 16#32) (BitVec.ofNat 32 bx.val)
      = BitVec.ofNat 32 ((b.val + d.val - 3) * 16 + bx.val) := by
  decide +kernel

/-- The group of a pair. -/
def group (bx b : ℕ) (r : Bool) (d : ℕ) : ℕ := if (3 ≤ b + d ∧ b + d < 19) ∧ r = true then (b + d - 3) * 16 + bx else 131072

theorem group_le (bx b : Fin 16) (r : Bool) (d : Fin 7) : group bx.val b.val r d.val ≤ 131072 := by
  unfold group
  split
  · omega
  · omega

theorem pairKey_toNat {g : ℕ} (hg : g < 4096) (bx b : Fin 16) (r : Bool) (d : Fin 7) :
    (pairKey g (BitVec.ofNat 32 bx.val) (BitVec.ofNat 32 b.val) r d.val).toNat = group bx.val b.val r d.val * 4096 + g := by
  unfold pairKey group
  rw [band_in]
  have key : ∀ p q : Bool, IntOp.andi (BitVec.ofBool p) (BitVec.ofBool q) = BitVec.ofBool (p && q) := by decide
  rw [key]
  by_cases h : (3 ≤ b.val + d.val ∧ b.val + d.val < 19) ∧ r = true
  · rw [if_pos h, band_group b bx d h.1.1 h.1.2, h.2, decide_eq_true h.1]
    show ((BitVec.ofNat 32 ((b.val + d.val - 3) * 16 + bx.val)) * 4096#32 + BitVec.ofNat 32 g).toNat = _
    simp only [BitVec.toNat_add, BitVec.toNat_mul, BitVec.toNat_ofNat]
    have := bx.isLt
    omega
  · have hf : (decide (3 ≤ b.val + d.val ∧ b.val + d.val < 19) && r) = false := by
      rw [Bool.eq_false_iff]
      intro ht
      rw [Bool.and_eq_true, decide_eq_true_iff] at ht
      exact h ht
    rw [if_neg h, hf]
    show (536870912#32 + BitVec.ofNat 32 g).toNat = _
    simp only [BitVec.toNat_add, BitVec.toNat_ofNat]
    omega

/-- The group of a key, which the host reads by a shift, -/
theorem shrsi_toNat {w : BitVec 32} (hw : w.toNat < 2 ^ 31) : IntOp.shrsi ArithUnit.host w 12#32 = BitVec.ofNat 32 (w.toNat / 4096) := by
  have hm : w.msb = false := by
    rw [BitVec.msb_eq_decide, decide_eq_false_iff_not]
    omega
  have e : IntOp.shrsi ArithUnit.host w 12#32 = w.sshiftRight' 12#32 := rfl
  rw [e, BitVec.sshiftRight_eq', BitVec.sshiftRight_eq_of_msb_false hm]
  apply BitVec.eq_of_toNat_eq
  rw [BitVec.toNat_ushiftRight, Nat.shiftRight_eq_div_pow]
  show w.toNat / 4096 = w.toNat / 4096 % 2 ^ 32
  omega

/-- and the Gaussian's number, which it reads by a mask. -/
theorem andi_toNat (w : BitVec 32) : IntOp.andi w 4095#32 = BitVec.ofNat 32 (w.toNat % 4096) := by
  apply BitVec.eq_of_toNat_eq
  show (w &&& 4095#32).toNat = _
  rw [BitVec.toNat_and, BitVec.toNat_ofNat, BitVec.toNat_ofNat]
  have : (4095 % 2 ^ 32 : ℕ) = 2 ^ 12 - 1 := by decide
  rw [this, Nat.and_two_pow_sub_one_eq_mod]
  omega

/-- Two words below `2 ^ 31` compare as their numbers. -/
theorem slt_toNat {a b : BitVec 32} (ha : a.toNat < 2 ^ 31) (hb : b.toNat < 2 ^ 31) : a.slt b = decide (a.toNat < b.toNat) := by
  rw [BitVec.slt_eq_decide, BitVec.toInt_eq_toNat_of_lt (by omega), BitVec.toInt_eq_toNat_of_lt (by omega)]
  simp

/-- A word clamped to the tiles. -/
theorem clamp_lt (w : BitVec 32) : (IntOp.minsi 15#32 (IntOp.maxsi 0#32 w)).toNat < 16 := by
  unfold IntOp.minsi IntOp.maxsi
  have h15 : (15#32 : BitVec 32).toInt = 15 := by decide
  have h0 : (0#32 : BitVec 32).toInt = 0 := by decide
  have hn := BitVec.toInt_eq_toNat_cond w
  have hl := w.isLt
  split
  · split
    · decide
    · decide
  · rename_i h
    split
    · decide
    · rename_i h'
      simp only [BitVec.slt_eq_decide, decide_eq_true_eq, h15, h0] at h h'
      split at hn <;> omega

end Cert.Words
-- ==== Proof.KernelIdealHost.Reads.lean ====
module

public import proofs.«01_k».proof.Proof.KernelIdealHost.Steps1
public import proofs.«01_k».proof.Proof.KernelIdealHost.Steps2
public import proofs.«01_k».proof.Proof.Image.Gauss
public import proofs.«01_k».proof.Proof.Words.Keys

/-!
The host's per-Gaussian arrays, read at a Gaussian: its centre, its covariance and the inverse, its weighted features, its
tile, and the sorting key of each of its seven pairs.
-/

@[expose] public section

set_option maxRecDepth 16384

noncomputable section

namespace Cert.KernelIdeal.HostLine

open Idealize.ShloMosaic Idealize.ShloMosaic.TcCoe Idealize.SL.Sem
open Cert.KernelIdeal Cert.KernelIdeal.Gen Cert.Gauss

variable (m : (ℓ : Loc nD τ sig) → Buf (Elt Ideal) ℓ) (c : Dev nD) (g : Fin 4096)

theorem v7_ap : v7 m c (ix1 g) = pos (arg0 m c (ix2 g 0)) := by
  simp only [v7_eq, v6_eq, v5_eq, v4_eq, v3_eq, v2_eq, v1_eq, v0_eq, cst_eq, cst_0_eq, cst_1_eq]
  pointwise
  rfl

theorem v15_ap : v15 m c (ix1 g) = pos (arg0 m c (ix2 g 1)) := by
  simp only [v15_eq, v14_eq, v13_eq, v12_eq, v11_eq, v10_eq, v9_eq, v8_eq, cst_2_eq, cst_3_eq, cst_4_eq]
  pointwise
  rfl

theorem v25_ap : v25 m c (ix1 g) = angle (arg2 m c (ix2 g 0)) := by
  simp only [v25_eq, v24_eq, v23_eq, v22_eq, v21_eq, v20_eq, v19_eq, v18_eq, v17_eq, cst_5_eq, cst_6_eq, cst_7_eq]
  pointwise
  rfl

theorem v30_ap : v30 m c (ix1 g) = scaleSq (arg1 m c (ix2 g 0)) := by
  simp only [v30_eq, v29_eq, v28_eq, v16_eq]
  pointwise
  rfl

theorem v33_ap : v33 m c (ix1 g) = scaleSq (arg1 m c (ix2 g 1)) := by
  simp only [v33_eq, v32_eq, v31_eq, v16_eq]
  pointwise
  rfl

theorem v38_ap : v38 m c (ix1 g) = covXX (arg1 m c (ix2 g 0)) (arg1 m c (ix2 g 1)) (arg2 m c (ix2 g 0)) := by
  simp only [v38_eq, v37_eq, v36_eq, v35_eq, v34_eq, v27_eq, v26_eq]
  pointwise
  rw [v25_ap, v30_ap, v33_ap]
  rfl

theorem v41_ap : v41 m c (ix1 g) = covXY (arg1 m c (ix2 g 0)) (arg1 m c (ix2 g 1)) (arg2 m c (ix2 g 0)) := by
  simp only [v41_eq, v40_eq, v39_eq, v27_eq, v26_eq]
  pointwise
  rw [v25_ap, v30_ap, v33_ap]
  rfl

theorem v46_ap : v46 m c (ix1 g) = covYY (arg1 m c (ix2 g 0)) (arg1 m c (ix2 g 1)) (arg2 m c (ix2 g 0)) := by
  simp only [v46_eq, v45_eq, v44_eq, v43_eq, v42_eq, v27_eq, v26_eq]
  pointwise
  rw [v25_ap, v30_ap, v33_ap]
  rfl

theorem v53_ap : v53 m c (ix1 g) = recip (arg1 m c (ix2 g 0)) (arg1 m c (ix2 g 1)) (arg2 m c (ix2 g 0)) := by
  simp only [v53_eq, v52_eq, v51_eq, v50_eq, v49_eq, v48_eq, v47_eq, cst_8_eq, cst_9_eq]
  pointwise
  rw [v38_ap, v41_ap, v46_ap]
  rfl

theorem v54_ap : v54 m c (ix1 g) = conA (arg1 m c (ix2 g 0)) (arg1 m c (ix2 g 1)) (arg2 m c (ix2 g 0)) := by
  simp only [v54_eq]
  pointwise
  rw [v53_ap, v46_ap]
  rfl

theorem v56_ap : v56 m c (ix1 g) = conB (arg1 m c (ix2 g 0)) (arg1 m c (ix2 g 1)) (arg2 m c (ix2 g 0)) := by
  simp only [v56_eq, v55_eq]
  pointwise
  rw [v53_ap, v41_ap]
  rfl

theorem v57_ap : v57 m c (ix1 g) = conC (arg1 m c (ix2 g 0)) (arg1 m c (ix2 g 1)) (arg2 m c (ix2 g 0)) := by
  simp only [v57_eq]
  pointwise
  rw [v53_ap, v38_ap]
  rfl

theorem v59_ap (ch : Fin 3) : v59 m c (ix2 g ch) = arg3 m c (ix2 g ch) * arg4 m c (ix2 g 0) := by
  simp only [v59_eq, v58_eq]
  pointwise

theorem v63_ap : v63 m c (ix1 g) = bin (arg0 m c (ix2 g 0)) := by
  simp only [v63_eq, call0_v4_eq, call0_v3_eq, call0_v2_eq, call0_v1_eq, call0_v0_eq, c0_eq, c_11_eq, v62_eq, v61_eq, v60_eq, cst_10_eq]
  pointwise
  rw [v7_ap]
  rfl

theorem v67_ap : v67 m c (ix1 g) = bin (arg0 m c (ix2 g 1)) := by
  simp only [v67_eq, call1_v4_eq, call1_v3_eq, call1_v2_eq, call1_v1_eq, call1_v0_eq, c_13_eq, c_14_eq, v66_eq, v65_eq, v64_eq, cst_12_eq]
  pointwise
  rw [v15_ap]
  rfl

/-- The key of a pair, from the Gaussian's number, its two tiles, its reach, and how far the pair's band is. -/
def key (g : ℕ) (bx b : BitVec 32) (e : EReal) (d : ℕ) : BitVec 32 :=
  Words.pairKey g bx b
    (decide (FloatOps.sitofp (F := Ideal) FTy.f32
      (IntOp.muli (IntOp.subi (IntOp.absi (IntOp.addi (4294967293#32) (BitVec.ofNat 32 d))) 1#32) 16#32) < e)) d

theorem v110_ap (d : Fin 7) : v110 m c (ix2 g d) = key g.val (bin (arg0 m c (ix2 g 0))) (bin (arg0 m c (ix2 g 1)))
    (reach (arg1 m c (ix2 g 0)) (arg1 m c (ix2 g 1)) (arg2 m c (ix2 g 0))) d.val := by
  simp only [v110_eq, call2_v0_eq, v109_eq, v108_eq, v107_eq, v106_eq, v105_eq, v104_eq, v103_eq, v102_eq, v101_eq,
    v100_eq, v99_eq, v98_eq, v97_eq, v96_eq, v95_eq, v94_eq, v93_eq, v92_eq, v91_eq, v90_eq, v89_eq, v88_eq, v87_eq,
    v86_eq, v85_eq, v84_eq, v83_eq, v82_eq, v81_eq, v80_eq, v79_eq, v78_eq, v77_eq, v76_eq, v75_eq, v74_eq, v73_eq,
    v72_eq, v71_eq, v70_eq, v69_eq, v68_eq, c_15_eq, c_16_eq, cst_17_eq, c_18_eq, c_19_eq, c_20_eq, c_21_eq, c_22_eq,
    c_23_eq]
  pointwise
  rw [v63_ap, v67_ap, v46_ap]
  rfl

end Cert.KernelIdeal.HostLine
-- ==== Proof.KernelIdealHost.Params.lean ====
module

public import proofs.«01_k».proof.Proof.KernelIdealHost.Steps3
public import proofs.«01_k».proof.Proof.KernelIdealHost.Steps4
public import proofs.«01_k».proof.Proof.KernelIdealHost.Reads

/-!
The two tables of numbers that the kernel reads: the eight parameters of each Gaussian, and the six monomials of each
pixel of a tile, in the pixel's place `u`, `v` counted from the tile's middle.
-/

@[expose] public section

set_option maxRecDepth 16384

noncomputable section

namespace Cert.KernelIdeal.HostLine

open Idealize.ShloMosaic Idealize.ShloMosaic.TcCoe Idealize.SL.Sem
open Cert.KernelIdeal Cert.KernelIdeal.Gen Cert.Gauss

variable (m : (ℓ : Loc nD τ sig) → Buf (Elt Ideal) ℓ) (c : Dev nD) (g : Fin 4096)

theorem v131_x : v131 m c (ix2 g 0) = pos (arg0 m c (ix2 g 0)) := by
  rw [← v7_ap]
  simp only [v131_eq, v123_eq]
  pointwise

theorem v131_y : v131 m c (ix2 g 1) = pos (arg0 m c (ix2 g 1)) := by
  rw [← v15_ap]
  simp only [v131_eq, v124_eq]
  pointwise

theorem v131_a : v131 m c (ix2 g 2) = conA (arg1 m c (ix2 g 0)) (arg1 m c (ix2 g 1)) (arg2 m c (ix2 g 0)) := by
  rw [← v54_ap]
  simp only [v131_eq, v125_eq]
  pointwise

theorem v131_b : v131 m c (ix2 g 3) = conB (arg1 m c (ix2 g 0)) (arg1 m c (ix2 g 1)) (arg2 m c (ix2 g 0)) := by
  rw [← v56_ap]
  simp only [v131_eq, v126_eq]
  pointwise

theorem v131_c : v131 m c (ix2 g 4) = conC (arg1 m c (ix2 g 0)) (arg1 m c (ix2 g 1)) (arg2 m c (ix2 g 0)) := by
  rw [← v57_ap]
  simp only [v131_eq, v127_eq]
  pointwise

theorem v131_feature : ∀ ch : Fin 3,
    v131 m c (ix2 g ⟨5 + ch.val, by omega⟩) = arg3 m c (ix2 g ch) * arg4 m c (ix2 g 0)
  | 0 => by
    rw [← v59_ap]
    simp only [v131_eq, v128_eq, v118_eq, v117_eq]
    pointwise
  | 1 => by
    rw [← v59_ap]
    simp only [v131_eq, v129_eq, v120_eq, v119_eq]
    pointwise
  | 2 => by
    rw [← v59_ap]
    simp only [v131_eq, v130_eq, v122_eq, v121_eq]
    pointwise

/-- The place of a row or a column of a tile, counted from the tile's middle. -/
def place (b : Fin 16) : EReal := ((b.val : ℝ) - 7.5 : ℝ)

theorem middle : Ideal.ofBits .f32 1089470464#32 = ((7.5 : ℝ) : EReal) := by
  simp [Ideal.ofBits, Ideal.ieee, -EReal.coe_mul]; norm_num

theorem low_bits : ∀ a b : Fin 16, (IntOp.andi (BitVec.ofNat 32 (a.val * 16 + b.val)) 15#32).toInt = (b.val : Int) := by
  decide +kernel

theorem high_bits : ∀ a b : Fin 16,
    (IntOp.shrsi ArithUnit.host (BitVec.ofNat 32 (a.val * 16 + b.val)) 4#32).toInt = (a.val : Int) := by
  decide +kernel

theorem v194_ap (a b : Fin 16) : v194 m c (ix1 ⟨a.val * 16 + b.val, by omega⟩) = place b := by
  simp only [v194_eq, v193_eq, v192_eq, v191_eq, v190_eq, v189_eq, c_43_eq, cst_44_eq]
  pointwise
  show (((IntOp.andi (BitVec.ofNat 32 (a.val * 16 + b.val)) 15#32).toInt : ℝ) : EReal) - Ideal.ofBits .f32 1089470464#32 = _
  rw [low_bits, middle]
  unfold place
  norm_cast

theorem v199_ap (a b : Fin 16) : v199 m c (ix1 ⟨a.val * 16 + b.val, by omega⟩) = place a := by
  simp only [v199_eq, v198_eq, v197_eq, v196_eq, v195_eq, v189_eq, c_45_eq, cst_46_eq]
  pointwise
  show (((IntOp.shrsi ArithUnit.host (BitVec.ofNat 32 (a.val * 16 + b.val)) 4#32).toInt : ℝ) : EReal)
    - Ideal.ofBits .f32 1089470464#32 = _
  rw [high_bits, middle]
  unfold place
  norm_cast

/-- The monomials of a pixel. -/
def monomials (u v : EReal) : Fin 6 → EReal := ![u * u, u, v * v, v, u * v, 1]

theorem v210_ap (a b : Fin 16) (k : Fin 6) :
    v210 m c (ix2 ⟨a.val * 16 + b.val, by omega⟩ k) = monomials (place b) (place a) k := by
  have hu := v194_ap m c a b
  have hv := v199_ap m c a b
  fin_cases k
  · show v210 m c (ix2 ⟨a.val * 16 + b.val, by omega⟩ 0) = place b * place b
    rw [← hu]
    simp only [v210_eq, v204_eq, v200_eq]
    pointwise
  · show v210 m c (ix2 ⟨a.val * 16 + b.val, by omega⟩ 1) = place b
    rw [← hu]
    simp only [v210_eq, v205_eq]
    pointwise
  · show v210 m c (ix2 ⟨a.val * 16 + b.val, by omega⟩ 2) = place a * place a
    rw [← hv]
    simp only [v210_eq, v206_eq, v201_eq]
    pointwise
  · show v210 m c (ix2 ⟨a.val * 16 + b.val, by omega⟩ 3) = place a
    rw [← hv]
    simp only [v210_eq, v207_eq]
    pointwise
  · show v210 m c (ix2 ⟨a.val * 16 + b.val, by omega⟩ 4) = place b * place a
    rw [← hu, ← hv]
    simp only [v210_eq, v208_eq, v202_eq]
    pointwise
  · show v210 m c (ix2 ⟨a.val * 16 + b.val, by omega⟩ 5) = 1
    simp only [v210_eq, v209_eq, v203_eq, cst_47_eq]
    pointwise

end Cert.KernelIdeal.HostLine
-- ==== Proof.Body.Trip.lean ====
module

public import proofs.«01_k».proof.Proof.Gen.KernelIdeal.Frame
public import proofs.«01_k».proof.Proof.Words.Bounds

/-!
One trip of the kernel's loop: each of the two carried sums takes one block of pairs, by the same operations.
-/

@[expose] public section

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]

/-- One block added to a carried sum. -/
def step (v4 v7 : F .f32) (v9 : FVec F S256x6 .f32) (v12 v14 : BitVec 32) (blk : BitVec 32)
    (x : FVec F S1x8x128 .f32) (a : FVec F S3x256 .f32) : FVec F S3x256 .f32 :=
  k0_pay9 (iota .tc S1x128 32 [1] iota_S1x128_d1_w32) v12 v14 a blk (k0_pay5 x) (k0_pay7 v4 v7 v9 x) (k0_pay8 v4 v7 v9 x)

theorem trip_eq (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .vmem S256x6 .f32) (harg4 : arg4.IsWhole) (arg5 : Memref sig .tc .vmem S226x8x128 .f32) (harg5 : arg5.IsWhole) (arg6 : Memref sig .tc .vmem S1x1x3x16x16 .f32) (harg6 : arg6.IsWhole) (v4 : F .f32) (v7 : F .f32) (v9 : FVec F S256x6 .f32) (v12 : Elt F .i32) (v14 : Elt F .i32) (hw : k0_chk1 v12 v14) (X : BufTy.Contents (Elt F) arg5.view.ty) (k : Fin (k0_t1_loop v12 v14).trips) (acc) :
    tripR_k0_t1 𝒱 c bd i arg2 harg2 arg3 harg3 arg4 harg4 arg5 harg5 arg6 harg6 v4 v7 v9 (iota .tc S1x128 32 [1] iota_S1x128_d1_w32) v12 v14 hw (Words.blk0 v12) X k acc
      = (step v4 v7 v9 v12 v14 (Words.blkA v12 k) (arg5.view.readAt (Elt F) (Rect.unit (s := S226x8x128) (k0_off2 v12 v14 k) S1x8x128.size (hw.2.1 k)).toLoadRect X) acc.1,
         step v4 v7 v9 v12 v14 (Words.blkB v12 k) (arg5.view.readAt (Elt F) (Rect.unit (s := S226x8x128) (k0_off3 v12 v14 k) S1x8x128.size (hw.2.2.1 k)).toLoadRect X) acc.2) := by
  unfold tripR_k0_t1 trip_k0_t1
  dsimp only
  sl_unfold_words
  rfl

end Cert.KernelIdeal.Body
-- ==== Proof.Body.Out.lean ====
module

public import proofs.«01_k».proof.Proof.Body.Trip
public import Idealize.ShloMosaic.Lib.Pipeline.Value

/-!
What the body leaves in its output block: the two sums that the loop carries, added and clipped.
-/

@[expose] public section

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]

/-- The word of the table of starts that a grid point reads, -/
abbrev word0 (c : Dev nD) (i : grid0.Coords) (xt0 : TbBuf0 (F := F) c tbM0_0) : BitVec 32 :=
  tbM0_0.view.readAt (Elt F) (Rect.unit (s := S256) (k0_off1 i) S1.size (k0_off1_inb i)).toLoadRect xt0 (Shape.Idx.first (numel1_S1.symm ▸ Nat.one_pos))
/-- and the word of the table of ends. -/
abbrev word1 (c : Dev nD) (i : grid0.Coords) (xt1 : TbBuf0 (F := F) c tbM0_1) : BitVec 32 :=
  tbM0_1.view.readAt (Elt F) (Rect.unit (s := S256) (k0_off1 i) S1.size (k0_off1_inb i)).toLoadRect xt1 (Shape.Idx.first (numel1_S1.symm ▸ Nat.one_pos))

theorem loop2_nil (s e : BitVec 32) : (k0_t2_loop s e).trips = 0 := Words.loop2_trips

/-- The second loop, over the trips that are left, makes none. -/
theorem st2_nil (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .vmem S256x6 .f32) (harg4 : arg4.IsWhole) (arg5 : Memref sig .tc .vmem S226x8x128 .f32) (harg5 : arg5.IsWhole) (arg6 : Memref sig .tc .vmem S1x1x3x16x16 .f32) (harg6 : arg6.IsWhole) (v4 : F .f32) (v7 : F .f32) (v9 : FVec F S256x6 .f32) (v10 : IVec S1x128 32) (v12 : Elt F .i32) (v14 : Elt F .i32) (k0_hw1 : k0_chk1 v12 v14) (v31 : BitVec 32) (v58 : BitVec 32) (X : BufTy.Contents (Elt F) arg5.view.ty) (init : FVec F S3x256 .f32 × FVec F S3x256 .f32) :
    st_k0_t2 𝒱 c bd i arg2 harg2 arg3 harg3 arg4 harg4 arg5 harg5 arg6 harg6 v4 v7 v9 v10 v12 v14 k0_hw1 v31 v58 X init (k0_t2_loop v12 v14).trips = init := by
  rw [loop2_nil]; rfl

/-- The sums that the loop carries out. -/
def carried (c : Dev nD) (i : grid0.Coords) (arg4 : Memref sig .tc .vmem S256x6 .f32) (harg4 : arg4.IsWhole) (arg5 : Memref sig .tc .vmem S226x8x128 .f32) (harg5 : arg5.IsWhole) (arg6 : Memref sig .tc .vmem S1x1x3x16x16 .f32) (harg6 : arg6.IsWhole)
    (x0 : Vec F S256x6 .f32) (x1 : Vec F S226x8x128 .f32) (s e : BitVec 32) (h : k0_chk1 s e) (n : ℕ) : FVec F S3x256 .f32 × FVec F S3x256 .f32 :=
  st_k0_t1 Variants.none c none i tbM0_0 htbM0_0 tbM0_1 htbM0_1 arg4 harg4 arg5 harg5 arg6 harg6 (k0_pay37 i) (k0_pay38 i)
    (k0_pay39 x0) (iota .tc S1x128 32 [1] iota_S1x128_d1_w32) s e h (Words.blk0 s) (harg5.unread x1) (k0_pay1, k0_pay1) n

theorem hz5 : (![0, 0, 0, 0, 0] : Fin 5 → ℕ) = fun _ => 0 := by decide
theorem hz2 : (![0, 0] : Fin 2 → ℕ) = fun _ => 0 := by decide

theorem out_eq (c : Dev nD) (i : grid0.Coords) (arg4 : Memref sig .tc .vmem S256x6 .f32) (harg4 : arg4.IsWhole) (arg5 : Memref sig .tc .vmem S226x8x128 .f32) (harg5 : arg5.IsWhole) (arg6 : Memref sig .tc .vmem S1x1x3x16x16 .f32) (harg6 : arg6.IsWhole)
    (x0 : Vec F S256x6 .f32) (x1 : Vec F S226x8x128 .f32) (xt0 : TbBuf0 (F := F) c tbM0_0) (xt1 : TbBuf0 (F := F) c tbM0_1) (h : k0_chk1 (word0 c i xt0) (word1 c i xt1)) :
    out0_A_2 c i arg4 harg4 arg5 harg5 arg6 harg6 x0 x1 xt0 xt1 h
      = k0_pay4 (carried c i arg4 harg4 arg5 harg5 arg6 harg6 x0 x1 _ _ h (k0_t1_loop (word0 c i xt0) (word1 c i xt1)).trips).1
          (carried c i arg4 harg4 arg5 harg5 arg6 harg6 x0 x1 _ _ h (k0_t1_loop (word0 c i xt0) (word1 c i xt1)).trips).2 := by
  unfold out0_A_2
  rw [View.read_writes_eq_canon _ _ _ (cover0_A_2 c i arg4 harg4 arg5 harg5 arg6 harg6 x0 x1 xt0 xt1 h)]
  unfold kernelRun0_A
  dsimp only
  rw [View.canon_unit_zero hz5]
  sl_unfold_words
  simp only [View.readAt_eq_ld, harg4.read_unread, View.ld_unit_zero (S := S256x6) hz2]
  exact congrArg (fun R : FVec F S3x256 .f32 × FVec F S3x256 .f32 => k0_pay4 R.1 R.2) (st2_nil ..)

end Cert.KernelIdeal.Body
-- ==== Proof.Body.Block.lean ====
module

public import proofs.«01_k».proof.Proof.Gen.KernelIdeal.Skeleton
public import Idealize.ShloMosaic.Lib.Pointwise
public import Idealize.ShloMosaic.Lib.IdealHost

/-!
What one block of 128 pairs adds to a tile. For pixel `p` of the tile and channel `ch` it is the sum over the block's
lanes of the lane's feature times `exp (-σ)`, where `σ` is a quadratic form of the pixel's place in the tile, with
coefficients made from the lane's parameters; lanes outside the run `[s, e)` count with feature zero.
-/

@[expose] public section

set_option maxRecDepth 16384

noncomputable section

namespace Cert.KernelIdeal.Body

open Idealize.ShloMosaic Idealize.SL.Sem
open Cert.KernelIdeal Cert.KernelIdeal.Gen

/-- One half, as the kernel prints it. -/
def half : EReal := Ideal.ofBits .f32 0x3F000000#32

/-- The quadratic form at a pixel: `q` is the pixel's row of monomials, `pc` the pair's column of parameters, `cx` and
    `cy` the tile's centre. -/
def form (cx cy : EReal) (q : Fin 6 → EReal) (pc : Fin 8 → EReal) : EReal :=
  q 0 * (half * pc 2) + q 1 * (0 - (pc 2 * (pc 0 - cx) + pc 3 * (pc 1 - cy))) + q 2 * (half * pc 4)
    + q 3 * (0 - (pc 4 * (pc 1 - cy) + pc 3 * (pc 0 - cx))) + q 4 * pc 3
    + q 5 * (half * pc 2 * (pc 0 - cx) * (pc 0 - cx) + half * pc 4 * (pc 1 - cy) * (pc 1 - cy)
        + pc 3 * (pc 0 - cx) * (pc 1 - cy))

/-- The weight of a form's value. -/
def wgt (s : EReal) : EReal := if 0 ≤ s then Ideal.exp (0 - s) else 0

theorem pay6_ap (cx cy : EReal) (q : FVec Ideal S256x6 .f32) (x : FVec Ideal S1x8x128 .f32) (p : Fin 256) (l : Fin 128) :
    k0_pay6 (F := Ideal) cx cy q x (ix2 p l) = form cx cy (fun k => q (ix2 p k)) (fun j => x (ix3 0 j l)) := by
  unfold k0_pay6 k0_pay5
  pointwise
  rw [Fin.sum_univ_six]
  rfl

/-- Whether a lane of a block lies in the run: its position among all pairs against the two ends, as words. -/
def inRun (s e blk : BitVec 32) (l : Fin 128) : Prop :=
  s.sle (BitVec.ofNat 32 l.val + blk * 128#32) = true ∧ (BitVec.ofNat 32 l.val + blk * 128#32).slt e = true

instance (s e blk : BitVec 32) (l : Fin 128) : Decidable (inRun s e blk l) := inferInstanceAs (Decidable (_ ∧ _))

/-- What one block adds at channel `ch` and pixel `p`: `x` is the block, `q` the table of monomials. -/
def add (cx cy : EReal) (q : FVec Ideal S256x6 .f32) (s e blk : BitVec 32) (x : FVec Ideal S1x8x128 .f32)
    (ch : Fin 3) (p : Fin 256) : EReal :=
  ∑ l : Fin 128, (if inRun s e blk l then x (ix3 0 ⟨5 + ch.val, by omega⟩ l) else 0)
    * wgt (form cx cy (fun k => q (ix2 p k)) (fun j => x (ix3 0 j l)))

theorem pay9_ap (cx cy : EReal) (q : FVec Ideal S256x6 .f32) (s e blk : BitVec 32) (x : FVec Ideal S1x8x128 .f32)
    (a : FVec Ideal S3x256 .f32) (ch : Fin 3) (p : Fin 256) :
    k0_pay9 (F := Ideal) (iota .tc S1x128 32 [1] iota_S1x128_d1_w32) s e a blk (k0_pay5 x) (k0_pay7 cx cy q x) (k0_pay8 cx cy q x) (ix2 ch p)
      = a (ix2 ch p) + add cx cy q s e blk x ch p := by
  unfold k0_pay9 k0_pay7 k0_pay8 k0_pay5
  pointwise
  simp only [pay6_ap]
  refine congrArg (a (ix2 ch p) + ·) (Finset.sum_congr rfl fun l _ => ?_)
  have hc : IntOp.andi (IntOp.cmpi .sge (IntOp.addi (BitVec.ofNat 32 l.val) (Scalar.muli blk 128#32)) s)
      (IntOp.cmpi .slt (IntOp.addi (BitVec.ofNat 32 l.val) (Scalar.muli blk 128#32)) e)
        = BitVec.ofBool (decide (inRun s e blk l)) := by
    have key : ∀ a b : Bool, BitVec.ofBool a &&& BitVec.ofBool b = BitVec.ofBool (decide (a = true ∧ b = true)) := by
      decide
    refine (key _ _).trans (congrArg BitVec.ofBool ?_)
    exact decide_eq_decide.2 Iff.rfl
  by_cases h : inRun s e blk l
  · rw [if_pos h]
    rw [hc, decide_eq_true h]; rfl
  · rw [if_neg h, zero_mul]
    rw [hc, decide_eq_false h]; rfl

end Cert.KernelIdeal.Body
-- ==== Proof.Body.Fold.lean ====
module

public import proofs.«01_k».proof.Proof.Body.Out
public import proofs.«01_k».proof.Proof.Body.Block

/-!
What a grid point writes: for channel `ch` and pixel `p`, the sum over the pairs of its run `[s, e)` of the pair's
feature times its weight, clipped to `[0, 1]`. The loop takes whole blocks, from the block that holds `s` on, two per
trip in two separate sums; lanes outside the run count zero, so the two sums together are the sum over the run.
-/

@[expose] public section

set_option maxRecDepth 16384

noncomputable section

namespace Cert.KernelIdeal.Body

open Idealize.ShloMosaic Idealize.ShloMosaic.TcCoe Idealize.SL.Sem
open Cert.KernelIdeal Cert.KernelIdeal.Gen

/-- Two interleaved sums over blocks of 128 are one sum over an interval. -/
theorem sum_blocks (T : ℕ → EReal) (b n : ℕ) :
    (∑ k ∈ Finset.range n, ∑ l : Fin 128, T (128 * (b + 2 * k) + l.val))
      + (∑ k ∈ Finset.range n, ∑ l : Fin 128, T (128 * (b + 2 * k + 1) + l.val))
      = ∑ m ∈ Finset.Ico (128 * b) (128 * b + 256 * n), T m := by
  have block : ∀ a : ℕ, ∑ l : Fin 128, T (a + l.val) = ∑ m ∈ Finset.Ico a (a + 128), T m := by
    intro a
    rw [Fin.sum_univ_eq_sum_range (fun l => T (a + l)), Finset.sum_Ico_eq_sum_range]
    congr 2
    omega
  induction n with
  | zero => simp
  | succ n ih =>
    rw [Finset.sum_range_succ, Finset.sum_range_succ, add_add_add_comm, ih, block, block,
      show 128 * (b + 2 * n) = 128 * b + 256 * n by omega,
      show 128 * (b + 2 * n + 1) = 128 * b + 256 * n + 128 by omega,
      Finset.sum_Ico_consecutive _ (by omega) (by omega), Finset.sum_Ico_consecutive _ (by omega) (by omega)]
    congr 2

/-- Column `n` of the table of pairs: 226 blocks of 8 rows and 128 lanes. -/
def column (x1 : FVec Ideal S226x8x128 .f32) (n : ℕ) (j : Fin 8) : EReal :=
  if h : n < 28928 then x1 (ix3 ⟨n / 128, by omega⟩ j ⟨n % 128, by omega⟩) else 0

/-- What pair `n` adds to a pixel. -/
def term (cx cy : EReal) (q : FVec Ideal S256x6 .f32) (x1 : FVec Ideal S226x8x128 .f32) (ch : Fin 3) (p : Fin 256)
    (n : ℕ) : EReal :=
  column x1 n ⟨5 + ch.val, by omega⟩ * wgt (form cx cy (fun k => q (ix2 p k)) (column x1 n))

theorem inRun_iff {s e : BitVec 32} (hs : s.toNat ≤ 28672) (he : e.toNat ≤ 28672) {b : ℕ} (hb : b < 226) (l : Fin 128) :
    inRun s e (BitVec.ofNat 32 b) l ↔ s.toNat ≤ 128 * b + l.val ∧ 128 * b + l.val < e.toNat := by
  have hw : BitVec.ofNat 32 l.val + BitVec.ofNat 32 b * 128#32 = BitVec.ofNat 32 (128 * b + l.val) := by
    rw [BitVec.ofNat_add, BitVec.ofNat_mul, BitVec.mul_comm (BitVec.ofNat 32 128), BitVec.add_comm]
  have hl := l.isLt
  unfold inRun
  rw [hw, BitVec.sle_iff_toInt_le, BitVec.slt_iff_toInt_lt, BitVec.toInt_eq_toNat_of_lt, BitVec.toInt_eq_toNat_of_lt,
    BitVec.toInt_eq_toNat_of_lt, BitVec.toNat_ofNat, Nat.mod_eq_of_lt]
  · norm_cast
  all_goals first | omega | (rw [BitVec.toNat_ofNat, Nat.mod_eq_of_lt] <;> omega)

/-- Block `b` of the pairs, as the body loads it. -/
def block (x1 : FVec Ideal S226x8x128 .f32) (b : ℕ) : FVec Ideal S1x8x128 .f32 :=
  fun j => column x1 (128 * b + (j 2).val) (j 1)

theorem add_block (cx cy : EReal) (q : FVec Ideal S256x6 .f32) (x1 : FVec Ideal S226x8x128 .f32) {s e : BitVec 32}
    (hs : s.toNat ≤ 28672) (he : e.toNat ≤ 28672) {b : ℕ} (hb : b < 226) (ch : Fin 3) (p : Fin 256) :
    add cx cy q s e (BitVec.ofNat 32 b) (block x1 b) ch p
      = ∑ l : Fin 128, if s.toNat ≤ 128 * b + l.val ∧ 128 * b + l.val < e.toNat
          then term cx cy q x1 ch p (128 * b + l.val) else 0 := by
  unfold add
  refine Finset.sum_congr rfl fun l _ => ?_
  by_cases h : s.toNat ≤ 128 * b + l.val ∧ 128 * b + l.val < e.toNat
  · rw [if_pos h, if_pos ((inRun_iff hs he hb l).2 h)]; rfl
  · rw [if_neg h, if_neg (fun hh => h ((inRun_iff hs he hb l).1 hh)), zero_mul]

section

variable (c : Dev nD) (i : grid0.Coords) (arg4 : Memref sig .tc .vmem S256x6 .f32) (harg4 : arg4.IsWhole)
  (arg5 : Memref sig .tc .vmem S226x8x128 .f32) (harg5 : arg5.IsWhole) (arg6 : Memref sig .tc .vmem S1x1x3x16x16 .f32)
  (harg6 : arg6.IsWhole) (x0 : FVec Ideal S256x6 .f32) (x1 : FVec Ideal S226x8x128 .f32)

/-- A load of one block from the table of pairs. -/
theorem load_block {b : ℕ} {off : Fin 3 → ℕ} (h0 : off = ![b, 0, 0])
    (h : ∀ a, off a + S1x8x128.size a ≤ S226x8x128.size a) :
    arg5.view.readAt (Elt Ideal) (Rect.unit (s := S226x8x128) off S1x8x128.size h).toLoadRect (harg5.unread x1)
      = block x1 b := by
  subst h0
  have hb : b + 1 ≤ 226 := h 0
  rw [View.readAt_eq_ld, harg5.read_unread]
  funext j
  obtain ⟨j0, j1, j2, rfl⟩ : ∃ a b c, j = ix3 a b c := ⟨_, _, _, eq_ix3 j⟩
  have hj0 : j0.val = 0 := by omega
  have h2 := j2.isLt
  unfold block column
  have hc : 128 * b + ((ix3 j0 j1 j2 : S1x8x128.Idx) 2).val = 128 * b + j2.val := rfl
  rw [dif_pos (show 128 * b + ((ix3 j0 j1 j2 : S1x8x128.Idx) 2).val < 28928 by rw [hc]; omega)]
  unfold View.ld
  refine congrArg x1 (funext fun a => Fin.ext ?_)
  fin_cases a
  · show b + 1 * j0.val = (128 * b + j2.val) / 128
    omega
  · show 0 + 1 * j1.val = j1.val
    omega
  · show 0 + 1 * j2.val = (128 * b + j2.val) % 128
    omega

/-- The two carried sums after `n` trips. -/
theorem carried_ap {s e : BitVec 32} (hs : s.toNat ≤ 28672) (he : e.toNat ≤ 28672) (h : k0_chk1 s e) (ch : Fin 3)
    (p : Fin 256) (n : ℕ) (hn : n ≤ (k0_t1_loop s e).trips) :
    (carried (F := Ideal) c i arg4 harg4 arg5 harg5 arg6 harg6 x0 x1 s e h n).1 (ix2 ch p)
        = ∑ k ∈ Finset.range n, ∑ l : Fin 128,
            (fun m => if s.toNat ≤ m ∧ m < e.toNat then term (k0_pay37 (F := Ideal) i) (k0_pay38 (F := Ideal) i) (k0_pay39 x0) x1 ch p m else 0)
              (128 * (s.toNat / 128 + 2 * k) + l.val)
      ∧ (carried (F := Ideal) c i arg4 harg4 arg5 harg5 arg6 harg6 x0 x1 s e h n).2 (ix2 ch p)
        = ∑ k ∈ Finset.range n, ∑ l : Fin 128,
            (fun m => if s.toNat ≤ m ∧ m < e.toNat then term (k0_pay37 (F := Ideal) i) (k0_pay38 (F := Ideal) i) (k0_pay39 x0) x1 ch p m else 0)
              (128 * (s.toNat / 128 + 2 * k + 1) + l.val) := by
  induction n with
  | zero =>
    have hz : ∀ j, (k0_pay1 (F := Ideal)) j = 0 := by
      intro j; unfold k0_pay1; pointwise
    exact ⟨hz (ix2 ch p), hz (ix2 ch p)⟩
  | succ n ih =>
    obtain ⟨ih1, ih2⟩ := ih (by omega)
    have hk : n < (k0_t1_loop s e).trips := by omega
    have hlt : s.toNat / 128 + 2 * n + 1 < 226 := Words.blk_lt hs he ⟨n, hk⟩
    have hA : k0_off2 s e ⟨n, hk⟩ = ![s.toNat / 128 + 2 * n, 0, 0] := by
      have := Words.blkA_toNat hs he ⟨n, hk⟩
      exact congrArg (fun v : ℕ => (![v, 0, 0] : Fin 3 → ℕ)) this
    have hB : k0_off3 s e ⟨n, hk⟩ = ![s.toNat / 128 + 2 * n + 1, 0, 0] := by
      have := Words.blkB_toNat hs he ⟨n, hk⟩
      exact congrArg (fun v : ℕ => (![v, 0, 0] : Fin 3 → ℕ)) this
    have hst := (st_k0_t1_succ Variants.none c none i tbM0_0 htbM0_0 tbM0_1 htbM0_1 arg4 harg4 arg5 harg5 arg6 harg6 (k0_pay37 (F := Ideal) i) (k0_pay38 i)
      (k0_pay39 x0) (iota .tc S1x128 32 [1] iota_S1x128_d1_w32) s e h (Words.blk0 s) (harg5.unread x1) (k0_pay1, k0_pay1) ⟨n, hk⟩).trans
      (trip_eq ..)
    have hcar : carried (F := Ideal) c i arg4 harg4 arg5 harg5 arg6 harg6 x0 x1 s e h (n + 1)
      = (step (k0_pay37 i) (k0_pay38 i) (k0_pay39 x0) s e (Words.blkA s n) (block x1 (s.toNat / 128 + 2 * n)) (carried (F := Ideal) c i arg4 harg4 arg5 harg5 arg6 harg6 x0 x1 s e h n).1,
         step (k0_pay37 i) (k0_pay38 i) (k0_pay39 x0) s e (Words.blkB s n) (block x1 (s.toNat / 128 + 2 * n + 1)) (carried (F := Ideal) c i arg4 harg4 arg5 harg5 arg6 harg6 x0 x1 s e h n).2) := by
      refine hst.trans ?_
      rw [load_block arg5 harg5 x1 hA, load_block arg5 harg5 x1 hB]
      rfl
    rw [hcar, Words.blkA_eq hs, Words.blkB_eq hs, Finset.sum_range_succ, Finset.sum_range_succ]
    constructor
    · refine (pay9_ap _ _ _ s e _ _ _ ch p).trans ?_
      rw [add_block _ _ _ _ hs he (by omega : s.toNat / 128 + 2 * n < 226), ih1]
    · refine (pay9_ap _ _ _ s e _ _ _ ch p).trans ?_
      rw [add_block _ _ _ _ hs he (by omega : s.toNat / 128 + 2 * n + 1 < 226), ih2]

/-- The two sums together, when the loop is over: the sum over the run. -/
theorem carried_total {s e : BitVec 32} (hs : s.toNat ≤ 28672) (he : e.toNat ≤ 28672) (h : k0_chk1 s e) (ch : Fin 3)
    (p : Fin 256) :
    (carried (F := Ideal) c i arg4 harg4 arg5 harg5 arg6 harg6 x0 x1 s e h (k0_t1_loop s e).trips).1 (ix2 ch p)
      + (carried (F := Ideal) c i arg4 harg4 arg5 harg5 arg6 harg6 x0 x1 s e h (k0_t1_loop s e).trips).2 (ix2 ch p)
      = ∑ m ∈ Finset.Ico s.toNat e.toNat, term (k0_pay37 (F := Ideal) i) (k0_pay38 (F := Ideal) i) (k0_pay39 x0) x1 ch p m := by
  obtain ⟨h1, h2⟩ := carried_ap c i arg4 harg4 arg5 harg5 arg6 harg6 x0 x1 hs he h ch p _ le_rfl
  have ht : (((k0_t1_loop s e).trips : ℕ) : Int) = _ := Words.loop1_trips hs he
  refine (congrArg₂ (fun a b : EReal => a + b) h1 h2).trans ?_
  generalize (k0_t1_loop s e).trips = N at ht ⊢
  refine (sum_blocks (fun m => if s.toNat ≤ m ∧ m < e.toNat then
    term (k0_pay37 (F := Ideal) i) (k0_pay38 (F := Ideal) i) (k0_pay39 x0) x1 ch p m else 0) (s.toNat / 128) N).trans ?_
  rw [← Finset.sum_filter]
  refine Finset.sum_congr ?_ fun _ _ => rfl
  ext m
  simp only [Finset.mem_filter, Finset.mem_Ico]
  omega

/-- What the grid point writes at channel `ch` and pixel `(a, b)` of its tile. -/
theorem out_ap (xt0 : TbBuf0 (F := Ideal) c tbM0_0) (xt1 : TbBuf0 (F := Ideal) c tbM0_1)
    (h : k0_chk1 (word0 c i xt0) (word1 c i xt1)) (hs : (word0 c i xt0).toNat ≤ 28672) (he : (word1 c i xt1).toNat ≤ 28672)
    (ch : Fin 3) (a b : Fin 16) :
    out0_A_2 c i arg4 harg4 arg5 harg5 arg6 harg6 x0 x1 xt0 xt1 h (ix5 0 0 ch a b)
      = min 1 (max 0 (∑ m ∈ Finset.Ico (word0 c i xt0).toNat (word1 c i xt1).toNat,
          term (k0_pay37 (F := Ideal) i) (k0_pay38 (F := Ideal) i) (k0_pay39 x0) x1 ch ⟨a.val * 16 + b.val, by omega⟩ m)) := by
  rw [out_eq]
  have ht := carried_total c i arg4 harg4 arg5 harg5 arg6 harg6 x0 x1 hs he h ch ⟨a.val * 16 + b.val, by omega⟩
  rw [← ht]
  generalize carried (F := Ideal) c i arg4 harg4 arg5 harg5 arg6 harg6 x0 x1 _ _ h _ = R
  obtain ⟨A, B⟩ := R
  unfold k0_pay4
  pointwise

end

end Cert.KernelIdeal.Body
-- ==== Proof.Body.Region.lean ====
module

public import proofs.«01_k».proof.Proof.Body.Fold
public import Idealize.ShloMosaic.Lib.Pipeline.Value
public import Idealize.ShloMosaic.Lib.StableHlo.Run

/-!
What the kernel leaves in its result array, and what the two host operations after it make of that: the output image.
Grid point `(ti, tj)` writes the block of tile `(ti, tj)`; the transposition and the reshape put its pixel `(a, b)` at row
`16 ti + a` and column `16 tj + b` of the image.
-/

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (hO : Ok m) (hH : Hyps m hO) (c : Dev nD)

/-- The grid point of tile `(ti, tj)`. -/
def pt (ti tj : Fin 16) : Fin grid0.N := ⟨ti.val * 16 + tj.val, by
  have : grid0.N = 256 := by decide
  omega⟩

theorem pt_coords : ∀ ti tj : Fin 16, (grid0.coords (pt ti tj) 0).val = ti.val ∧ (grid0.coords (pt ti tj) 1).val = tj.val := by
  decide +kernel

theorem pt_index : ∀ ti tj : Fin 16, cc0_transform_2 (grid0.coords (pt ti tj)) = ![ti.val, tj.val, 0, 0, 0] := by
  decide +kernel

theorem exists_pt : ∀ t : Fin grid0.N, ∃ ti tj, t = pt ti tj := by
  have hN : grid0.N = 256 := by decide
  intro t
  have := t.isLt
  exact ⟨⟨t.val / 16, by omega⟩, ⟨t.val % 16, by omega⟩, Fin.ext (by show t.val = t.val / 16 * 16 + t.val % 16; omega)⟩

/-- The result array: tile `(ti, tj)`'s block is what its grid point leaves. -/
def region : (⟨S16x16x3x16x16, .f32⟩ : BufTy).Contents (Elt F) :=
  fun i => outsAt0 m hO hH c (pt (i 0) (i 1)) (ix5 0 0 (i 2) (i 3) (i 4))

/-- Where an element of a tile's block sits in the array. -/
theorem emb_val (ti tj : Fin 16) (y : S1x1x3x16x16.Idx) :
    ((((cfgM m hO).win 2).blk (pt ti tj)).view.emb y : S16x16x3x16x16.Idx) = ix5 ti tj (y 2) (y 3) (y 4) := by
  have hi := pt_index ti tj
  have h0 : (y 0).val = 0 := by have := (y 0).isLt; exact Nat.lt_one_iff.mp this
  have h1 : (y 1).val = 0 := by have := (y 1).isLt; exact Nat.lt_one_iff.mp this
  have hv : ∀ a : Fin 5, (((((cfgM m hO).win 2).blk (pt ti tj)).view.emb y : S16x16x3x16x16.Idx) a).val
      = (![ti.val, tj.val, 0, 0, 0] : Fin 5 → ℕ) a * S1x1x3x16x16.size a + 1 * (y a).val := fun a => by rw [← hi]; rfl
  generalize ((((cfgM m hO).win 2).blk (pt ti tj)).view.emb y : S16x16x3x16x16.Idx) = z at hv ⊢
  funext a
  apply Fin.ext
  refine (hv a).trans ?_
  fin_cases a
  · show ti.val * 1 + 1 * (y 0).val = ti.val
    omega
  · show tj.val * 1 + 1 * (y 1).val = tj.val
    omega
  · show 0 * 3 + 1 * (y 2).val = (y 2).val
    omega
  · show 0 * 16 + 1 * (y 3).val = (y 3).val
    omega
  · show 0 * 16 + 1 * (y 4).val = (y 4).val
    omega

theorem unit_coords (y : S1x1x3x16x16.Idx) : y = ix5 0 0 (y 2) (y 3) (y 4) := by
  funext a
  fin_cases a
  · exact Fin.ext (Nat.lt_one_iff.mp (y 0).isLt)
  · exact Fin.ext (Nat.lt_one_iff.mp (y 1).isLt)
  all_goals rfl

/-- The block a grid point writes back is its part of `region`. -/
theorem flushed_pt (ti tj : Fin 16) :
    (dats m hO hH 0 c).flushed 2 (pt ti tj)
      = (((cfgM m hO).win 2).blk (pt ti tj)).view.read (Elt F) (region m hO hH c) := by
  have ha : (dats m hO hH 0 c).flushed 2 (pt ti tj) = outsAt0 m hO hH c (pt ti tj) := after0_2 m hO hH c (pt ti tj)
  refine ha.trans ?_
  generalize hG : region m hO hH c = G
  have hG' : ∀ y : S1x1x3x16x16.Idx, G (ix5 ti tj (y 2) (y 3) (y 4)) = outsAt0 m hO hH c (pt ti tj) y := fun y => by
    rw [← hG]; exact congrArg (outsAt0 m hO hH c (pt ti tj)) (unit_coords y).symm
  generalize outsAt0 m hO hH c (pt ti tj) = o at hG'
  refine funext fun (y : S1x1x3x16x16.Idx) => ?_
  have hr : (((cfgM m hO).win 2).blk (pt ti tj)).view.read (Elt F) G y
      = G (((((cfgM m hO).win 2).blk (pt ti tj)).view.emb y : S16x16x3x16x16.Idx)) := View.read_apply ..
  exact ((hr.trans (congrArg G (emb_val m hO ti tj y))).trans (hG' y)).symm

theorem flushed_eq (t : Fin grid0.N) :
    (dats m hO hH 0 c).flushed 2 t = (((cfgM m hO).win 2).blk t).view.read (Elt F) (region m hO hH c) := by
  obtain ⟨ti, tj, h⟩ := exists_pt t
  rw [h]
  exact flushed_pt m hO hH c ti tj

/-- Every element of the result array lies in some tile's block. -/
theorem covered (i : S16x16x3x16x16.Idx) :
    ∃ t : Fin (cfgM m hO).N, ((cfgM m hO).win 2).flush t = true ∧ i ∈ (((cfgM m hO).win 2).blk t).view.set := by
  have e := emb_val m hO (i 0) (i 1) (ix5 0 0 (i 2) (i 3) (i 4))
  have h2 : (((((cfgM m hO).win 2).blk (pt (i 0) (i 1))).view.emb (ix5 0 0 (i 2) (i 3) (i 4) : S1x1x3x16x16.Idx)) : S16x16x3x16x16.Idx) = i :=
    e.trans (eq_ix5 i).symm
  refine ⟨pt (i 0) (i 1), flush0_2 (adm m hO) _, ?_⟩
  have h3 := View.emb_mem_set (((cfgM m hO).win 2).blk (pt (i 0) (i 1))).view (ix5 0 0 (i 2) (i 3) (i 4) : S1x1x3x16x16.Idx)
  exact Eq.subst (motive := fun z : S16x16x3x16x16.Idx => z ∈ (((cfgM m hO).win 2).blk (pt (i 0) (i 1))).view.set) h2 h3

/-- After the run the result array is `region`. -/
theorem final : (dats m hO hH 0 c).arrAt 2 (cfgM m hO).N = region m hO hH c :=
  (dats m hO hH 0 c).arrAt_eq_of_cover 2 (region m hO hH c) (fun t _ => flushed_eq m hO hH c t) (covered m hO)

/-- The image that the program returns. -/
def image : (⟨S1x3x256x256, .f32⟩ : BufTy).Contents (Elt F) :=
  shapeCast _ (transpose S3x16x16x16x16 [2, 0, 3, 1, 4] (region m hO hH c) transposes_S16x16x3x16x16_S3x16x16x16x16_2_0_3_1_4) shapeCasts_S3x16x16x16x16_S1x3x256x256

theorem image_ap (ch : Fin 3) (r s : Fin 256) :
    image m hO hH c (ix4 0 ch r s)
      = outsAt0 m hO hH c (pt ⟨r.val / 16, by omega⟩ ⟨s.val / 16, by omega⟩)
          (ix5 0 0 ch ⟨r.val % 16, by omega⟩ ⟨s.val % 16, by omega⟩) := by
  unfold image
  pointwise
  rfl

/-- The two host operations after the region leave the image in the program's result buffer. -/
theorem tail_eq :
    Pipeline.afterTail pcfgs (fun _ => adm m hO) (dats m hO hH) 0 (V0 m) [hostOps1] c main_v213 = image m hO hH c := by
  have hr : Pipeline.withArrays spec0 c (V0 m c) (fun w => (dats m hO hH 0 c).arrAt w (cfgM m hO).N) (Proc.devRef .tc main_v211)
      = region m hO hH c :=
    (Pipeline.withArrays_arr spec0 (by decide) c (V0 m c) (fun w => (dats m hO hH 0 c).arrAt w (cfgM m hO).N) 2).trans (final m hO hH c)
  unfold Pipeline.afterTail
  show StableHlo.after hostOps1 (Pipeline.withArrays spec0 c (V0 m c) (fun w => (dats m hO hH 0 c).arrAt w (cfgM m hO).N)) (Proc.devRef .tc main_v213) = _
  generalize Pipeline.withArrays spec0 c (V0 m c) (fun w => (dats m hO hH 0 c).arrAt w (cfgM m hO).N) = W at hr
  have h1 : StableHlo.after hostOps1 W (Proc.devRef .tc main_v213)
      = shapeCast _ (transpose S3x16x16x16x16 [2, 0, 3, 1, 4] (W (Proc.devRef .tc main_v211)) transposes_S16x16x3x16x16_S3x16x16x16x16_2_0_3_1_4) shapeCasts_S3x16x16x16x16_S1x3x256x256 := by
    rfl
  rw [h1, hr]
  rfl

/-- The run: the result buffer ends at the image, the arguments unchanged. -/
theorem run (ρ : Dev nD → PrngReg) : θ_run defs (onTc (τ := τ) (main (F := F))) ⟨m, fun _ => 0, ρ⟩ fun r => ∀ c : Dev nD,
      r.2.mem ((c : Thread nD τ).loc main_v213) = image m hO hH c :=
  (θ_run defs _ _).mono (fun _ h c => ((h c).2 main_v213 (by exact (by decide : main_v213 ∈ Pipeline.restRefs sig spec0))).trans (tail_eq m hO hH c)) (run_main m ρ hO hH)

end Cert.KernelIdeal.Body
-- ==== Proof.Body.Inputs.lean ====
module

public import proofs.«01_k».proof.Proof.Body.Region

/-!
What a grid point reads: the whole table of monomials, the whole table of pairs, its own word of each table of words, and
the centre of its tile.
-/

@[expose] public section

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (hO : Ok m) (hH : Hyps m hO) (c : Dev nD)

theorem iblk_monomials (t : Fin grid0.N) :
    (iblk m hO c 0 t : FVec F S256x6 .f32) = (V m c main_v210 : (⟨S256x6, .f32⟩ : BufTy).Contents (Elt F)) := by
  have hz : ∀ a : Fin 2, cc0_transform_0 (grid0.coords t) a = 0 := fun a => by fin_cases a <;> rfl
  unfold iblk
  generalize hA : (V m c main_v210 : (⟨S256x6, .f32⟩ : BufTy).Contents (Elt F)) = A
  have hr : ∀ y : S256x6.Idx, (((cfgM m hO).win 0).blk t).view.read (Elt F) (V m c main_v210) y
      = A ((((cfgM m hO).win 0).blk t).view.emb y : S256x6.Idx) := fun y => by rw [← hA]; exact View.read_apply ..
  refine funext fun (y : S256x6.Idx) => (hr y).trans (congrArg A ?_)
  have hv : ∀ a : Fin 2, (((((cfgM m hO).win 0).blk t).view.emb y : S256x6.Idx) a).val
      = cc0_transform_0 (grid0.coords t) a * S256x6.size a + 1 * (y a).val := fun a => rfl
  generalize ((((cfgM m hO).win 0).blk t).view.emb y : S256x6.Idx) = z at hv ⊢
  funext a
  apply Fin.ext
  have := hv a
  rw [hz a] at this
  omega

theorem iblk_pairs (t : Fin grid0.N) :
    (iblk m hO c 1 t : FVec F S226x8x128 .f32) = (V m c main_v141 : (⟨S226x8x128, .f32⟩ : BufTy).Contents (Elt F)) := by
  have hz : ∀ a : Fin 3, cc0_transform_1 (grid0.coords t) a = 0 := fun a => by fin_cases a <;> rfl
  unfold iblk
  generalize hA : (V m c main_v141 : (⟨S226x8x128, .f32⟩ : BufTy).Contents (Elt F)) = A
  have hr : ∀ y : S226x8x128.Idx, (((cfgM m hO).win 1).blk t).view.read (Elt F) (V m c main_v141) y
      = A ((((cfgM m hO).win 1).blk t).view.emb y : S226x8x128.Idx) := fun y => by rw [← hA]; exact View.read_apply ..
  refine funext fun (y : S226x8x128.Idx) => (hr y).trans (congrArg A ?_)
  have hv : ∀ a : Fin 3, (((((cfgM m hO).win 1).blk t).view.emb y : S226x8x128.Idx) a).val
      = cc0_transform_1 (grid0.coords t) a * S226x8x128.size a + 1 * (y a).val := fun a => rfl
  generalize ((((cfgM m hO).win 1).blk t).view.emb y : S226x8x128.Idx) = z at hv ⊢
  funext a
  apply Fin.ext
  have := hv a
  rw [hz a] at this
  omega

/-- The position of a grid point's word in the tables. -/
theorem off1_eq : ∀ ti tj : Fin 16, k0_off1 (grid0.coords (pt ti tj)) 0 = ti.val * 16 + tj.val := by
  decide +kernel

/-- The word that tile `(ti, tj)` reads from a table of starts, -/
theorem word0_eq (x : IVec S256 32) (ti tj : Fin 16) :
    word0 (F := F) c (grid0.coords (pt ti tj)) x = x (ix1 ⟨ti.val * 16 + tj.val, by omega⟩) := by
  have h := off1_eq ti tj
  refine congrArg x (funext fun a => Fin.ext ?_)
  fin_cases a
  show k0_off1 (grid0.coords (pt ti tj)) 0 + 1 * 0 = ti.val * 16 + tj.val
  omega

/-- and from a table of ends. -/
theorem word1_eq (x : IVec S256 32) (ti tj : Fin 16) :
    word1 (F := F) c (grid0.coords (pt ti tj)) x = x (ix1 ⟨ti.val * 16 + tj.val, by omega⟩) := by
  have h := off1_eq ti tj
  refine congrArg x (funext fun a => Fin.ext ?_)
  fin_cases a
  show k0_off1 (grid0.coords (pt ti tj)) 0 + 1 * 0 = ti.val * 16 + tj.val
  omega

/-- The centre of a tile, along a row or a column. -/
def centre (t : Fin 16) : EReal := ((16 * t.val + 8 : ℕ) : ℝ)

theorem centre_aux : ∀ t : Fin 16, ((BitVec.ofNat 32 t.val * 16#32 : BitVec 32).toInt : Int) = 16 * t.val := by decide

theorem eight : Ideal.ofBits .f32 0x41000000#32 = ((8 : ℝ) : EReal) := by
  simp [Ideal.ofBits, Ideal.ieee, -EReal.coe_mul]; norm_num

theorem pay37_eq (ti tj : Fin 16) : k0_pay37 (F := Ideal) (grid0.coords (pt ti tj)) = centre tj := by
  obtain ⟨-, h⟩ := pt_coords ti tj
  unfold k0_pay37 centre
  rw [h]
  show ((((BitVec.ofNat 32 tj.val * 16#32 : BitVec 32).toInt : ℝ) : EReal)) + Ideal.ofBits .f32 0x41000000#32 = _
  rw [eight]
  show ((((BitVec.ofNat 32 tj.val * 16#32 : BitVec 32).toInt : ℝ) : EReal)) + ((8 : ℝ) : EReal) = _
  rw [centre_aux, ← EReal.coe_add]
  push_cast
  rfl

theorem pay38_eq (ti tj : Fin 16) : k0_pay38 (F := Ideal) (grid0.coords (pt ti tj)) = centre ti := by
  obtain ⟨h, -⟩ := pt_coords ti tj
  unfold k0_pay38 centre
  rw [h]
  show ((((BitVec.ofNat 32 ti.val * 16#32 : BitVec 32).toInt : ℝ) : EReal)) + Ideal.ofBits .f32 0x41000000#32 = _
  rw [eight]
  show ((((BitVec.ofNat 32 ti.val * 16#32 : BitVec 32).toInt : ℝ) : EReal)) + ((8 : ℝ) : EReal) = _
  rw [centre_aux, ← EReal.coe_add]
  push_cast
  rfl

theorem pay39_eq (x : FVec F S256x6 .f32) : k0_pay39 x = x := by
  unfold k0_pay39
  exact shapeCast_self ..

end Cert.KernelIdeal.Body
-- ==== Proof.Image.Weight.lean ====
module

public import proofs.«01_k».proof.Proof.Image.Reference
public import proofs.«01_k».proof.Proof.KernelIdealHost.Params
public import proofs.«01_k».proof.Proof.Body.Inputs
public import proofs.«01_k».proof.Proof.Body.Block

/-!
The kernel's quadratic form, which is expanded around the middle of the tile, gives the same weight as the reference's.
With a finite centre the two forms are one real polynomial. With an infinite centre they are both infinite, and the weight
is zero, unless the matrix does not see that coordinate, and then the coordinate counts for nothing.
-/

@[expose] public section

set_option maxRecDepth 16384

noncomputable section

namespace Cert.Weight

open Idealize.ShloMosaic Cert.Gauss Cert.KernelIdeal.Body Cert.KernelIdeal.HostLine Cert.ReferenceIdeal.Image

/-- An infinite number. -/
def Inf (x : EReal) : Prop := x = ⊤ ∨ x = ⊥

theorem Inf.add_left {x : EReal} (h : Inf x) (y : EReal) : Inf (x + y) := by
  rcases h with rfl | rfl
  · induction y with
    | bot => exact Or.inr (EReal.add_bot _)
    | top => exact Or.inl EReal.top_add_top
    | coe y => exact Or.inl (EReal.top_add_coe y)
  · exact Or.inr (EReal.bot_add y)

theorem Inf.add_right {x : EReal} (h : Inf x) (y : EReal) : Inf (y + x) := by
  rw [add_comm]
  exact h.add_left y

theorem Inf.neg {x : EReal} (h : Inf x) : Inf (-x) := by
  rcases h with rfl | rfl
  · exact Or.inr EReal.neg_top
  · exact Or.inl EReal.neg_bot

theorem Inf.sub_coe {x : EReal} (h : Inf x) (y : EReal) : Inf (x - y) := by
  rw [sub_eq_add_neg]
  exact h.add_left _

theorem Inf.coe_sub {x : EReal} (h : Inf x) (y : EReal) : Inf (y - x) := by
  rw [sub_eq_add_neg]
  exact h.neg.add_right _

theorem Inf.ne_zero {x : EReal} (h : Inf x) : x ≠ 0 := by
  rcases h with rfl | rfl
  · exact EReal.top_ne_zero
  · exact EReal.bot_ne_zero

theorem Inf.mul_left {x y : EReal} (h : Inf x) (hy : y ≠ 0) : Inf (x * y) := by
  rcases lt_or_gt_of_ne hy with hy | hy
  · rcases h with rfl | rfl
    · exact Or.inr (EReal.top_mul_of_neg hy)
    · exact Or.inl (EReal.bot_mul_of_neg hy)
  · rcases h with rfl | rfl
    · exact Or.inl (EReal.top_mul_of_pos hy)
    · exact Or.inr (EReal.bot_mul_of_pos hy)

theorem Inf.mul_right {x y : EReal} (h : Inf x) (hy : y ≠ 0) : Inf (y * x) := by
  rw [mul_comm]
  exact h.mul_left hy

theorem cases (x : EReal) : (∃ r : ℝ, x = r) ∨ Inf x := by
  induction x with
  | bot => exact Or.inr (Or.inr rfl)
  | top => exact Or.inr (Or.inl rfl)
  | coe r => exact Or.inl ⟨r, rfl⟩

theorem weight_inf {x : EReal} (h : Inf x) : weight x = 0 := by
  unfold weight
  rcases h with rfl | rfl
  · rw [if_pos le_top, EReal.neg_top]
    rfl
  · rw [if_neg (by decide)]

theorem wgt_eq (x : EReal) : wgt x = weight x := by
  unfold wgt weight
  rw [zero_sub]

/-- The kernel's form. -/
def kform (cx cy u v X Y A B C : EReal) : EReal :=
  u * u * (half * A) + u * (0 - (A * (X - cx) + B * (Y - cy))) + v * v * (half * C)
    + v * (0 - (C * (Y - cy) + B * (X - cx))) + u * v * B
    + 1 * (half * A * (X - cx) * (X - cx) + half * C * (Y - cy) * (Y - cy) + B * (X - cx) * (Y - cy))

theorem half_ne : half ≠ 0 := by
  unfold half
  rw [half_lit]
  exact fun h => by have := EReal.coe_injective (h.trans EReal.coe_zero.symm); norm_num at this

/-- An infinite coordinate that the matrix sees makes both forms infinite. -/
theorem kform_inf_x {X A : EReal} (hX : Inf X) (hA : A ≠ 0) (cx cy u v Y B C : EReal) : Inf (kform cx cy u v X Y A B C) := by
  unfold kform
  refine Inf.add_right ?_ _
  rw [one_mul]
  refine ((Inf.mul_right (hX.sub_coe cx) ?_).add_left _).add_left _
  exact (Inf.mul_right (hX.sub_coe cx) (mul_ne_zero half_ne hA)).ne_zero

theorem kform_inf_y {Y C : EReal} (hY : Inf Y) (hC : C ≠ 0) (cx cy u v X A B : EReal) : Inf (kform cx cy u v X Y A B C) := by
  unfold kform
  refine Inf.add_right ?_ _
  rw [one_mul]
  refine ((Inf.mul_right (hY.sub_coe cy) ?_).add_right _).add_left _
  exact (Inf.mul_right (hY.sub_coe cy) (mul_ne_zero half_ne hC)).ne_zero

theorem sigma_inf_x {dx A : EReal} (hX : Inf dx) (hA : A ≠ 0) (B C dy : EReal) : Inf (sigma A B C dx dy) := by
  unfold sigma
  refine (Inf.mul_right ((Inf.mul_right hX ?_).add_left _) half_ne).add_left _
  exact (Inf.mul_right hX hA).ne_zero

theorem sigma_inf_y {dy C : EReal} (hY : Inf dy) (hC : C ≠ 0) (A B dx : EReal) : Inf (sigma A B C dx dy) := by
  unfold sigma
  refine (Inf.mul_right ((Inf.mul_right hY ?_).add_right _) half_ne).add_left _
  exact (Inf.mul_right hY hC).ne_zero

/-- A coordinate that the matrix does not see counts for nothing. -/
theorem kform_blind_x (cx cy u v X X' Y C : EReal) : kform cx cy u v X Y 0 0 C = kform cx cy u v X' Y 0 0 C := by
  simp only [kform, zero_mul, mul_zero]

theorem kform_blind_y (cx cy u v X Y Y' A : EReal) : kform cx cy u v X Y A 0 0 = kform cx cy u v X Y' A 0 0 := by
  simp only [kform, zero_mul, mul_zero]

theorem sigma_blind_x (C dx dx' dy : EReal) : sigma 0 0 C dx dy = sigma 0 0 C dx' dy := by
  simp only [sigma, zero_mul, mul_zero]

theorem sigma_blind_y (A dx dy dy' : EReal) : sigma A 0 0 dx dy = sigma A 0 0 dx dy' := by
  simp only [sigma, zero_mul, mul_zero]

/-- With a finite centre the two forms are one. -/
theorem form_real (cx cy u v x y a b c : ℝ) :
    kform cx cy u v x y a b c = sigma a b c (((cx + u : ℝ) : EReal) - x) (((cy + v : ℝ) : EReal) - y) := by
  unfold kform sigma
  rw [show lit 1056964608#32 = half from rfl]
  unfold half
  rw [half_lit]
  norm_cast
  ring

/-- The weights agree. -/
theorem weights (cx cy u v : ℝ) (X Y : EReal) {a b c : ℝ} (ha : a = 0 → b = 0) (hc : c = 0 → b = 0) :
    weight (kform cx cy u v X Y a b c) = weight (sigma a b c (((cx + u : ℝ) : EReal) - X) (((cy + v : ℝ) : EReal) - Y)) := by
  have nz : ∀ z : ℝ, z ≠ 0 → (z : EReal) ≠ 0 := fun z hz h => hz (EReal.coe_injective (h.trans EReal.coe_zero.symm))
  by_cases h1 : Inf X ∧ a ≠ 0
  · rw [weight_inf (kform_inf_x h1.1 (nz a h1.2) ..), weight_inf (sigma_inf_x (h1.1.coe_sub _) (nz a h1.2) ..)]
  by_cases h2 : Inf Y ∧ c ≠ 0
  · rw [weight_inf (kform_inf_y h2.1 (nz c h2.2) ..), weight_inf (sigma_inf_y (h2.1.coe_sub _) (nz c h2.2) ..)]
  obtain ⟨x, hx, hx'⟩ : ∃ x : ℝ, (∀ Y, kform cx cy u v X Y a b c = kform cx cy u v x Y a b c)
      ∧ ∀ dy, sigma a b c (((cx + u : ℝ) : EReal) - X) dy = sigma a b c (((cx + u : ℝ) : EReal) - x) dy := by
    rcases cases X with ⟨x, rfl⟩ | hX
    · exact ⟨x, fun _ => rfl, fun _ => rfl⟩
    · have h0 : a = 0 := by_contra fun h => h1 ⟨hX, h⟩
      rw [ha h0, h0, EReal.coe_zero]
      exact ⟨0, fun _ => kform_blind_x .., fun _ => sigma_blind_x ..⟩
  obtain ⟨y, hy, hy'⟩ : ∃ y : ℝ, (∀ X, kform cx cy u v X Y a b c = kform cx cy u v X y a b c)
      ∧ ∀ dx, sigma a b c dx (((cy + v : ℝ) : EReal) - Y) = sigma a b c dx (((cy + v : ℝ) : EReal) - y) := by
    rcases cases Y with ⟨y, rfl⟩ | hY
    · exact ⟨y, fun _ => rfl, fun _ => rfl⟩
    · have h0 : c = 0 := by_contra fun h => h2 ⟨hY, h⟩
      rw [hc h0, h0, EReal.coe_zero]
      exact ⟨0, fun _ => kform_blind_y .., fun _ => sigma_blind_y ..⟩
  rw [hx, hy, hx', hy', form_real]

/-- At a pixel of a tile. -/
theorem weight_pixel {r s : Fin 256} {ti tj a b : Fin 16} (hr : r.val = ti.val * 16 + a.val) (hs : s.val = tj.val * 16 + b.val)
    (X Y : EReal) {p q w : ℝ} (hp : p = 0 → q = 0) (hw : w = 0 → q = 0) :
    weight (kform (centre tj) (centre ti) (place b) (place a) X Y p q w) = weight (sigma p q w (mid s - X) (mid r - Y)) := by
  have ms : mid s = ((((16 * tj.val + 8 : ℕ) : ℝ) + ((b.val : ℝ) - 7.5) : ℝ) : EReal) := by
    unfold mid
    rw [hs]
    congr 1
    push_cast
    ring
  have mr : mid r = ((((16 * ti.val + 8 : ℕ) : ℝ) + ((a.val : ℝ) - 7.5) : ℝ) : EReal) := by
    unfold mid
    rw [hr]
    congr 1
    push_cast
    ring
  rw [ms, mr]
  exact weights _ _ _ _ X Y hp hw

end Cert.Weight
-- ==== Proof.KernelIdealHost.Tables.lean ====
module

public import proofs.«01_k».proof.Proof.KernelIdealHost.Steps3
public import proofs.«01_k».proof.Proof.KernelIdealHost.Steps4
public import proofs.«01_k».proof.Proof.KernelIdealHost.Reads
public import proofs.«01_k».proof.Proof.Words.Count
public import Idealize.ShloMosaic.Lib.SortFacts
public import Idealize.ShloMosaic.Lib.Routing.Shapes
public import Idealize.ShloMosaic.Lib.Routing.Ops
public import Idealize.ShloMosaic.Lib.Pointwise.IndexBridge

/-!
The host's table of pairs. The keys are sorted; the group and the Gaussian of each place are read back from its key; the
Gaussian's parameters are fetched for each place; and the number of places with a group below `v` is counted, for each `v`.
-/

@[expose] public section

set_option maxRecDepth 16384

noncomputable section

namespace Cert.KernelIdeal.HostLine

open Idealize.ShloMosaic Idealize.ShloMosaic.TcCoe Idealize.SL.Sem
open Cert.KernelIdeal Cert.KernelIdeal.Gen Cert.Gauss

variable (m : (ℓ : Loc nD τ sig) → Buf (Elt Ideal) ℓ) (c : Dev nD)

/-- The tile that a coordinate falls into. -/
def tile (x : EReal) : Fin 16 := ⟨(bin x).toNat, Words.clamp_lt _⟩

theorem bin_eq (x : EReal) : bin x = BitVec.ofNat 32 (tile x).val := by
  unfold tile
  rw [BitVec.ofNat_toNat, BitVec.setWidth_eq]

/-- The band `d - 3` away is within reach. -/
def near (e : EReal) (d : ℕ) : Bool :=
  decide (FloatOps.sitofp (F := Ideal) FTy.f32
      (IntOp.muli (IntOp.subi (IntOp.absi (IntOp.addi (4294967293#32) (BitVec.ofNat 32 d))) 1#32) 16#32) < e)

/-- The Gaussian of pair `k`. -/
def src (k : Fin 28672) : Fin 4096 := ⟨k.val / 7, by omega⟩

/-- Which of the Gaussian's seven pairs pair `k` is. -/
def nth (k : Fin 28672) : Fin 7 := ⟨k.val % 7, by omega⟩

/-- The tile column of a Gaussian, -/
def tx (g : Fin 4096) : Fin 16 := tile (arg0 m c (ix2 g 0))
/-- its tile row, -/
def ty (g : Fin 4096) : Fin 16 := tile (arg0 m c (ix2 g 1))
/-- and its reach. -/
def far (g : Fin 4096) : EReal := reach (arg1 m c (ix2 g 0)) (arg1 m c (ix2 g 1)) (arg2 m c (ix2 g 0))

/-- The group of pair `k`. -/
def grp (k : Fin 28672) : ℕ :=
  Words.group (tx m c (src k)).val (ty m c (src k)).val (near (far m c (src k)) (nth k).val) (nth k).val

theorem grp_le (k : Fin 28672) : grp m c k ≤ 131072 := Words.group_le _ _ _ _

theorem v111_pair (g : Fin 4096) (d : Fin 7) : v111 m c (ix1 ⟨g.val * 7 + d.val, by omega⟩) = v110 m c (ix2 g d) := by
  simp only [v111_eq]
  pointwise

theorem v111_ap (k : Fin 28672) : v111 m c (ix1 k) = v110 m c (ix2 (src k) (nth k)) := by
  rw [← v111_pair]
  exact congrArg (fun x => v111 m c (ix1 x)) (Fin.ext (by show k.val = k.val / 7 * 7 + k.val % 7; omega))

theorem v111_toNat (k : Fin 28672) : (v111 m c (ix1 k)).toNat = grp m c k * 4096 + (src k).val := by
  rw [v111_ap, v110_ap, key, bin_eq, bin_eq]
  exact Words.pairKey_toNat (src k).isLt _ _ _ _

/-- The sorting permutation: the pair at each place. -/
def perm : Fin 28672 → Fin 28672 :=
  sortedFrom fun k k' => comparator_i32_d0 (v111 m c (Shape.Idx.ofFin k)) (v111 m c (Shape.Idx.ofFin k')) == 1#1

theorem perm_bijective : Function.Bijective (perm m c) := ⟨sortedFrom_injective _, sortedFrom_surjective _⟩

theorem v112_ap (n : Fin 28672) : v112 m c (ix1 n) = v111 m c (ix1 (perm m c n)) := by
  rw [v112_eq]
  refine (Host.sort_rank1 comparator_i32_d0 (v111 m c) (ix1 n)).trans ?_
  refine congrArg (v111 m c) ?_
  rw [Routing.ofFin_eq_ix1, ← ix1_eq_valueIdx]
  rfl

theorem v111_lt (k : Fin 28672) : (v111 m c (ix1 k)).toNat < 2 ^ 31 := by
  rw [v111_toNat]
  have := grp_le m c k
  have := (src k).isLt
  omega

theorem perm_sorted (a b : Fin 28672) (hab : a ≤ b) : grp m c (perm m c a) ≤ grp m c (perm m c b) := by
  rcases eq_or_lt_of_le hab with rfl | hlt
  · exact le_rfl
  · have hc : ∀ k k' : Fin 28672,
        (comparator_i32_d0 (v111 m c (Shape.Idx.ofFin k)) (v111 m c (Shape.Idx.ofFin k')) == 1#1)
          = decide ((v111 m c (ix1 k)).toNat < (v111 m c (ix1 k')).toNat) := by
      intro k k'
      rw [Routing.ofFin_eq_ix1, Routing.ofFin_eq_ix1, ← ix1_eq_valueIdx, ← ix1_eq_valueIdx,
        ← Words.slt_toNat (v111_lt m c k) (v111_lt m c k')]
      generalize v111 m c (ix1 k) = x
      generalize v111 m c (ix1 k') = y
      show (BitVec.ofBool (x.slt y) == 1#1) = x.slt y
      cases x.slt y <;> rfl
    have h := sortedFrom_noInversion
      (fun k k' : Fin 28672 => decide ((v111 m c (ix1 k)).toNat < (v111 m c (ix1 k')).toNat))
      (fun k k' => comparator_i32_d0 (v111 m c (Shape.Idx.ofFin k)) (v111 m c (Shape.Idx.ofFin k')) == 1#1)
      (fun k k' hk => by rw [hc, decide_eq_true_iff] at hk; rw [decide_eq_false_iff_not]; omega)
      (fun k k' hk => by rw [hc]; exact hk)
      (fun x y z h1 h2 => by rw [decide_eq_false_iff_not] at h1 h2 ⊢; omega) a b hlt
    rw [decide_eq_false_iff_not] at h
    have h' : ¬ (v111 m c (ix1 (perm m c b))).toNat < (v111 m c (ix1 (perm m c a))).toNat := h
    rw [v111_toNat, v111_toNat] at h'
    have := (src (perm m c a)).isLt
    have := (src (perm m c b)).isLt
    omega

/-- The group at a place. -/
theorem v116_ap (n : Fin 28672) : v116 m c (ix1 n) = BitVec.ofNat 32 (grp m c (perm m c n)) := by
  have e : v116 m c (ix1 n) = IntOp.shrsi ArithUnit.host (v112 m c (ix1 n)) 12#32 := by
    simp only [v116_eq, v115_eq, c_25_eq]
    pointwise
  have hs := (src (perm m c n)).isLt
  rw [e, v112_ap, Words.shrsi_toNat (v111_lt m c _), v111_toNat,
    show (grp m c (perm m c n) * 4096 + (src (perm m c n)).val) / 4096 = grp m c (perm m c n) by omega]

/-- The Gaussian at a place. -/
theorem v137_ap (n : Fin 28672) : v137 m c (ix2 n 0) = BitVec.ofNat 32 (src (perm m c n)).val := by
  have e : v137 m c (ix2 n 0) = Scalar.select (IntOp.cmpi CmpIPredicate.slt (IntOp.andi (v112 m c (ix1 n)) 4095#32) 0#32)
      (IntOp.addi (IntOp.andi (v112 m c (ix1 n)) 4095#32) 4096#32) (IntOp.andi (v112 m c (ix1 n)) 4095#32) := by
    simp only [v137_eq, v136_eq, v135_eq, v134_eq, v133_eq, v132_eq, v114_eq, v113_eq, c_24_eq, c_26_eq, c_27_eq]
    pointwise
  have hs := (src (perm m c n)).isLt
  rw [e, v112_ap, Words.andi_toNat, v111_toNat,
    show (grp m c (perm m c n) * 4096 + (src (perm m c n)).val) % 4096 = (src (perm m c n)).val by omega]
  have h : (BitVec.ofNat 32 (src (perm m c n)).val).slt 0#32 = false := by
    rw [Words.slt_toNat _ (by decide), decide_eq_false_iff_not]
    · exact Nat.not_lt_zero _
    · rw [BitVec.toNat_ofNat]
      omega
  show Scalar.select (BitVec.ofBool ((BitVec.ofNat 32 (src (perm m c n)).val).slt 0#32)) _ _ = _
  rw [h]
  rfl

/-- The parameters at a place are those of its Gaussian. -/
theorem v138_ap (n : Fin 28672) (j : Fin 8) : v138 m c (ix2 n j) = v131 m c (ix2 (src (perm m c n)) j) := by
  rw [v138_eq, ix2_eq_valueIdx, ix2_eq_valueIdx]
  exact Routing.gather_row gather_S4096x8_S28672x1_S28672x8_1_0_n_n_0_1_18 rfl rfl rfl rfl rfl (v131 m c) (v137 m c) n j _
    (by rw [← ix2_eq_valueIdx]; exact v137_ap m c n) (by decide)

/-- The blocks of pairs hold the parameters, place after place. -/
theorem v141_ap (n : Fin 28672) (j : Fin 8) :
    v141 m c (ix3 ⟨n.val / 128, by omega⟩ j ⟨n.val % 128, by omega⟩) = v131 m c (ix2 (src (perm m c n)) j) := by
  rw [← v138_ap]
  simp only [v141_eq, v140_eq, v139_eq, call4_v0_eq]
  pointwise
  have h : n.val / 128 * 128 + n.val % 128 = n.val := by omega
  rw [dif_pos (by omega)]
  congr 2
  exact Fin.ext h

/-- The number of places with a group below `v`. -/
theorem v149_ap (v : Fin 257) :
    v149 m c (ix1 v) = BitVec.ofNat 32 (Finset.univ.filter fun n : Fin 28672 => grp m c (perm m c n) < v.val).card := by
  have e : ∀ k : Fin 28672, v147 m c (ix2 v k) = IntOp.cmpi CmpIPredicate.slt (v116 m c (ix1 k)) (BitVec.ofNat 32 v.val) := by
    intro k
    simp only [v147_eq, v146_eq, v145_eq, v144_eq, v143_eq, v142_eq]
    pointwise
  rw [v149_eq, v148_eq, c_29_eq]
  refine (Words.reduce_marks (v147 m c) natLt_1_32 _ _ v).trans ?_
  refine congrArg (BitVec.ofNat 32) (congrArg Finset.card (Finset.filter_congr fun k _ => ?_))
  rw [e, v116_ap]
  have h1 := grp_le m c (perm m c k)
  have h2 := v.isLt
  have h : (BitVec.ofNat 32 (grp m c (perm m c k))).slt (BitVec.ofNat 32 v.val) = decide (grp m c (perm m c k) < v.val) := by
    rw [Words.slt_toNat, BitVec.toNat_ofNat, BitVec.toNat_ofNat, Nat.mod_eq_of_lt, Nat.mod_eq_of_lt]
    all_goals first | omega | (rw [BitVec.toNat_ofNat]; omega)
  show BitVec.ofBool ((BitVec.ofNat 32 (grp m c (perm m c k))).slt (BitVec.ofNat 32 v.val)) = 1#1 ↔ _
  rw [h]
  by_cases hp : grp m c (perm m c k) < v.val
  · rw [decide_eq_true hp]
    exact iff_of_true rfl hp
  · rw [decide_eq_false hp]
    exact iff_of_false (by decide) hp

/-- The number of places with a group below `v`, as a number. -/
def below (v : ℕ) : ℕ := (Finset.univ.filter fun n : Fin 28672 => grp m c (perm m c n) < v).card

theorem below_le (v : ℕ) : below m c v ≤ 28672 := by
  unfold below
  simpa using Finset.card_filter_le (Finset.univ : Finset (Fin 28672)) fun n => grp m c (perm m c n) < v

/-- Where the run of a tile begins: with the tiles of its row from three to the left. -/
theorem v169_ap (i j : Fin 16) : v169 m c (ix3 i j 0) = BitVec.ofNat 32 (i.val * 16 + (j.val - 3)) := by
  simp only [v169_eq, v168_eq, v167_eq, v166_eq, v165_eq, v164_eq, v163_eq, v162_eq, v161_eq, v160_eq, v159_eq, v158_eq,
    v157_eq, v153_eq, v152_eq, v151_eq, v150_eq, call5_v4_eq, call5_v3_eq, call5_v2_eq, call5_v1_eq, call5_v0_eq, c_30_eq,
    c_31_eq, c_32_eq, c_36_eq, c_37_eq, c_38_eq]
  pointwise
  revert i j
  decide +kernel

/-- And where it ends: after the tiles up to three to the right. -/
theorem v186_ap (i j : Fin 16) : v186 m c (ix3 i j 0) = BitVec.ofNat 32 (i.val * 16 + min (j.val + 3) 15 + 1) := by
  simp only [v186_eq, v185_eq, v184_eq, v183_eq, v182_eq, v181_eq, v180_eq, v179_eq, v178_eq, v177_eq, v176_eq, v175_eq,
    v174_eq, v173_eq, v172_eq, v156_eq, v155_eq, v154_eq, v150_eq, call6_v4_eq, call6_v3_eq, call6_v2_eq,
    call6_v1_eq, call6_v0_eq, c_33_eq, c_34_eq, c_35_eq, c_39_eq, c_40_eq, c_41_eq, c_42_eq]
  pointwise
  revert i j
  decide +kernel

end Cert.KernelIdeal.HostLine
-- ==== Proof.Image.Pairs.lean ====
module

public import proofs.«01_k».proof.Proof.Image.Reference
public import proofs.«01_k».proof.Proof.KernelIdealHost.Tables

/-!
Of the seven pairs of a Gaussian, at most one lies in the run of groups that a tile adds up: the one for the tile's own band.
It lies there exactly when the reference draws the Gaussian in the tile.
-/

@[expose] public section

noncomputable section

namespace Cert.Pairs

open Idealize.ShloMosaic Cert.KernelIdeal.HostLine Cert.ReferenceIdeal.Image
open scoped Classical

/-- A sum over the pairs is a sum over the Gaussians and the bands. -/
theorem sum_pairs (f : Fin 4096 → Fin 7 → EReal) : ∑ k : Fin 28672, f (src k) (nth k) = ∑ g, ∑ d, f g d := by
  rw [← Fintype.sum_prod_type' f]
  exact Fintype.sum_equiv (finProdFinEquiv (m := 4096) (n := 7)).symm _ _ fun _ => rfl

theorem band_word : ∀ (ti b : Fin 16) (d : Fin 7), b.val + d.val = ti.val + 3
    → IntOp.absi (IntOp.addi 4294967293#32 (BitVec.ofNat 32 d.val)) = gap ti.val b.val := by
  decide +kernel

/-- At the band of the tile, the kernel's test of reach is the reference's. -/
theorem near_iff (e : EReal) {ti b : Fin 16} {d : Fin 7} (h : b.val + d.val = ti.val + 3) :
    near e d.val = true ↔ within (gap ti.val b.val) e := by
  unfold near within
  rw [band_word ti b d h, decide_eq_true_iff]

/-- When a pair lies in the run of a tile. -/
theorem hit_iff (bx b ti tj : Fin 16) (e : EReal) (d : Fin 7) :
    (ti.val * 16 + (tj.val - 3) ≤ Words.group bx.val b.val (near e d.val) d.val
        ∧ Words.group bx.val b.val (near e d.val) d.val < ti.val * 16 + min (tj.val + 3) 15 + 1)
      ↔ b.val + d.val = ti.val + 3 ∧ drawn bx.val b.val e ti.val tj.val := by
  have key : (ti.val * 16 + (tj.val - 3) ≤ Words.group bx.val b.val (near e d.val) d.val
        ∧ Words.group bx.val b.val (near e d.val) d.val < ti.val * 16 + min (tj.val + 3) 15 + 1)
      ↔ b.val + d.val = ti.val + 3 ∧ (tj.val ≤ bx.val + 3 ∧ bx.val ≤ tj.val + 3) ∧ near e d.val = true := by
    unfold Words.group
    generalize near e d.val = n
    cases n <;> simp <;> (try split) <;> omega
  rw [key]
  constructor
  · rintro ⟨h, hx, hn⟩
    exact ⟨h, hx, by omega, (near_iff e h).1 hn⟩
  · rintro ⟨h, hx, _, hn⟩
    exact ⟨h, hx, (near_iff e h).2 hn⟩

/-- The pairs of one Gaussian, added up. -/
theorem sum_bands (bx b ti tj : Fin 16) (e w : EReal) :
    (∑ d : Fin 7, if ti.val * 16 + (tj.val - 3) ≤ Words.group bx.val b.val (near e d.val) d.val
        ∧ Words.group bx.val b.val (near e d.val) d.val < ti.val * 16 + min (tj.val + 3) 15 + 1 then w else 0)
      = if drawn bx.val b.val e ti.val tj.val then w else 0 := by
  simp only [hit_iff]
  by_cases h : drawn bx.val b.val e ti.val tj.val
  · have hb := h.2.1
    rw [if_pos h, Finset.sum_eq_single (⟨ti.val + 3 - b.val, by omega⟩ : Fin 7)]
    · exact if_pos ⟨by dsimp only; omega, h⟩
    · intro d _ hd
      refine if_neg fun hc => hd (Fin.ext ?_)
      have := hc.1
      dsimp only
      omega
    · exact fun hn => absurd (Finset.mem_univ _) hn
  · rw [if_neg h]
    exact Finset.sum_eq_zero fun d _ => if_neg fun hc => h hc.2

end Cert.Pairs
-- ==== Proof.Image.Regroup.lean ====
module

public import Idealize.ShloMosaic.Lib.SortFacts
public import Mathlib.Algebra.BigOperators.Ring.Finset
public import Mathlib.Data.Fintype.BigOperators

/-!
Sums over a run of a sorted table of keys. A key is `grp * 4096 + tag`. When the table is sorted, the entries whose group
lies in `[lo, hi)` are those at the places from the number of keys with group below `lo` to the number with group below
`hi`; so a sum over that run is a sum over all keys, of those whose group lies in `[lo, hi)`.
-/

@[expose] public section

noncomputable section

namespace Cert.Regroup

/-- A property that is closed downwards holds exactly at the first places, as many as there are places with it. -/
theorem lt_card_iff {N : ℕ} (Q : Fin N → Prop) [DecidablePred Q] (hQ : ∀ a b : Fin N, a ≤ b → Q b → Q a) (n : Fin N) :
    n.val < (Finset.univ.filter Q).card ↔ Q n := by
  constructor
  · intro h
    by_contra hn
    have hs : Finset.univ.filter Q ⊆ Finset.Iio n := fun k hk => by
      rw [Finset.mem_Iio]
      by_contra hk'
      exact hn (hQ n k (not_lt.1 hk') (Finset.mem_filter.1 hk).2)
    have := Finset.card_le_card hs
    rw [Fin.card_Iio] at this
    omega
  · intro h
    have hs : Finset.Iic n ⊆ Finset.univ.filter Q := fun k hk =>
      Finset.mem_filter.2 ⟨Finset.mem_univ _, hQ k n (Finset.mem_Iic.1 hk) h⟩
    have := Finset.card_le_card hs
    rw [Fin.card_Iic] at this
    omega

/-- The sum over a run of the sorted table. `grp` is the group at each place of the unsorted table, `π` the sorting
    permutation, `f` the summand at each key. -/
theorem sum_run {N : ℕ} {M : Type*} [AddCommMonoid M] (grp : Fin N → ℕ) (π : Fin N → Fin N)
    (hπ : Function.Bijective π) (hs : ∀ a b : Fin N, a ≤ b → grp (π a) ≤ grp (π b)) (lo hi : ℕ) (f : Fin N → M) (F : ℕ → M)
    (hF : ∀ n : Fin N, F n.val = f (π n)) :
    ∑ n ∈ Finset.Ico (Finset.univ.filter fun n : Fin N => grp (π n) < lo).card
        (Finset.univ.filter fun n : Fin N => grp (π n) < hi).card, F n
      = ∑ k : Fin N, if lo ≤ grp k ∧ grp k < hi then f k else 0 := by
  have hlo := lt_card_iff (fun n : Fin N => grp (π n) < lo) fun a b hab h => lt_of_le_of_lt (hs a b hab) h
  have hhi := lt_card_iff (fun n : Fin N => grp (π n) < hi) fun a b hab h => lt_of_le_of_lt (hs a b hab) h
  generalize (Finset.univ.filter fun n : Fin N => grp (π n) < lo).card = A at hlo ⊢
  have hB : (Finset.univ.filter fun n : Fin N => grp (π n) < hi).card ≤ N := by
    simpa using Finset.card_filter_le (Finset.univ : Finset (Fin N)) fun n => grp (π n) < hi
  generalize (Finset.univ.filter fun n : Fin N => grp (π n) < hi).card = B at hhi hB ⊢
  have e1 : ∑ n ∈ Finset.Ico A B, F n = ∑ n ∈ Finset.range N, if A ≤ n ∧ n < B then F n else 0 := by
    rw [← Finset.sum_filter]
    refine Finset.sum_congr (Finset.ext fun n => ?_) fun _ _ => rfl
    simp only [Finset.mem_Ico, Finset.mem_filter, Finset.mem_range]
    omega
  rw [e1, ← Fin.sum_univ_eq_sum_range (fun n => if A ≤ n ∧ n < B then F n else 0) N]
  refine Eq.trans ?_ (Function.Bijective.sum_comp hπ fun k => if lo ≤ grp k ∧ grp k < hi then f k else 0)
  refine Finset.sum_congr rfl fun n _ => ?_
  have h1 : A ≤ n.val ↔ lo ≤ grp (π n) := by
    rw [← not_lt, ← not_lt, hlo n]
  rw [hF n]
  exact if_congr (and_congr h1 (hhi n)) rfl rfl

end Cert.Regroup
-- ==== Proof.KernelIdealHost.Runs.lean ====
module

public import proofs.«01_k».proof.Proof.KernelIdealHost.Tables
public import proofs.«01_k».proof.Proof.KernelIdealHost.Hyps
public import proofs.«01_k».proof.Proof.Body.Inputs
public import proofs.«01_k».proof.Proof.Body.Fold
public import proofs.«01_k».proof.Proof.Image.Regroup
public import Idealize.ShloMosaic.Lib.ValueIdxCore

/-!
What the kernel writes at a pixel, as a sum over all pairs: the run of a tile is made of the pairs of the tile's row of
tiles whose tile is at most three columns away.
-/

@[expose] public section

set_option maxRecDepth 16384

noncomputable section

namespace Cert.KernelIdeal.HostLine

open Idealize.ShloMosaic Idealize.ShloMosaic.TcCoe Idealize.SL.Sem
open Cert.KernelIdeal Cert.KernelIdeal.Gen Cert.Gauss Cert.KernelIdeal.Body

variable (m : (ℓ : Loc nD τ sig) → Buf (Elt Ideal) ℓ) (c : Dev nD)

/-- A table of 257 words fetched at a table of places. -/
theorem fetch (x : IVec S257 32) (idx : IVec S16x16x1 32) (i j : Fin 16) {v : ℕ} (hv : v < 257)
    (h : idx (ix3 i j 0) = BitVec.ofNat 32 v) :
    Host.gather gather_S257_S16x16x1_S16x16_n_0_n_n_0_2_1 x idx (ix2 i j) = x (ix1 ⟨v, hv⟩) := by
  have e := ValueIdx.gather_take_apply (N := 257) (R := 16) (C := 16) (by decide)
    gather_S257_S16x16x1_S16x16_n_0_n_n_0_2_1_wf x idx (ix2 i j)
  refine Eq.trans e ?_
  have hi : ValueIdx.takeIdx (ix2 i j) = (ix3 i j 0 : S16x16x1.Idx) := by
    funext a
    match a with
    | ⟨0, _⟩ => rfl
    | ⟨1, _⟩ => rfl
    | ⟨2, _⟩ => rfl
  rw [← ix1_eq_valueIdx]
  refine congrArg (fun k => x (ix1 k)) (Fin.ext ?_)
  show min (idx (ValueIdx.takeIdx (ix2 i j))).toInt.toNat (257 - 1) = v
  rw [hi, h, BitVec.toInt_eq_toNat_of_lt, BitVec.toNat_ofNat]
  · omega
  · rw [BitVec.toNat_ofNat]
    omega

theorem v149_toNat {v : ℕ} (hv : v < 257) : (v149 m c (ix1 ⟨v, hv⟩)).toNat = below m c v := by
  rw [v149_ap, BitVec.toNat_ofNat]
  exact Nat.mod_eq_of_lt (lt_of_le_of_lt (below_le m c v) (by decide))

/-- The start of a tile's run, -/
theorem v171_toNat (i j : Fin 16) :
    (v171 m c (ix1 ⟨i.val * 16 + j.val, by omega⟩)).toNat = below m c (i.val * 16 + (j.val - 3)) := by
  have e : v171 m c (ix1 ⟨i.val * 16 + j.val, by omega⟩) = v170 m c (ix2 i j) := by
    simp only [v171_eq]
    pointwise
  rw [e, v170_eq, ← v149_toNat m c (by omega)]
  exact congrArg BitVec.toNat (fetch _ _ i j (by omega) (v169_ap m c i j))

/-- and its end. -/
theorem v188_toNat (i j : Fin 16) :
    (v188 m c (ix1 ⟨i.val * 16 + j.val, by omega⟩)).toNat = below m c (i.val * 16 + min (j.val + 3) 15 + 1) := by
  have e : v188 m c (ix1 ⟨i.val * 16 + j.val, by omega⟩) = v187 m c (ix2 i j) := by
    simp only [v188_eq]
    pointwise
  rw [e, v187_eq, ← v149_toNat m c (by omega)]
  exact congrArg BitVec.toNat (fetch _ _ i j (by omega) (v186_ap m c i j))

/-- What a Gaussian adds at channel `ch` of pixel `(a, b)` of tile `(ti, tj)`. -/
def part (ch : Fin 3) (ti tj a b : Fin 16) (g : Fin 4096) : EReal :=
  v131 m c (ix2 g ⟨5 + ch.val, by omega⟩)
    * wgt (form (centre tj) (centre ti) (fun k => v210 m c (ix2 ⟨a.val * 16 + b.val, by omega⟩ k)) (fun j => v131 m c (ix2 g j)))

theorem column_ap (n : Fin 28672) (j : Fin 8) : column (v141 m c) n.val j = v131 m c (ix2 (src (perm m c n)) j) := by
  unfold column
  rw [dif_pos (by omega)]
  exact v141_ap m c n j

/-- The two tables and the two inputs, for one tile. -/
theorem out_tile (ch : Fin 3) (ti tj a b : Fin 16) :
    outsAt0 m (ok m) (hyps m (ok m)) c (pt ti tj) (ix5 0 0 ch a b)
      = min 1 (max 0 (∑ k : Fin 28672, if ti.val * 16 + (tj.val - 3) ≤ grp m c k ∧ grp m c k < ti.val * 16 + min (tj.val + 3) 15 + 1
          then part m c ch ti tj a b (src k) else 0)) := by
  obtain rfl : c = 0 := Subsingleton.elim _ _
  have h1 : (iblk m (ok m) 0 0 (pt ti tj) : FVec Ideal S256x6 .f32) = v210 m 0 :=
    (iblk_monomials m (ok m) 0 (pt ti tj)).trans (V_eq m 0 main_v210)
  have h2 : (iblk m (ok m) 0 1 (pt ti tj) : FVec Ideal S226x8x128 .f32) = v141 m 0 :=
    (iblk_pairs m (ok m) 0 (pt ti tj)).trans (V_eq m 0 main_v141)
  have hs : (word0 (F := Ideal) 0 (grid0.coords (pt ti tj)) (tbl m 0)).toNat = below m 0 (ti.val * 16 + (tj.val - 3)) := by
    rw [tbl0_eq]
    exact (congrArg BitVec.toNat (word0_eq 0 (held m 0 main_v171) ti tj)).trans (v171_toNat m 0 ti tj)
  have he : (word1 (F := Ideal) 0 (grid0.coords (pt ti tj)) (tbl m 1)).toNat = below m 0 (ti.val * 16 + min (tj.val + 3) 15 + 1) := by
    rw [tbl1_eq]
    exact (congrArg BitVec.toNat (word1_eq 0 (held m 0 main_v188) ti tj)).trans (v188_toNat m 0 ti tj)
  unfold outsAt0
  refine (out_ap _ _ _ _ _ _ _ _ _ _ _ _ _ (hs.trans_le (below_le m 0 _)) (he.trans_le (below_le m 0 _)) ch a b).trans ?_
  rw [hs, he]
  refine congrArg (fun z => min 1 (max 0 z)) ?_
  refine Regroup.sum_run (grp m 0) (perm m 0) (perm_bijective m 0) (perm_sorted m 0) _ _
    (fun k => part m 0 ch ti tj a b (src k)) _ fun n => ?_
  have h3 : column (iblk m (ok m) 0 1 (pt ti tj) : FVec Ideal S226x8x128 .f32) n.val = fun j => v131 m 0 (ix2 (src (perm m 0 n)) j) := by
    rw [h2]
    exact funext fun j => column_ap m 0 n j
  unfold term part
  rw [h3, pay37_eq, pay38_eq]
  exact congrArg (fun q : FVec Ideal S256x6 .f32 => v131 m 0 (ix2 (src (perm m 0 n)) ⟨5 + ch.val, by omega⟩)
    * wgt (form (centre tj) (centre ti) (fun k => q (ix2 ⟨a.val * 16 + b.val, by omega⟩ k))
      (fun j => v131 m 0 (ix2 (src (perm m 0 n)) j)))) ((pay39_eq (F := Ideal) _).trans h1)

end Cert.KernelIdeal.HostLine
-- ==== Proof.Image.Equal.lean ====
module

public import proofs.«01_k».proof.Proof.Image.Conic
public import proofs.«01_k».proof.Proof.Image.Weight
public import proofs.«01_k».proof.Proof.Image.Pairs
public import proofs.«01_k».proof.Proof.KernelIdealHost.Runs
public import proofs.«01_k».proof.Proof.Body.Region

/-!
Where the scales are real, the kernel's image is the reference's.
-/

@[expose] public section

set_option maxRecDepth 16384

noncomputable section

namespace Cert.Equal

open Idealize.ShloMosaic Cert.Gauss Cert.KernelIdeal Cert.KernelIdeal.Body Cert.KernelIdeal.HostLine
open Cert.KernelIdeal.Gen Cert.ReferenceIdeal.Image Cert.ReferenceIdeal.Read
open scoped Classical

variable (m : (ℓ : Loc nD τ sig) → Buf (Elt Ideal) ℓ) (c : Dev nD)

/-- Every scale is real. -/
def Real : Prop := ∀ (g : Fin 4096) (k : Fin 2), ∃ r : ℝ, (arg1 m c (ix2 g k) : EReal) = r

variable {m c}

/-- The weight of a Gaussian at a pixel of a tile. -/
theorem weight_eq (h : Real m c) (g : Fin 4096) {r s : Fin 256} {ti tj a b : Fin 16} (hr : r.val = ti.val * 16 + a.val)
    (hs : s.val = tj.val * 16 + b.val) :
    wgt (form (centre tj) (centre ti) (fun k => v210 m c (ix2 ⟨a.val * 16 + b.val, by omega⟩ k)) (fun j => v131 m c (ix2 g j)))
      = weight (val_main_v95 (F := Ideal) (arg0 m c) (arg1 m c) (arg2 m c) (ix3 r s g)) := by
  obtain ⟨x, hx⟩ := h g 0
  obtain ⟨y, hy⟩ := h g 1
  obtain ⟨p, q, w, hp, hq, hw, h1, h2⟩ := conic_real hx hy (arg2 m c (ix2 g 0))
  have e : form (centre tj) (centre ti) (fun k => v210 m c (ix2 ⟨a.val * 16 + b.val, by omega⟩ k)) (fun j => v131 m c (ix2 g j))
      = Weight.kform (centre tj) (centre ti) (place b) (place a) (pos (arg0 m c (ix2 g 0))) (pos (arg0 m c (ix2 g 1))) p q w := by
    unfold form
    simp only [v210_ap, v131_x, v131_y, v131_a, v131_b, v131_c]
    rw [hp, hq, hw]
    rfl
  rw [Weight.wgt_eq, e, v95_ap, hp, hq, hw]
  exact Weight.weight_pixel hr hs _ _ h1 h2

/-- What a Gaussian adds to a pixel of a tile where it is drawn. -/
theorem part_eq (h : Real m c) (ch : Fin 3) (g : Fin 4096) {r s : Fin 256} {ti tj a b : Fin 16}
    (hr : r.val = ti.val * 16 + a.val) (hs : s.val = tj.val * 16 + b.val) :
    part m c ch ti tj a b g
      = weight (val_main_v95 (F := Ideal) (arg0 m c) (arg1 m c) (arg2 m c) (ix3 r s g)) * arg4 m c (ix2 g 0) * arg3 m c (ix2 g ch) := by
  unfold part
  rw [weight_eq h g hr hs, v131_feature]
  rw [mul_comm, mul_assoc, mul_comm (arg3 m c (ix2 g ch) : EReal)]

theorem ite_factor (d : Prop) (w y z : EReal) :
    (if d then w * y * z else 0) = (if d then w else 0) * y * z := by
  split <;> simp only [zero_mul]

/-- A pixel of a tile. -/
theorem tile_eq (h : Real m c) (ch : Fin 3) {r s : Fin 256} {ti tj a b : Fin 16} (hr : r.val = ti.val * 16 + a.val)
    (hs : s.val = tj.val * 16 + b.val) :
    outsAt0 m (ok m) (hyps m (ok m)) c (pt ti tj) (ix5 0 0 ch a b)
      = val_main_v153 (F := Ideal) (arg0 m c) (arg1 m c) (arg2 m c) (arg3 m c) (arg4 m c) (ix4 0 ch r s) := by
  have hi : r.val / 16 = ti.val := by omega
  have hj : s.val / 16 = tj.val := by omega
  refine (out_tile m c ch ti tj a b).trans (Eq.trans ?_ (v153_ap _ _ _ _ _ ch r s).symm)
  refine congrArg (fun z : EReal => min 1 (max 0 z)) ?_
  refine (Pairs.sum_pairs fun g d => if ti.val * 16 + (tj.val - 3)
        ≤ Words.group (tx m c g).val (ty m c g).val (near (far m c g) d.val) d.val
      ∧ Words.group (tx m c g).val (ty m c g).val (near (far m c g) d.val) d.val < ti.val * 16 + min (tj.val + 3) 15 + 1
    then part m c ch ti tj a b g else 0).trans ?_
  refine Finset.sum_congr rfl fun g _ => ?_
  refine (Pairs.sum_bands (tx m c g) (ty m c g) ti tj (far m c g) (part m c ch ti tj a b g)).trans ?_
  rw [v149_ap (arg0 m c) (arg1 m c) (arg2 m c) (arg4 m c) g r s (bin_eq _) (bin_eq _), hi, hj, part_eq h ch g hr hs]
  exact ite_factor ..

/-- The image at a pixel. -/
theorem pixel_eq (h : Real m c) (ch : Fin 3) (r s : Fin 256) :
    image m (ok m) (hyps m (ok m)) c (ix4 0 ch r s)
      = val_main_v153 (F := Ideal) (arg0 m c) (arg1 m c) (arg2 m c) (arg3 m c) (arg4 m c) (ix4 0 ch r s) := by
  refine (image_ap m (ok m) (hyps m (ok m)) c ch r s).trans ?_
  exact tile_eq h ch (by dsimp only; omega) (by dsimp only; omega)

theorem first_coord (i : S1x3x256x256.Idx) : i = ix4 0 (i 1) (i 2) (i 3) := by
  funext a
  fin_cases a
  · exact Fin.ext (Nat.lt_one_iff.mp (i 0).isLt)
  all_goals rfl

/-- The image. -/
theorem image_eq (h : Real m c) :
    image m (ok m) (hyps m (ok m)) c
      = val_main_v153 (F := Ideal) (arg0 m c) (arg1 m c) (arg2 m c) (arg3 m c) (arg4 m c) := by
  funext i
  rw [first_coord i]
  exact pixel_eq h (i 1) (i 2) (i 3)

end Cert.Equal
-- ==== Proof.Image.Finite.lean ====
module

public import proofs.«01_k».proof.Defs
public import proofs.«01_k».proof.Proof.Gen.Pre_finite
public import proofs.«01_k».proof.Proof.KernelIdealHost.Line
public import Idealize.ShloMosaic.Lib.ReduceAll
public import Idealize.ShloMosaic.Lib.Pointwise
public import Idealize.ShloMosaic.Lib.IdealHost

/-!
The precondition read back: every scale is a real number.
-/

@[expose] public section

noncomputable section

namespace Cert.Finite

open Idealize.ShloMosaic

/-- A number whose absolute value lies below infinity is real. -/
theorem real_of_lt {x : EReal} (h : max x (-x) < ⊤) : ∃ r : ℝ, x = r := by
  induction x with
  | bot => exact absurd (max_lt_iff.1 h).2 (by rw [EReal.neg_bot]; exact lt_irrefl _)
  | top => exact absurd (max_lt_iff.1 h).1 (lt_irrefl _)
  | coe r => exact ⟨r, rfl⟩

/-- Where the precondition holds, every scale is real. -/
theorem scale_real (x0 x1 : FVec Ideal Cert.Pre_finite.S4096x2 .f32) (x2 : FVec Ideal Cert.Pre_finite.S4096x1 .f32)
    (x3 : FVec Ideal Cert.Pre_finite.S4096x3 .f32) (x4 : FVec Ideal Cert.Pre_finite.S4096x1 .f32)
    (h : Cert.Pre_finite.fn x0 x1 x2 x3 x4 = fun _ => 1#1) (i : Cert.Pre_finite.S4096x2.Idx) :
    ∃ r : ℝ, (x1 i : EReal) = r := by
  have : Subsingleton Cert.Pre_finite.S_.Idx := ⟨fun a b => funext fun d => d.elim0⟩
  have h1 := Host.reduce_andi_all _ _ _ _ ix0 (congrFun h ix0) i
  have ht : Ideal.ofBits .f32 0x7F800000#32 = ⊤ := by simp [Ideal.ofBits, Ideal.ieee]
  have h2 : Ideal.cmp .olt (max (x1 i : EReal) (-(x1 i : EReal))) (Ideal.ofBits .f32 0x7F800000#32) = 1#1 := h1
  rw [ht] at h2
  refine real_of_lt ?_
  by_contra hn
  have h3 : BitVec.ofBool (decide (max (x1 i : EReal) (-(x1 i : EReal)) < ⊤)) = 1#1 := h2
  rw [decide_eq_false hn] at h3
  exact absurd h3 (by decide)

end Cert.Finite
-- ==== Proof.KernelIdealHost.Args.lean ====
module

public import proofs.«01_k».proof.Proof.KernelIdealHost.Vals

/-!
The host writes no argument, so each argument is the memory's when the kernel is launched.
-/

@[expose] public section

set_option maxRecDepth 16384

noncomputable section

namespace Cert.KernelIdeal.HostLine

open Idealize.ShloMosaic Cert.KernelIdeal Cert.KernelIdeal.Gen Cert.HostLine

variable {F : FTy → Type} [FloatOps F]
variable (m : (ℓ : Loc nD τ sig) → Buf (Elt F) ℓ) (c : Dev nD)

/-- A buffer that the host does not write holds the memory's contents. -/
theorem held_unwritten (r : Ref sig .tc) (h : r ∉ written) : held m c r = m ((c.tc : Thread nD τ).loc r) :=
  (held_eq m c r).trans (upto_eq (V := fun b => m (c, b)) line_writes 0 h).symm

theorem arg0_mem : arg0 m c = m ((c.tc : Thread nD τ).loc main_arg0) := held_unwritten m c main_arg0 (by decide)

theorem arg1_mem : arg1 m c = m ((c.tc : Thread nD τ).loc main_arg1) := held_unwritten m c main_arg1 (by decide)

theorem arg2_mem : arg2 m c = m ((c.tc : Thread nD τ).loc main_arg2) := held_unwritten m c main_arg2 (by decide)

theorem arg3_mem : arg3 m c = m ((c.tc : Thread nD τ).loc main_arg3) := held_unwritten m c main_arg3 (by decide)

theorem arg4_mem : arg4 m c = m ((c.tc : Thread nD τ).loc main_arg4) := held_unwritten m c main_arg4 (by decide)

end Cert.KernelIdeal.HostLine
-- ==== Proof.Value.lean ====
module

public import proofs.«01_k».proof.Proof.Image.Equal
public import proofs.«01_k».proof.Proof.Image.Finite
public import proofs.«01_k».proof.Proof.KernelIdealHost.Args
public import proofs.«01_k».proof.Proof.Gen.KernelIdeal.Frame
public import proofs.«01_k».proof.Proof.Gen.ReferenceIdeal.Run
public import proofs.«01_k».proof.Proof.Gen.ReferenceIdeal.Read

/-!
The value claim: where every scale is finite, the kernel and the reference leave the same image.
-/

@[expose] public section

set_option maxRecDepth 16384

noncomputable section

namespace Cert.Value

open Idealize.ShloMosaic Idealize.SL.Sem Cert.KernelIdeal.HostLine

/-- The kernel's image, over the memory. -/
theorem image_mem (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.KernelIdeal.Body.image m (ok m) (hyps m (ok m)) c
      = Cert.ReferenceIdeal.Read.val_main_v153 (F := Ideal) (m ((c.tc : Thread _ _).loc Cert.KernelIdeal.main_arg0))
          (m ((c.tc : Thread _ _).loc Cert.KernelIdeal.main_arg1)) (m ((c.tc : Thread _ _).loc Cert.KernelIdeal.main_arg2))
          (m ((c.tc : Thread _ _).loc Cert.KernelIdeal.main_arg3)) (m ((c.tc : Thread _ _).loc Cert.KernelIdeal.main_arg4)) := by
  have hr : Cert.Equal.Real m c := fun g k => by
    rw [arg1_mem]
    exact Cert.Finite.scale_real _ _ _ _ _ (h c) (ix2 g k)
  rw [Cert.Equal.image_eq hr, arg0_mem, arg1_mem, arg2_mem, arg3_mem, arg4_mem]

/-- The reference's run, its result read as a stage of its own arguments. -/
theorem reference_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ fun r => ∀ c : Dev Cert.ReferenceIdeal.nD,
        r.2.mem ((c.tc : Thread Cert.ReferenceIdeal.nD Cert.ReferenceIdeal.τ).loc Cert.ReferenceIdeal.main_v153)
          = Cert.ReferenceIdeal.Read.val_main_v153 (F := Ideal)
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4)) :=
  (θ_run Cert.ReferenceIdeal.defs _ _).mono
    (fun _ h c => (h c).1.trans (Cert.ReferenceIdeal.Read.val_main_v153_eq (StableHlo.launchContents m' c)))
    (Cert.ReferenceIdeal.Value.run (F := Ideal) m' g')

theorem algebraic : Cert.algebraic_KernelIdeal_ReferenceIdeal_pre_finite := by
  intro m g m' g' hpre hargs
  refine ⟨fun c => Cert.KernelIdeal.Body.image m (ok m) (hyps m (ok m)) c, ?_, ?_⟩
  · exact (θ_run Cert.KernelIdeal.defs _ _).mono (fun _ h c => ⟨h.1 c, h.2 c⟩)
      (θ_run_and (Cert.KernelIdeal.Body.run m (ok m) (hyps m (ok m)) g)
        (Cert.KernelIdeal.Gen.unchanged m g (ok m) (hyps m (ok m))))
  · refine (θ_run Cert.ReferenceIdeal.defs _ _).mono (fun _ h c => ⟨(h.1 c).trans ?_, (h.2 c).2⟩)
      (θ_run_and (reference_run m' g') (Cert.ReferenceIdeal.Value.run (F := Ideal) m' g'))
    obtain ⟨e0, e1, e2, e3, e4⟩ := hargs c
    rw [e0, e1, e2, e3, e4]
    exact (image_mem m hpre c).symm

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.KernelHost.Hyps
public import proofs.«01_k».proof.Proof.KernelIdealHost.Hyps
public import proofs.«01_k».proof.Proof.Value
public import Idealize.ShloMosaic.Adequacy
public import Idealize.ShloMosaic.Init

/-!
The claims. The frames of the kernel need the side condition that every block it loads lies inside its table, which the
modules `KernelHost.Hyps` and `KernelIdealHost.Hyps` prove of the tables of words that the host writes; the frame of the
reference is the one of a program of host operations.
-/

@[expose] public section

noncomputable section

namespace Cert.Proof

open Idealize.ShloMosaic Idealize.SL.Sem

theorem frame_p : Cert.quiescent_Kernel := fun m g _ =>
  Cert.Kernel.Gen.frame m g (Cert.Kernel.HostLine.ok m) (Cert.Kernel.HostLine.hyps m (Cert.Kernel.HostLine.ok m))

theorem frame_pi : Cert.quiescent_KernelIdeal := fun m g _ =>
  Cert.KernelIdeal.Gen.frame m g (Cert.KernelIdeal.HostLine.ok m) (Cert.KernelIdeal.HostLine.hyps m (Cert.KernelIdeal.HostLine.ok m))

theorem frame_ri : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Pre_finite.Gen.facts,
    frame_p, frame_pi, fun m g _ => frame_pi m g trivial, frame_ri, fun m g _ => frame_ri m g trivial, trivial, Cert.Value.algebraic⟩

end Cert.Proof

end
